-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_scores [hPre_finite_scores : Cert.Pre_finite_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_scores [hPre_finite_scores : Cert.Pre_finite_scores.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_scores.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionRefIdeal (m : (ℓ : Loc Cert.ProjectionRefIdeal.nD Cert.ProjectionRefIdeal.τ Cert.ProjectionRefIdeal.sig) → Buf (Elt Ideal) ℓ) : Prop :=
  True

def Pre_Experts [hPre_expert_tables : Cert.Pre_expert_tables.Facts] (m : (ℓ : Loc Cert.Experts.nD Cert.Experts.τ Cert.Experts.sig) → Buf (Elt Bits) ℓ) : Prop :=
  ∀ c : Dev Cert.Experts.nD,
    (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_expert_tables : Cert.Pre_expert_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_tables [hPre_expert_tables : Cert.Pre_expert_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Mixing (m : (ℓ : Loc Cert.Mixing.nD Cert.Mixing.τ Cert.Mixing.sig) → Buf (Elt Bits) ℓ) : Prop :=
  True

def Pre_MixingIdeal (m : (ℓ : Loc Cert.MixingIdeal.nD Cert.MixingIdeal.τ Cert.MixingIdeal.sig) → Buf (Elt Ideal) ℓ) : Prop :=
  True

def Pre_MixingIdeal_finite_recurrence [hPre_finite_recurrence : Cert.Pre_finite_recurrence.Facts] (m : (ℓ : Loc Cert.MixingIdeal.nD Cert.MixingIdeal.τ Cert.MixingIdeal.sig) → Buf (Elt Ideal) ℓ) : Prop :=
  ∀ c : Dev Cert.MixingIdeal.nD,
    (Cert.Pre_finite_recurrence.fn (F := Ideal) (m ((c.tc : Thread Cert.MixingIdeal.nD Cert.MixingIdeal.τ).loc Cert.MixingIdeal.main_arg0)) (m ((c.tc : Thread Cert.MixingIdeal.nD Cert.MixingIdeal.τ).loc Cert.MixingIdeal.main_arg1)) (m ((c.tc : Thread Cert.MixingIdeal.nD Cert.MixingIdeal.τ).loc Cert.MixingIdeal.main_arg2)) (m ((c.tc : Thread Cert.MixingIdeal.nD Cert.MixingIdeal.τ).loc Cert.MixingIdeal.main_arg3)) (m ((c.tc : Thread Cert.MixingIdeal.nD Cert.MixingIdeal.τ).loc Cert.MixingIdeal.main_arg4)) (m ((c.tc : Thread Cert.MixingIdeal.nD Cert.MixingIdeal.τ).loc Cert.MixingIdeal.main_arg5)) (m ((c.tc : Thread Cert.MixingIdeal.nD Cert.MixingIdeal.τ).loc Cert.MixingIdeal.main_arg6)) (m ((c.tc : Thread Cert.MixingIdeal.nD Cert.MixingIdeal.τ).loc Cert.MixingIdeal.main_arg7)) (m ((c.tc : Thread Cert.MixingIdeal.nD Cert.MixingIdeal.τ).loc Cert.MixingIdeal.main_arg8)) (m ((c.tc : Thread Cert.MixingIdeal.nD Cert.MixingIdeal.τ).loc Cert.MixingIdeal.main_arg9)) (m ((c.tc : Thread Cert.MixingIdeal.nD Cert.MixingIdeal.τ).loc Cert.MixingIdeal.main_arg10)) (m ((c.tc : Thread Cert.MixingIdeal.nD Cert.MixingIdeal.τ).loc Cert.MixingIdeal.main_arg11)) (m ((c.tc : Thread Cert.MixingIdeal.nD Cert.MixingIdeal.τ).loc Cert.MixingIdeal.main_arg12))) = (fun _ => 1#1)

def Pre_MixingRefIdeal (m : (ℓ : Loc Cert.MixingRefIdeal.nD Cert.MixingRefIdeal.τ Cert.MixingRefIdeal.sig) → Buf (Elt Ideal) ℓ) : Prop :=
  True

def Pre_MixingRefIdeal_finite_recurrence [hPre_finite_recurrence : Cert.Pre_finite_recurrence.Facts] (m : (ℓ : Loc Cert.MixingRefIdeal.nD Cert.MixingRefIdeal.τ Cert.MixingRefIdeal.sig) → Buf (Elt Ideal) ℓ) : Prop :=
  ∀ c : Dev Cert.MixingRefIdeal.nD,
    (Cert.Pre_finite_recurrence.fn (F := Ideal) (m ((c.tc : Thread Cert.MixingRefIdeal.nD Cert.MixingRefIdeal.τ).loc Cert.MixingRefIdeal.main_arg0)) (m ((c.tc : Thread Cert.MixingRefIdeal.nD Cert.MixingRefIdeal.τ).loc Cert.MixingRefIdeal.main_arg1)) (m ((c.tc : Thread Cert.MixingRefIdeal.nD Cert.MixingRefIdeal.τ).loc Cert.MixingRefIdeal.main_arg2)) (m ((c.tc : Thread Cert.MixingRefIdeal.nD Cert.MixingRefIdeal.τ).loc Cert.MixingRefIdeal.main_arg3)) (m ((c.tc : Thread Cert.MixingRefIdeal.nD Cert.MixingRefIdeal.τ).loc Cert.MixingRefIdeal.main_arg4)) (m ((c.tc : Thread Cert.MixingRefIdeal.nD Cert.MixingRefIdeal.τ).loc Cert.MixingRefIdeal.main_arg5)) (m ((c.tc : Thread Cert.MixingRefIdeal.nD Cert.MixingRefIdeal.τ).loc Cert.MixingRefIdeal.main_arg6)) (m ((c.tc : Thread Cert.MixingRefIdeal.nD Cert.MixingRefIdeal.τ).loc Cert.MixingRefIdeal.main_arg7)) (m ((c.tc : Thread Cert.MixingRefIdeal.nD Cert.MixingRefIdeal.τ).loc Cert.MixingRefIdeal.main_arg8)) (m ((c.tc : Thread Cert.MixingRefIdeal.nD Cert.MixingRefIdeal.τ).loc Cert.MixingRefIdeal.main_arg9)) (m ((c.tc : Thread Cert.MixingRefIdeal.nD Cert.MixingRefIdeal.τ).loc Cert.MixingRefIdeal.main_arg10)) (m ((c.tc : Thread Cert.MixingRefIdeal.nD Cert.MixingRefIdeal.τ).loc Cert.MixingRefIdeal.main_arg11)) (m ((c.tc : Thread Cert.MixingRefIdeal.nD Cert.MixingRefIdeal.τ).loc Cert.MixingRefIdeal.main_arg12))) = (fun _ => 1#1)

def Pre_Preparation (m : (ℓ : Loc Cert.Preparation.nD Cert.Preparation.τ Cert.Preparation.sig) → Buf (Elt Bits) ℓ) : Prop :=
  True

def Pre_PreparationIdeal (m : (ℓ : Loc Cert.PreparationIdeal.nD Cert.PreparationIdeal.τ Cert.PreparationIdeal.sig) → Buf (Elt Ideal) ℓ) : Prop :=
  True

def Pre_PreparationRefIdeal (m : (ℓ : Loc Cert.PreparationRefIdeal.nD Cert.PreparationRefIdeal.τ Cert.PreparationRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionIdeal_pre_finite_scores [hAttentionIdeal : Cert.AttentionIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1))
      ∧ r.2.sem = fun _ => 0)

def quiescent_AttentionRefIdeal_pre_finite_scores [hAttentionRefIdeal : Cert.AttentionRefIdeal.Facts] [hPre_finite_scores : Cert.Pre_finite_scores.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_scores m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionRefIdeal [hProjectionRefIdeal : Cert.ProjectionRefIdeal.Facts] : Prop :=
  ∀ (m : (ℓ : Loc Cert.ProjectionRefIdeal.nD Cert.ProjectionRefIdeal.τ Cert.ProjectionRefIdeal.sig) → Buf (Elt Ideal) ℓ) (g : Dev Cert.ProjectionRefIdeal.nD → PrngReg), Pre_ProjectionRefIdeal m →
    θ_run (Cert.ProjectionRefIdeal.defs (F := Ideal)) (onTc (τ := Cert.ProjectionRefIdeal.τ) (Cert.ProjectionRefIdeal.main (F := Ideal))) ⟨m, fun _ => 0, g⟩ (fun r => (∀ c : Dev Cert.ProjectionRefIdeal.nD,
      r.2.mem ((c.tc : Thread Cert.ProjectionRefIdeal.nD Cert.ProjectionRefIdeal.τ).loc Cert.ProjectionRefIdeal.main_arg0) = m ((c.tc : Thread Cert.ProjectionRefIdeal.nD Cert.ProjectionRefIdeal.τ).loc Cert.ProjectionRefIdeal.main_arg0)
      ∧ r.2.mem ((c.tc : Thread Cert.ProjectionRefIdeal.nD Cert.ProjectionRefIdeal.τ).loc Cert.ProjectionRefIdeal.main_arg1) = m ((c.tc : Thread Cert.ProjectionRefIdeal.nD Cert.ProjectionRefIdeal.τ).loc Cert.ProjectionRefIdeal.main_arg1)
      ∧ r.2.mem ((c.tc : Thread Cert.ProjectionRefIdeal.nD Cert.ProjectionRefIdeal.τ).loc Cert.ProjectionRefIdeal.main_arg2) = m ((c.tc : Thread Cert.ProjectionRefIdeal.nD Cert.ProjectionRefIdeal.τ).loc Cert.ProjectionRefIdeal.main_arg2))
      ∧ r.2.sem = fun _ => 0)

def quiescent_Experts [hExperts : Cert.Experts.Facts] [hPre_expert_tables : Cert.Pre_expert_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_expert_tables [hExpertsRefIdeal : Cert.ExpertsRefIdeal.Facts] [hPre_expert_tables : Cert.Pre_expert_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Mixing [hMixing : Cert.Mixing.Facts] : Prop :=
  ∀ (m : (ℓ : Loc Cert.Mixing.nD Cert.Mixing.τ Cert.Mixing.sig) → Buf (Elt Bits) ℓ) (g : Dev Cert.Mixing.nD → PrngReg), Pre_Mixing m →
    θ_run (Cert.Mixing.defs (F := Bits)) (onTc (τ := Cert.Mixing.τ) (Cert.Mixing.main (F := Bits))) ⟨m, fun _ => 0, g⟩ (fun r => (∀ c : Dev Cert.Mixing.nD,
      r.2.mem ((c.tc : Thread Cert.Mixing.nD Cert.Mixing.τ).loc Cert.Mixing.main_arg0) = m ((c.tc : Thread Cert.Mixing.nD Cert.Mixing.τ).loc Cert.Mixing.main_arg0)
      ∧ r.2.mem ((c.tc : Thread Cert.Mixing.nD Cert.Mixing.τ).loc Cert.Mixing.main_arg1) = m ((c.tc : Thread Cert.Mixing.nD Cert.Mixing.τ).loc Cert.Mixing.main_arg1)
      ∧ r.2.mem ((c.tc : Thread Cert.Mixing.nD Cert.Mixing.τ).loc Cert.Mixing.main_arg2) = m ((c.tc : Thread Cert.Mixing.nD Cert.Mixing.τ).loc Cert.Mixing.main_arg2)
      ∧ r.2.mem ((c.tc : Thread Cert.Mixing.nD Cert.Mixing.τ).loc Cert.Mixing.main_arg3) = m ((c.tc : Thread Cert.Mixing.nD Cert.Mixing.τ).loc Cert.Mixing.main_arg3)
      ∧ r.2.mem ((c.tc : Thread Cert.Mixing.nD Cert.Mixing.τ).loc Cert.Mixing.main_arg4) = m ((c.tc : Thread Cert.Mixing.nD Cert.Mixing.τ).loc Cert.Mixing.main_arg4)
      ∧ r.2.mem ((c.tc : Thread Cert.Mixing.nD Cert.Mixing.τ).loc Cert.Mixing.main_arg5) = m ((c.tc : Thread Cert.Mixing.nD Cert.Mixing.τ).loc Cert.Mixing.main_arg5)
      ∧ r.2.mem ((c.tc : Thread Cert.Mixing.nD Cert.Mixing.τ).loc Cert.Mixing.main_arg6) = m ((c.tc : Thread Cert.Mixing.nD Cert.Mixing.τ).loc Cert.Mixing.main_arg6)
      ∧ r.2.mem ((c.tc : Thread Cert.Mixing.nD Cert.Mixing.τ).loc Cert.Mixing.main_arg7) = m ((c.tc : Thread Cert.Mixing.nD Cert.Mixing.τ).loc Cert.Mixing.main_arg7)
      ∧ r.2.mem ((c.tc : Thread Cert.Mixing.nD Cert.Mixing.τ).loc Cert.Mixing.main_arg8) = m ((c.tc : Thread Cert.Mixing.nD Cert.Mixing.τ).loc Cert.Mixing.main_arg8)
      ∧ r.2.mem ((c.tc : Thread Cert.Mixing.nD Cert.Mixing.τ).loc Cert.Mixing.main_arg9) = m ((c.tc : Thread Cert.Mixing.nD Cert.Mixing.τ).loc Cert.Mixing.main_arg9)
      ∧ r.2.mem ((c.tc : Thread Cert.Mixing.nD Cert.Mixing.τ).loc Cert.Mixing.main_arg10) = m ((c.tc : Thread Cert.Mixing.nD Cert.Mixing.τ).loc Cert.Mixing.main_arg10)
      ∧ r.2.mem ((c.tc : Thread Cert.Mixing.nD Cert.Mixing.τ).loc Cert.Mixing.main_arg11) = m ((c.tc : Thread Cert.Mixing.nD Cert.Mixing.τ).loc Cert.Mixing.main_arg11)
      ∧ r.2.mem ((c.tc : Thread Cert.Mixing.nD Cert.Mixing.τ).loc Cert.Mixing.main_arg12) = m ((c.tc : Thread Cert.Mixing.nD Cert.Mixing.τ).loc Cert.Mixing.main_arg12))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
      ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
      ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
      ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12))
      ∧ r.2.sem = fun _ => 0)

def quiescent_MixingIdeal_pre_finite_recurrence [hMixingIdeal : Cert.MixingIdeal.Facts] [hPre_finite_recurrence : Cert.Pre_finite_recurrence.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal_finite_recurrence m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
      ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
      ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
      ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12))
      ∧ r.2.sem = fun _ => 0)

def quiescent_MixingRefIdeal [hMixingRefIdeal : Cert.MixingRefIdeal.Facts] : Prop :=
  ∀ (m : (ℓ : Loc Cert.MixingRefIdeal.nD Cert.MixingRefIdeal.τ Cert.MixingRefIdeal.sig) → Buf (Elt Ideal) ℓ) (g : Dev Cert.MixingRefIdeal.nD → PrngReg), Pre_MixingRefIdeal m →
    θ_run (Cert.MixingRefIdeal.defs (F := Ideal)) (onTc (τ := Cert.MixingRefIdeal.τ) (Cert.MixingRefIdeal.main (F := Ideal))) ⟨m, fun _ => 0, g⟩ (fun r => (∀ c : Dev Cert.MixingRefIdeal.nD,
      r.2.mem ((c.tc : Thread Cert.MixingRefIdeal.nD Cert.MixingRefIdeal.τ).loc Cert.MixingRefIdeal.main_arg0) = m ((c.tc : Thread Cert.MixingRefIdeal.nD Cert.MixingRefIdeal.τ).loc Cert.MixingRefIdeal.main_arg0)
      ∧ r.2.mem ((c.tc : Thread Cert.MixingRefIdeal.nD Cert.MixingRefIdeal.τ).loc Cert.MixingRefIdeal.main_arg1) = m ((c.tc : Thread Cert.MixingRefIdeal.nD Cert.MixingRefIdeal.τ).loc Cert.MixingRefIdeal.main_arg1)
      ∧ r.2.mem ((c.tc : Thread Cert.MixingRefIdeal.nD Cert.MixingRefIdeal.τ).loc Cert.MixingRefIdeal.main_arg2) = m ((c.tc : Thread Cert.MixingRefIdeal.nD Cert.MixingRefIdeal.τ).loc Cert.MixingRefIdeal.main_arg2)
      ∧ r.2.mem ((c.tc : Thread Cert.MixingRefIdeal.nD Cert.MixingRefIdeal.τ).loc Cert.MixingRefIdeal.main_arg3) = m ((c.tc : Thread Cert.MixingRefIdeal.nD Cert.MixingRefIdeal.τ).loc Cert.MixingRefIdeal.main_arg3)
      ∧ r.2.mem ((c.tc : Thread Cert.MixingRefIdeal.nD Cert.MixingRefIdeal.τ).loc Cert.MixingRefIdeal.main_arg4) = m ((c.tc : Thread Cert.MixingRefIdeal.nD Cert.MixingRefIdeal.τ).loc Cert.MixingRefIdeal.main_arg4)
      ∧ r.2.mem ((c.tc : Thread Cert.MixingRefIdeal.nD Cert.MixingRefIdeal.τ).loc Cert.MixingRefIdeal.main_arg5) = m ((c.tc : Thread Cert.MixingRefIdeal.nD Cert.MixingRefIdeal.τ).loc Cert.MixingRefIdeal.main_arg5)
      ∧ r.2.mem ((c.tc : Thread Cert.MixingRefIdeal.nD Cert.MixingRefIdeal.τ).loc Cert.MixingRefIdeal.main_arg6) = m ((c.tc : Thread Cert.MixingRefIdeal.nD Cert.MixingRefIdeal.τ).loc Cert.MixingRefIdeal.main_arg6)
      ∧ r.2.mem ((c.tc : Thread Cert.MixingRefIdeal.nD Cert.MixingRefIdeal.τ).loc Cert.MixingRefIdeal.main_arg7) = m ((c.tc : Thread Cert.MixingRefIdeal.nD Cert.MixingRefIdeal.τ).loc Cert.MixingRefIdeal.main_arg7)
      ∧ r.2.mem ((c.tc : Thread Cert.MixingRefIdeal.nD Cert.MixingRefIdeal.τ).loc Cert.MixingRefIdeal.main_arg8) = m ((c.tc : Thread Cert.MixingRefIdeal.nD Cert.MixingRefIdeal.τ).loc Cert.MixingRefIdeal.main_arg8)
      ∧ r.2.mem ((c.tc : Thread Cert.MixingRefIdeal.nD Cert.MixingRefIdeal.τ).loc Cert.MixingRefIdeal.main_arg9) = m ((c.tc : Thread Cert.MixingRefIdeal.nD Cert.MixingRefIdeal.τ).loc Cert.MixingRefIdeal.main_arg9)
      ∧ r.2.mem ((c.tc : Thread Cert.MixingRefIdeal.nD Cert.MixingRefIdeal.τ).loc Cert.MixingRefIdeal.main_arg10) = m ((c.tc : Thread Cert.MixingRefIdeal.nD Cert.MixingRefIdeal.τ).loc Cert.MixingRefIdeal.main_arg10)
      ∧ r.2.mem ((c.tc : Thread Cert.MixingRefIdeal.nD Cert.MixingRefIdeal.τ).loc Cert.MixingRefIdeal.main_arg11) = m ((c.tc : Thread Cert.MixingRefIdeal.nD Cert.MixingRefIdeal.τ).loc Cert.MixingRefIdeal.main_arg11)
      ∧ r.2.mem ((c.tc : Thread Cert.MixingRefIdeal.nD Cert.MixingRefIdeal.τ).loc Cert.MixingRefIdeal.main_arg12) = m ((c.tc : Thread Cert.MixingRefIdeal.nD Cert.MixingRefIdeal.τ).loc Cert.MixingRefIdeal.main_arg12))
      ∧ r.2.sem = fun _ => 0)

def quiescent_MixingRefIdeal_pre_finite_recurrence [hMixingRefIdeal : Cert.MixingRefIdeal.Facts] [hPre_finite_recurrence : Cert.Pre_finite_recurrence.Facts] : Prop :=
  ∀ (m : (ℓ : Loc Cert.MixingRefIdeal.nD Cert.MixingRefIdeal.τ Cert.MixingRefIdeal.sig) → Buf (Elt Ideal) ℓ) (g : Dev Cert.MixingRefIdeal.nD → PrngReg), Pre_MixingRefIdeal_finite_recurrence m →
    θ_run (Cert.MixingRefIdeal.defs (F := Ideal)) (onTc (τ := Cert.MixingRefIdeal.τ) (Cert.MixingRefIdeal.main (F := Ideal))) ⟨m, fun _ => 0, g⟩ (fun r => (∀ c : Dev Cert.MixingRefIdeal.nD,
      r.2.mem ((c.tc : Thread Cert.MixingRefIdeal.nD Cert.MixingRefIdeal.τ).loc Cert.MixingRefIdeal.main_arg0) = m ((c.tc : Thread Cert.MixingRefIdeal.nD Cert.MixingRefIdeal.τ).loc Cert.MixingRefIdeal.main_arg0)
      ∧ r.2.mem ((c.tc : Thread Cert.MixingRefIdeal.nD Cert.MixingRefIdeal.τ).loc Cert.MixingRefIdeal.main_arg1) = m ((c.tc : Thread Cert.MixingRefIdeal.nD Cert.MixingRefIdeal.τ).loc Cert.MixingRefIdeal.main_arg1)
      ∧ r.2.mem ((c.tc : Thread Cert.MixingRefIdeal.nD Cert.MixingRefIdeal.τ).loc Cert.MixingRefIdeal.main_arg2) = m ((c.tc : Thread Cert.MixingRefIdeal.nD Cert.MixingRefIdeal.τ).loc Cert.MixingRefIdeal.main_arg2)
      ∧ r.2.mem ((c.tc : Thread Cert.MixingRefIdeal.nD Cert.MixingRefIdeal.τ).loc Cert.MixingRefIdeal.main_arg3) = m ((c.tc : Thread Cert.MixingRefIdeal.nD Cert.MixingRefIdeal.τ).loc Cert.MixingRefIdeal.main_arg3)
      ∧ r.2.mem ((c.tc : Thread Cert.MixingRefIdeal.nD Cert.MixingRefIdeal.τ).loc Cert.MixingRefIdeal.main_arg4) = m ((c.tc : Thread Cert.MixingRefIdeal.nD Cert.MixingRefIdeal.τ).loc Cert.MixingRefIdeal.main_arg4)
      ∧ r.2.mem ((c.tc : Thread Cert.MixingRefIdeal.nD Cert.MixingRefIdeal.τ).loc Cert.MixingRefIdeal.main_arg5) = m ((c.tc : Thread Cert.MixingRefIdeal.nD Cert.MixingRefIdeal.τ).loc Cert.MixingRefIdeal.main_arg5)
      ∧ r.2.mem ((c.tc : Thread Cert.MixingRefIdeal.nD Cert.MixingRefIdeal.τ).loc Cert.MixingRefIdeal.main_arg6) = m ((c.tc : Thread Cert.MixingRefIdeal.nD Cert.MixingRefIdeal.τ).loc Cert.MixingRefIdeal.main_arg6)
      ∧ r.2.mem ((c.tc : Thread Cert.MixingRefIdeal.nD Cert.MixingRefIdeal.τ).loc Cert.MixingRefIdeal.main_arg7) = m ((c.tc : Thread Cert.MixingRefIdeal.nD Cert.MixingRefIdeal.τ).loc Cert.MixingRefIdeal.main_arg7)
      ∧ r.2.mem ((c.tc : Thread Cert.MixingRefIdeal.nD Cert.MixingRefIdeal.τ).loc Cert.MixingRefIdeal.main_arg8) = m ((c.tc : Thread Cert.MixingRefIdeal.nD Cert.MixingRefIdeal.τ).loc Cert.MixingRefIdeal.main_arg8)
      ∧ r.2.mem ((c.tc : Thread Cert.MixingRefIdeal.nD Cert.MixingRefIdeal.τ).loc Cert.MixingRefIdeal.main_arg9) = m ((c.tc : Thread Cert.MixingRefIdeal.nD Cert.MixingRefIdeal.τ).loc Cert.MixingRefIdeal.main_arg9)
      ∧ r.2.mem ((c.tc : Thread Cert.MixingRefIdeal.nD Cert.MixingRefIdeal.τ).loc Cert.MixingRefIdeal.main_arg10) = m ((c.tc : Thread Cert.MixingRefIdeal.nD Cert.MixingRefIdeal.τ).loc Cert.MixingRefIdeal.main_arg10)
      ∧ r.2.mem ((c.tc : Thread Cert.MixingRefIdeal.nD Cert.MixingRefIdeal.τ).loc Cert.MixingRefIdeal.main_arg11) = m ((c.tc : Thread Cert.MixingRefIdeal.nD Cert.MixingRefIdeal.τ).loc Cert.MixingRefIdeal.main_arg11)
      ∧ r.2.mem ((c.tc : Thread Cert.MixingRefIdeal.nD Cert.MixingRefIdeal.τ).loc Cert.MixingRefIdeal.main_arg12) = m ((c.tc : Thread Cert.MixingRefIdeal.nD Cert.MixingRefIdeal.τ).loc Cert.MixingRefIdeal.main_arg12))
      ∧ r.2.sem = fun _ => 0)

def quiescent_Preparation [hPreparation : Cert.Preparation.Facts] : Prop :=
  ∀ (m : (ℓ : Loc Cert.Preparation.nD Cert.Preparation.τ Cert.Preparation.sig) → Buf (Elt Bits) ℓ) (g : Dev Cert.Preparation.nD → PrngReg), Pre_Preparation m →
    θ_run (Cert.Preparation.defs (F := Bits)) (onTc (τ := Cert.Preparation.τ) (Cert.Preparation.main (F := Bits))) ⟨m, fun _ => 0, g⟩ (fun r => (∀ c : Dev Cert.Preparation.nD,
      r.2.mem ((c.tc : Thread Cert.Preparation.nD Cert.Preparation.τ).loc Cert.Preparation.main_arg0) = m ((c.tc : Thread Cert.Preparation.nD Cert.Preparation.τ).loc Cert.Preparation.main_arg0)
      ∧ r.2.mem ((c.tc : Thread Cert.Preparation.nD Cert.Preparation.τ).loc Cert.Preparation.main_arg1) = m ((c.tc : Thread Cert.Preparation.nD Cert.Preparation.τ).loc Cert.Preparation.main_arg1)
      ∧ r.2.mem ((c.tc : Thread Cert.Preparation.nD Cert.Preparation.τ).loc Cert.Preparation.main_arg2) = m ((c.tc : Thread Cert.Preparation.nD Cert.Preparation.τ).loc Cert.Preparation.main_arg2)
      ∧ r.2.mem ((c.tc : Thread Cert.Preparation.nD Cert.Preparation.τ).loc Cert.Preparation.main_arg3) = m ((c.tc : Thread Cert.Preparation.nD Cert.Preparation.τ).loc Cert.Preparation.main_arg3)
      ∧ r.2.mem ((c.tc : Thread Cert.Preparation.nD Cert.Preparation.τ).loc Cert.Preparation.main_arg4) = m ((c.tc : Thread Cert.Preparation.nD Cert.Preparation.τ).loc Cert.Preparation.main_arg4)
      ∧ r.2.mem ((c.tc : Thread Cert.Preparation.nD Cert.Preparation.τ).loc Cert.Preparation.main_arg5) = m ((c.tc : Thread Cert.Preparation.nD Cert.Preparation.τ).loc Cert.Preparation.main_arg5)
      ∧ r.2.mem ((c.tc : Thread Cert.Preparation.nD Cert.Preparation.τ).loc Cert.Preparation.main_arg6) = m ((c.tc : Thread Cert.Preparation.nD Cert.Preparation.τ).loc Cert.Preparation.main_arg6)
      ∧ r.2.mem ((c.tc : Thread Cert.Preparation.nD Cert.Preparation.τ).loc Cert.Preparation.main_arg7) = m ((c.tc : Thread Cert.Preparation.nD Cert.Preparation.τ).loc Cert.Preparation.main_arg7)
      ∧ r.2.mem ((c.tc : Thread Cert.Preparation.nD Cert.Preparation.τ).loc Cert.Preparation.main_arg8) = m ((c.tc : Thread Cert.Preparation.nD Cert.Preparation.τ).loc Cert.Preparation.main_arg8)
      ∧ r.2.mem ((c.tc : Thread Cert.Preparation.nD Cert.Preparation.τ).loc Cert.Preparation.main_arg9) = m ((c.tc : Thread Cert.Preparation.nD Cert.Preparation.τ).loc Cert.Preparation.main_arg9)
      ∧ r.2.mem ((c.tc : Thread Cert.Preparation.nD Cert.Preparation.τ).loc Cert.Preparation.main_arg10) = m ((c.tc : Thread Cert.Preparation.nD Cert.Preparation.τ).loc Cert.Preparation.main_arg10))
      ∧ r.2.sem = fun _ => 0)

def quiescent_PreparationIdeal [hPreparationIdeal : Cert.PreparationIdeal.Facts] : Prop :=
  ∀ (m : (ℓ : Loc Cert.PreparationIdeal.nD Cert.PreparationIdeal.τ Cert.PreparationIdeal.sig) → Buf (Elt Ideal) ℓ) (g : Dev Cert.PreparationIdeal.nD → PrngReg), Pre_PreparationIdeal m →
    θ_run (Cert.PreparationIdeal.defs (F := Ideal)) (onTc (τ := Cert.PreparationIdeal.τ) (Cert.PreparationIdeal.main (F := Ideal))) ⟨m, fun _ => 0, g⟩ (fun r => (∀ c : Dev Cert.PreparationIdeal.nD,
      r.2.mem ((c.tc : Thread Cert.PreparationIdeal.nD Cert.PreparationIdeal.τ).loc Cert.PreparationIdeal.main_arg0) = m ((c.tc : Thread Cert.PreparationIdeal.nD Cert.PreparationIdeal.τ).loc Cert.PreparationIdeal.main_arg0)
      ∧ r.2.mem ((c.tc : Thread Cert.PreparationIdeal.nD Cert.PreparationIdeal.τ).loc Cert.PreparationIdeal.main_arg1) = m ((c.tc : Thread Cert.PreparationIdeal.nD Cert.PreparationIdeal.τ).loc Cert.PreparationIdeal.main_arg1)
      ∧ r.2.mem ((c.tc : Thread Cert.PreparationIdeal.nD Cert.PreparationIdeal.τ).loc Cert.PreparationIdeal.main_arg2) = m ((c.tc : Thread Cert.PreparationIdeal.nD Cert.PreparationIdeal.τ).loc Cert.PreparationIdeal.main_arg2)
      ∧ r.2.mem ((c.tc : Thread Cert.PreparationIdeal.nD Cert.PreparationIdeal.τ).loc Cert.PreparationIdeal.main_arg3) = m ((c.tc : Thread Cert.PreparationIdeal.nD Cert.PreparationIdeal.τ).loc Cert.PreparationIdeal.main_arg3)
      ∧ r.2.mem ((c.tc : Thread Cert.PreparationIdeal.nD Cert.PreparationIdeal.τ).loc Cert.PreparationIdeal.main_arg4) = m ((c.tc : Thread Cert.PreparationIdeal.nD Cert.PreparationIdeal.τ).loc Cert.PreparationIdeal.main_arg4)
      ∧ r.2.mem ((c.tc : Thread Cert.PreparationIdeal.nD Cert.PreparationIdeal.τ).loc Cert.PreparationIdeal.main_arg5) = m ((c.tc : Thread Cert.PreparationIdeal.nD Cert.PreparationIdeal.τ).loc Cert.PreparationIdeal.main_arg5)
      ∧ r.2.mem ((c.tc : Thread Cert.PreparationIdeal.nD Cert.PreparationIdeal.τ).loc Cert.PreparationIdeal.main_arg6) = m ((c.tc : Thread Cert.PreparationIdeal.nD Cert.PreparationIdeal.τ).loc Cert.PreparationIdeal.main_arg6)
      ∧ r.2.mem ((c.tc : Thread Cert.PreparationIdeal.nD Cert.PreparationIdeal.τ).loc Cert.PreparationIdeal.main_arg7) = m ((c.tc : Thread Cert.PreparationIdeal.nD Cert.PreparationIdeal.τ).loc Cert.PreparationIdeal.main_arg7)
      ∧ r.2.mem ((c.tc : Thread Cert.PreparationIdeal.nD Cert.PreparationIdeal.τ).loc Cert.PreparationIdeal.main_arg8) = m ((c.tc : Thread Cert.PreparationIdeal.nD Cert.PreparationIdeal.τ).loc Cert.PreparationIdeal.main_arg8)
      ∧ r.2.mem ((c.tc : Thread Cert.PreparationIdeal.nD Cert.PreparationIdeal.τ).loc Cert.PreparationIdeal.main_arg9) = m ((c.tc : Thread Cert.PreparationIdeal.nD Cert.PreparationIdeal.τ).loc Cert.PreparationIdeal.main_arg9)
      ∧ r.2.mem ((c.tc : Thread Cert.PreparationIdeal.nD Cert.PreparationIdeal.τ).loc Cert.PreparationIdeal.main_arg10) = m ((c.tc : Thread Cert.PreparationIdeal.nD Cert.PreparationIdeal.τ).loc Cert.PreparationIdeal.main_arg10))
      ∧ r.2.sem = fun _ => 0)

def quiescent_PreparationRefIdeal [hPreparationRefIdeal : Cert.PreparationRefIdeal.Facts] : Prop :=
  ∀ (m : (ℓ : Loc Cert.PreparationRefIdeal.nD Cert.PreparationRefIdeal.τ Cert.PreparationRefIdeal.sig) → Buf (Elt Ideal) ℓ) (g : Dev Cert.PreparationRefIdeal.nD → PrngReg), Pre_PreparationRefIdeal m →
    θ_run (Cert.PreparationRefIdeal.defs (F := Ideal)) (onTc (τ := Cert.PreparationRefIdeal.τ) (Cert.PreparationRefIdeal.main (F := Ideal))) ⟨m, fun _ => 0, g⟩ (fun r => (∀ c : Dev Cert.PreparationRefIdeal.nD,
      r.2.mem ((c.tc : Thread Cert.PreparationRefIdeal.nD Cert.PreparationRefIdeal.τ).loc Cert.PreparationRefIdeal.main_arg0) = m ((c.tc : Thread Cert.PreparationRefIdeal.nD Cert.PreparationRefIdeal.τ).loc Cert.PreparationRefIdeal.main_arg0)
      ∧ r.2.mem ((c.tc : Thread Cert.PreparationRefIdeal.nD Cert.PreparationRefIdeal.τ).loc Cert.PreparationRefIdeal.main_arg1) = m ((c.tc : Thread Cert.PreparationRefIdeal.nD Cert.PreparationRefIdeal.τ).loc Cert.PreparationRefIdeal.main_arg1)
      ∧ r.2.mem ((c.tc : Thread Cert.PreparationRefIdeal.nD Cert.PreparationRefIdeal.τ).loc Cert.PreparationRefIdeal.main_arg2) = m ((c.tc : Thread Cert.PreparationRefIdeal.nD Cert.PreparationRefIdeal.τ).loc Cert.PreparationRefIdeal.main_arg2)
      ∧ r.2.mem ((c.tc : Thread Cert.PreparationRefIdeal.nD Cert.PreparationRefIdeal.τ).loc Cert.PreparationRefIdeal.main_arg3) = m ((c.tc : Thread Cert.PreparationRefIdeal.nD Cert.PreparationRefIdeal.τ).loc Cert.PreparationRefIdeal.main_arg3)
      ∧ r.2.mem ((c.tc : Thread Cert.PreparationRefIdeal.nD Cert.PreparationRefIdeal.τ).loc Cert.PreparationRefIdeal.main_arg4) = m ((c.tc : Thread Cert.PreparationRefIdeal.nD Cert.PreparationRefIdeal.τ).loc Cert.PreparationRefIdeal.main_arg4)
      ∧ r.2.mem ((c.tc : Thread Cert.PreparationRefIdeal.nD Cert.PreparationRefIdeal.τ).loc Cert.PreparationRefIdeal.main_arg5) = m ((c.tc : Thread Cert.PreparationRefIdeal.nD Cert.PreparationRefIdeal.τ).loc Cert.PreparationRefIdeal.main_arg5)
      ∧ r.2.mem ((c.tc : Thread Cert.PreparationRefIdeal.nD Cert.PreparationRefIdeal.τ).loc Cert.PreparationRefIdeal.main_arg6) = m ((c.tc : Thread Cert.PreparationRefIdeal.nD Cert.PreparationRefIdeal.τ).loc Cert.PreparationRefIdeal.main_arg6)
      ∧ r.2.mem ((c.tc : Thread Cert.PreparationRefIdeal.nD Cert.PreparationRefIdeal.τ).loc Cert.PreparationRefIdeal.main_arg7) = m ((c.tc : Thread Cert.PreparationRefIdeal.nD Cert.PreparationRefIdeal.τ).loc Cert.PreparationRefIdeal.main_arg7)
      ∧ r.2.mem ((c.tc : Thread Cert.PreparationRefIdeal.nD Cert.PreparationRefIdeal.τ).loc Cert.PreparationRefIdeal.main_arg8) = m ((c.tc : Thread Cert.PreparationRefIdeal.nD Cert.PreparationRefIdeal.τ).loc Cert.PreparationRefIdeal.main_arg8)
      ∧ r.2.mem ((c.tc : Thread Cert.PreparationRefIdeal.nD Cert.PreparationRefIdeal.τ).loc Cert.PreparationRefIdeal.main_arg9) = m ((c.tc : Thread Cert.PreparationRefIdeal.nD Cert.PreparationRefIdeal.τ).loc Cert.PreparationRefIdeal.main_arg9)
      ∧ r.2.mem ((c.tc : Thread Cert.PreparationRefIdeal.nD Cert.PreparationRefIdeal.τ).loc Cert.PreparationRefIdeal.main_arg10) = m ((c.tc : Thread Cert.PreparationRefIdeal.nD Cert.PreparationRefIdeal.τ).loc Cert.PreparationRefIdeal.main_arg10))
      ∧ r.2.sem = fun _ => 0)

def preserves_Attention_AttentionIdeal : Prop :=
  True

def algebraic_AttentionIdeal_AttentionRefIdeal_pre_finite_scores [hAttentionIdeal : Cert.AttentionIdeal.Facts] [hAttentionRefIdeal : Cert.AttentionRefIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_scores m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v60)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v60) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v106) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1))

def preserves_Projection_ProjectionIdeal : Prop :=
  True

def algebraic_ProjectionIdeal_ProjectionRefIdeal [hProjectionIdeal : Cert.ProjectionIdeal.Facts] [hProjectionRefIdeal : Cert.ProjectionRefIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionRefIdeal.nD Cert.ProjectionRefIdeal.τ Cert.ProjectionRefIdeal.sig) → Buf (Elt Ideal) ℓ) (g' : Dev Cert.ProjectionRefIdeal.nD → PrngReg), Pre_ProjectionIdeal m →
    (∀ c : Dev Cert.ProjectionIdeal.nD,
      m' ((c.tc : Thread Cert.ProjectionRefIdeal.nD Cert.ProjectionRefIdeal.τ).loc Cert.ProjectionRefIdeal.main_arg0) = m ((c.tc : Thread Cert.ProjectionIdeal.nD Cert.ProjectionIdeal.τ).loc Cert.ProjectionIdeal.main_arg0)
      ∧ m' ((c.tc : Thread Cert.ProjectionRefIdeal.nD Cert.ProjectionRefIdeal.τ).loc Cert.ProjectionRefIdeal.main_arg1) = m ((c.tc : Thread Cert.ProjectionIdeal.nD Cert.ProjectionIdeal.τ).loc Cert.ProjectionIdeal.main_arg1)
      ∧ m' ((c.tc : Thread Cert.ProjectionRefIdeal.nD Cert.ProjectionRefIdeal.τ).loc Cert.ProjectionRefIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v5_0)) (v1 : (c : Dev Cert.ProjectionIdeal.nD) → Buf (Elt Ideal) ((c.tc : Thread Cert.ProjectionIdeal.nD Cert.ProjectionIdeal.τ).loc Cert.ProjectionIdeal.main_v5_1)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v5_0) = v0 c
          ∧ r.2.mem ((c.tc : Thread Cert.ProjectionIdeal.nD Cert.ProjectionIdeal.τ).loc Cert.ProjectionIdeal.main_v5_1) = v1 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionRefIdeal.defs (F := Ideal)) (onTc (τ := Cert.ProjectionRefIdeal.τ) (Cert.ProjectionRefIdeal.main (F := Ideal))) ⟨m', fun _ => 0, g'⟩ (fun r => ∀ c : Dev Cert.ProjectionRefIdeal.nD,
          r.2.mem ((c.tc : Thread Cert.ProjectionRefIdeal.nD Cert.ProjectionRefIdeal.τ).loc Cert.ProjectionRefIdeal.main_v18) = v0 c
          ∧ r.2.mem ((c.tc : Thread Cert.ProjectionRefIdeal.nD Cert.ProjectionRefIdeal.τ).loc Cert.ProjectionRefIdeal.main_v20) = v1 c
          ∧ r.2.mem ((c.tc : Thread Cert.ProjectionRefIdeal.nD Cert.ProjectionRefIdeal.τ).loc Cert.ProjectionRefIdeal.main_arg0) = m' ((c.tc : Thread Cert.ProjectionRefIdeal.nD Cert.ProjectionRefIdeal.τ).loc Cert.ProjectionRefIdeal.main_arg0)
          ∧ r.2.mem ((c.tc : Thread Cert.ProjectionRefIdeal.nD Cert.ProjectionRefIdeal.τ).loc Cert.ProjectionRefIdeal.main_arg1) = m' ((c.tc : Thread Cert.ProjectionRefIdeal.nD Cert.ProjectionRefIdeal.τ).loc Cert.ProjectionRefIdeal.main_arg1)
          ∧ r.2.mem ((c.tc : Thread Cert.ProjectionRefIdeal.nD Cert.ProjectionRefIdeal.τ).loc Cert.ProjectionRefIdeal.main_arg2) = m' ((c.tc : Thread Cert.ProjectionRefIdeal.nD Cert.ProjectionRefIdeal.τ).loc Cert.ProjectionRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v62) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Mixing_MixingIdeal : Prop :=
  True

def algebraic_MixingIdeal_MixingRefIdeal_pre_finite_recurrence [hMixingIdeal : Cert.MixingIdeal.Facts] [hMixingRefIdeal : Cert.MixingRefIdeal.Facts] [hPre_finite_recurrence : Cert.Pre_finite_recurrence.Facts] : Prop :=
  ∀ (m : (ℓ : Loc Cert.MixingIdeal.nD Cert.MixingIdeal.τ Cert.MixingIdeal.sig) → Buf (Elt Ideal) ℓ) (g : Dev Cert.MixingIdeal.nD → PrngReg)
    (m' : (ℓ : Loc Cert.MixingRefIdeal.nD Cert.MixingRefIdeal.τ Cert.MixingRefIdeal.sig) → Buf (Elt Ideal) ℓ) (g' : Dev Cert.MixingRefIdeal.nD → PrngReg), Pre_MixingIdeal_finite_recurrence m →
    (∀ c : Dev Cert.MixingIdeal.nD,
      m' ((c.tc : Thread Cert.MixingRefIdeal.nD Cert.MixingRefIdeal.τ).loc Cert.MixingRefIdeal.main_arg0) = m ((c.tc : Thread Cert.MixingIdeal.nD Cert.MixingIdeal.τ).loc Cert.MixingIdeal.main_arg0)
      ∧ m' ((c.tc : Thread Cert.MixingRefIdeal.nD Cert.MixingRefIdeal.τ).loc Cert.MixingRefIdeal.main_arg1) = m ((c.tc : Thread Cert.MixingIdeal.nD Cert.MixingIdeal.τ).loc Cert.MixingIdeal.main_arg1)
      ∧ m' ((c.tc : Thread Cert.MixingRefIdeal.nD Cert.MixingRefIdeal.τ).loc Cert.MixingRefIdeal.main_arg2) = m ((c.tc : Thread Cert.MixingIdeal.nD Cert.MixingIdeal.τ).loc Cert.MixingIdeal.main_arg2)
      ∧ m' ((c.tc : Thread Cert.MixingRefIdeal.nD Cert.MixingRefIdeal.τ).loc Cert.MixingRefIdeal.main_arg3) = m ((c.tc : Thread Cert.MixingIdeal.nD Cert.MixingIdeal.τ).loc Cert.MixingIdeal.main_arg3)
      ∧ m' ((c.tc : Thread Cert.MixingRefIdeal.nD Cert.MixingRefIdeal.τ).loc Cert.MixingRefIdeal.main_arg4) = m ((c.tc : Thread Cert.MixingIdeal.nD Cert.MixingIdeal.τ).loc Cert.MixingIdeal.main_arg4)
      ∧ m' ((c.tc : Thread Cert.MixingRefIdeal.nD Cert.MixingRefIdeal.τ).loc Cert.MixingRefIdeal.main_arg5) = m ((c.tc : Thread Cert.MixingIdeal.nD Cert.MixingIdeal.τ).loc Cert.MixingIdeal.main_arg5)
      ∧ m' ((c.tc : Thread Cert.MixingRefIdeal.nD Cert.MixingRefIdeal.τ).loc Cert.MixingRefIdeal.main_arg6) = m ((c.tc : Thread Cert.MixingIdeal.nD Cert.MixingIdeal.τ).loc Cert.MixingIdeal.main_arg6)
      ∧ m' ((c.tc : Thread Cert.MixingRefIdeal.nD Cert.MixingRefIdeal.τ).loc Cert.MixingRefIdeal.main_arg7) = m ((c.tc : Thread Cert.MixingIdeal.nD Cert.MixingIdeal.τ).loc Cert.MixingIdeal.main_arg7)
      ∧ m' ((c.tc : Thread Cert.MixingRefIdeal.nD Cert.MixingRefIdeal.τ).loc Cert.MixingRefIdeal.main_arg8) = m ((c.tc : Thread Cert.MixingIdeal.nD Cert.MixingIdeal.τ).loc Cert.MixingIdeal.main_arg8)
      ∧ m' ((c.tc : Thread Cert.MixingRefIdeal.nD Cert.MixingRefIdeal.τ).loc Cert.MixingRefIdeal.main_arg9) = m ((c.tc : Thread Cert.MixingIdeal.nD Cert.MixingIdeal.τ).loc Cert.MixingIdeal.main_arg9)
      ∧ m' ((c.tc : Thread Cert.MixingRefIdeal.nD Cert.MixingRefIdeal.τ).loc Cert.MixingRefIdeal.main_arg10) = m ((c.tc : Thread Cert.MixingIdeal.nD Cert.MixingIdeal.τ).loc Cert.MixingIdeal.main_arg10)
      ∧ m' ((c.tc : Thread Cert.MixingRefIdeal.nD Cert.MixingRefIdeal.τ).loc Cert.MixingRefIdeal.main_arg11) = m ((c.tc : Thread Cert.MixingIdeal.nD Cert.MixingIdeal.τ).loc Cert.MixingIdeal.main_arg11)
      ∧ m' ((c.tc : Thread Cert.MixingRefIdeal.nD Cert.MixingRefIdeal.τ).loc Cert.MixingRefIdeal.main_arg12) = m ((c.tc : Thread Cert.MixingIdeal.nD Cert.MixingIdeal.τ).loc Cert.MixingIdeal.main_arg12)) →
    ∃ (v0 : (c : Dev Cert.MixingIdeal.nD) → Buf (Elt Ideal) ((c.tc : Thread Cert.MixingIdeal.nD Cert.MixingIdeal.τ).loc Cert.MixingIdeal.main_v27_0)) (v1 : (c : Dev Cert.MixingIdeal.nD) → Buf (Elt Ideal) ((c.tc : Thread Cert.MixingIdeal.nD Cert.MixingIdeal.τ).loc Cert.MixingIdeal.main_v27_1)),
      θ_run (Cert.MixingIdeal.defs (F := Ideal)) (onTc (τ := Cert.MixingIdeal.τ) (Cert.MixingIdeal.main (F := Ideal))) ⟨m, fun _ => 0, g⟩ (fun r => ∀ c : Dev Cert.MixingIdeal.nD,
          r.2.mem ((c.tc : Thread Cert.MixingIdeal.nD Cert.MixingIdeal.τ).loc Cert.MixingIdeal.main_v27_0) = v0 c
          ∧ r.2.mem ((c.tc : Thread Cert.MixingIdeal.nD Cert.MixingIdeal.τ).loc Cert.MixingIdeal.main_v27_1) = v1 c
          ∧ r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
          ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
          ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
          ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
          ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
          ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
          ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
          ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
          ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
          ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
          ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
          ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11)
          ∧ r.2.mem ((c.tc : Thread Cert.MixingIdeal.nD Cert.MixingIdeal.τ).loc Cert.MixingIdeal.main_arg12) = m ((c.tc : Thread Cert.MixingIdeal.nD Cert.MixingIdeal.τ).loc Cert.MixingIdeal.main_arg12))
      ∧ θ_run (Cert.MixingRefIdeal.defs (F := Ideal)) (onTc (τ := Cert.MixingRefIdeal.τ) (Cert.MixingRefIdeal.main (F := Ideal))) ⟨m', fun _ => 0, g'⟩ (fun r => ∀ c : Dev Cert.MixingRefIdeal.nD,
          r.2.mem ((c.tc : Thread Cert.MixingRefIdeal.nD Cert.MixingRefIdeal.τ).loc Cert.MixingRefIdeal.main_v49) = v0 c
          ∧ r.2.mem ((c.tc : Thread Cert.MixingRefIdeal.nD Cert.MixingRefIdeal.τ).loc Cert.MixingRefIdeal.main_v62) = v1 c
          ∧ r.2.mem ((c.tc : Thread Cert.MixingRefIdeal.nD Cert.MixingRefIdeal.τ).loc Cert.MixingRefIdeal.main_arg0) = m' ((c.tc : Thread Cert.MixingRefIdeal.nD Cert.MixingRefIdeal.τ).loc Cert.MixingRefIdeal.main_arg0)
          ∧ r.2.mem ((c.tc : Thread Cert.MixingRefIdeal.nD Cert.MixingRefIdeal.τ).loc Cert.MixingRefIdeal.main_arg1) = m' ((c.tc : Thread Cert.MixingRefIdeal.nD Cert.MixingRefIdeal.τ).loc Cert.MixingRefIdeal.main_arg1)
          ∧ r.2.mem ((c.tc : Thread Cert.MixingRefIdeal.nD Cert.MixingRefIdeal.τ).loc Cert.MixingRefIdeal.main_arg2) = m' ((c.tc : Thread Cert.MixingRefIdeal.nD Cert.MixingRefIdeal.τ).loc Cert.MixingRefIdeal.main_arg2)
          ∧ r.2.mem ((c.tc : Thread Cert.MixingRefIdeal.nD Cert.MixingRefIdeal.τ).loc Cert.MixingRefIdeal.main_arg3) = m' ((c.tc : Thread Cert.MixingRefIdeal.nD Cert.MixingRefIdeal.τ).loc Cert.MixingRefIdeal.main_arg3)
          ∧ r.2.mem ((c.tc : Thread Cert.MixingRefIdeal.nD Cert.MixingRefIdeal.τ).loc Cert.MixingRefIdeal.main_arg4) = m' ((c.tc : Thread Cert.MixingRefIdeal.nD Cert.MixingRefIdeal.τ).loc Cert.MixingRefIdeal.main_arg4)
          ∧ r.2.mem ((c.tc : Thread Cert.MixingRefIdeal.nD Cert.MixingRefIdeal.τ).loc Cert.MixingRefIdeal.main_arg5) = m' ((c.tc : Thread Cert.MixingRefIdeal.nD Cert.MixingRefIdeal.τ).loc Cert.MixingRefIdeal.main_arg5)
          ∧ r.2.mem ((c.tc : Thread Cert.MixingRefIdeal.nD Cert.MixingRefIdeal.τ).loc Cert.MixingRefIdeal.main_arg6) = m' ((c.tc : Thread Cert.MixingRefIdeal.nD Cert.MixingRefIdeal.τ).loc Cert.MixingRefIdeal.main_arg6)
          ∧ r.2.mem ((c.tc : Thread Cert.MixingRefIdeal.nD Cert.MixingRefIdeal.τ).loc Cert.MixingRefIdeal.main_arg7) = m' ((c.tc : Thread Cert.MixingRefIdeal.nD Cert.MixingRefIdeal.τ).loc Cert.MixingRefIdeal.main_arg7)
          ∧ r.2.mem ((c.tc : Thread Cert.MixingRefIdeal.nD Cert.MixingRefIdeal.τ).loc Cert.MixingRefIdeal.main_arg8) = m' ((c.tc : Thread Cert.MixingRefIdeal.nD Cert.MixingRefIdeal.τ).loc Cert.MixingRefIdeal.main_arg8)
          ∧ r.2.mem ((c.tc : Thread Cert.MixingRefIdeal.nD Cert.MixingRefIdeal.τ).loc Cert.MixingRefIdeal.main_arg9) = m' ((c.tc : Thread Cert.MixingRefIdeal.nD Cert.MixingRefIdeal.τ).loc Cert.MixingRefIdeal.main_arg9)
          ∧ r.2.mem ((c.tc : Thread Cert.MixingRefIdeal.nD Cert.MixingRefIdeal.τ).loc Cert.MixingRefIdeal.main_arg10) = m' ((c.tc : Thread Cert.MixingRefIdeal.nD Cert.MixingRefIdeal.τ).loc Cert.MixingRefIdeal.main_arg10)
          ∧ r.2.mem ((c.tc : Thread Cert.MixingRefIdeal.nD Cert.MixingRefIdeal.τ).loc Cert.MixingRefIdeal.main_arg11) = m' ((c.tc : Thread Cert.MixingRefIdeal.nD Cert.MixingRefIdeal.τ).loc Cert.MixingRefIdeal.main_arg11)
          ∧ r.2.mem ((c.tc : Thread Cert.MixingRefIdeal.nD Cert.MixingRefIdeal.τ).loc Cert.MixingRefIdeal.main_arg12) = m' ((c.tc : Thread Cert.MixingRefIdeal.nD Cert.MixingRefIdeal.τ).loc Cert.MixingRefIdeal.main_arg12))

def preserves_Preparation_PreparationIdeal : Prop :=
  True

def algebraic_PreparationIdeal_PreparationRefIdeal [hPreparationIdeal : Cert.PreparationIdeal.Facts] [hPreparationRefIdeal : Cert.PreparationRefIdeal.Facts] : Prop :=
  ∀ (m : (ℓ : Loc Cert.PreparationIdeal.nD Cert.PreparationIdeal.τ Cert.PreparationIdeal.sig) → Buf (Elt Ideal) ℓ) (g : Dev Cert.PreparationIdeal.nD → PrngReg)
    (m' : (ℓ : Loc Cert.PreparationRefIdeal.nD Cert.PreparationRefIdeal.τ Cert.PreparationRefIdeal.sig) → Buf (Elt Ideal) ℓ) (g' : Dev Cert.PreparationRefIdeal.nD → PrngReg), Pre_PreparationIdeal m →
    (∀ c : Dev Cert.PreparationIdeal.nD,
      m' ((c.tc : Thread Cert.PreparationRefIdeal.nD Cert.PreparationRefIdeal.τ).loc Cert.PreparationRefIdeal.main_arg0) = m ((c.tc : Thread Cert.PreparationIdeal.nD Cert.PreparationIdeal.τ).loc Cert.PreparationIdeal.main_arg0)
      ∧ m' ((c.tc : Thread Cert.PreparationRefIdeal.nD Cert.PreparationRefIdeal.τ).loc Cert.PreparationRefIdeal.main_arg1) = m ((c.tc : Thread Cert.PreparationIdeal.nD Cert.PreparationIdeal.τ).loc Cert.PreparationIdeal.main_arg1)
      ∧ m' ((c.tc : Thread Cert.PreparationRefIdeal.nD Cert.PreparationRefIdeal.τ).loc Cert.PreparationRefIdeal.main_arg2) = m ((c.tc : Thread Cert.PreparationIdeal.nD Cert.PreparationIdeal.τ).loc Cert.PreparationIdeal.main_arg2)
      ∧ m' ((c.tc : Thread Cert.PreparationRefIdeal.nD Cert.PreparationRefIdeal.τ).loc Cert.PreparationRefIdeal.main_arg3) = m ((c.tc : Thread Cert.PreparationIdeal.nD Cert.PreparationIdeal.τ).loc Cert.PreparationIdeal.main_arg3)
      ∧ m' ((c.tc : Thread Cert.PreparationRefIdeal.nD Cert.PreparationRefIdeal.τ).loc Cert.PreparationRefIdeal.main_arg4) = m ((c.tc : Thread Cert.PreparationIdeal.nD Cert.PreparationIdeal.τ).loc Cert.PreparationIdeal.main_arg4)
      ∧ m' ((c.tc : Thread Cert.PreparationRefIdeal.nD Cert.PreparationRefIdeal.τ).loc Cert.PreparationRefIdeal.main_arg5) = m ((c.tc : Thread Cert.PreparationIdeal.nD Cert.PreparationIdeal.τ).loc Cert.PreparationIdeal.main_arg5)
      ∧ m' ((c.tc : Thread Cert.PreparationRefIdeal.nD Cert.PreparationRefIdeal.τ).loc Cert.PreparationRefIdeal.main_arg6) = m ((c.tc : Thread Cert.PreparationIdeal.nD Cert.PreparationIdeal.τ).loc Cert.PreparationIdeal.main_arg6)
      ∧ m' ((c.tc : Thread Cert.PreparationRefIdeal.nD Cert.PreparationRefIdeal.τ).loc Cert.PreparationRefIdeal.main_arg7) = m ((c.tc : Thread Cert.PreparationIdeal.nD Cert.PreparationIdeal.τ).loc Cert.PreparationIdeal.main_arg7)
      ∧ m' ((c.tc : Thread Cert.PreparationRefIdeal.nD Cert.PreparationRefIdeal.τ).loc Cert.PreparationRefIdeal.main_arg8) = m ((c.tc : Thread Cert.PreparationIdeal.nD Cert.PreparationIdeal.τ).loc Cert.PreparationIdeal.main_arg8)
      ∧ m' ((c.tc : Thread Cert.PreparationRefIdeal.nD Cert.PreparationRefIdeal.τ).loc Cert.PreparationRefIdeal.main_arg9) = m ((c.tc : Thread Cert.PreparationIdeal.nD Cert.PreparationIdeal.τ).loc Cert.PreparationIdeal.main_arg9)
      ∧ m' ((c.tc : Thread Cert.PreparationRefIdeal.nD Cert.PreparationRefIdeal.τ).loc Cert.PreparationRefIdeal.main_arg10) = m ((c.tc : Thread Cert.PreparationIdeal.nD Cert.PreparationIdeal.τ).loc Cert.PreparationIdeal.main_arg10)) →
    ∃ (v0 : (c : Dev Cert.PreparationIdeal.nD) → Buf (Elt Ideal) ((c.tc : Thread Cert.PreparationIdeal.nD Cert.PreparationIdeal.τ).loc Cert.PreparationIdeal.main_v43_5)) (v1 : (c : Dev Cert.PreparationIdeal.nD) → Buf (Elt Ideal) ((c.tc : Thread Cert.PreparationIdeal.nD Cert.PreparationIdeal.τ).loc Cert.PreparationIdeal.main_v43_7)),
      θ_run (Cert.PreparationIdeal.defs (F := Ideal)) (onTc (τ := Cert.PreparationIdeal.τ) (Cert.PreparationIdeal.main (F := Ideal))) ⟨m, fun _ => 0, g⟩ (fun r => ∀ c : Dev Cert.PreparationIdeal.nD,
          r.2.mem ((c.tc : Thread Cert.PreparationIdeal.nD Cert.PreparationIdeal.τ).loc Cert.PreparationIdeal.main_v43_5) = v0 c
          ∧ r.2.mem ((c.tc : Thread Cert.PreparationIdeal.nD Cert.PreparationIdeal.τ).loc Cert.PreparationIdeal.main_v43_7) = v1 c
          ∧ r.2.mem ((c.tc : Thread Cert.PreparationIdeal.nD Cert.PreparationIdeal.τ).loc Cert.PreparationIdeal.main_arg0) = m ((c.tc : Thread Cert.PreparationIdeal.nD Cert.PreparationIdeal.τ).loc Cert.PreparationIdeal.main_arg0)
          ∧ r.2.mem ((c.tc : Thread Cert.PreparationIdeal.nD Cert.PreparationIdeal.τ).loc Cert.PreparationIdeal.main_arg1) = m ((c.tc : Thread Cert.PreparationIdeal.nD Cert.PreparationIdeal.τ).loc Cert.PreparationIdeal.main_arg1)
          ∧ r.2.mem ((c.tc : Thread Cert.PreparationIdeal.nD Cert.PreparationIdeal.τ).loc Cert.PreparationIdeal.main_arg2) = m ((c.tc : Thread Cert.PreparationIdeal.nD Cert.PreparationIdeal.τ).loc Cert.PreparationIdeal.main_arg2)
          ∧ r.2.mem ((c.tc : Thread Cert.PreparationIdeal.nD Cert.PreparationIdeal.τ).loc Cert.PreparationIdeal.main_arg3) = m ((c.tc : Thread Cert.PreparationIdeal.nD Cert.PreparationIdeal.τ).loc Cert.PreparationIdeal.main_arg3)
          ∧ r.2.mem ((c.tc : Thread Cert.PreparationIdeal.nD Cert.PreparationIdeal.τ).loc Cert.PreparationIdeal.main_arg4) = m ((c.tc : Thread Cert.PreparationIdeal.nD Cert.PreparationIdeal.τ).loc Cert.PreparationIdeal.main_arg4)
          ∧ r.2.mem ((c.tc : Thread Cert.PreparationIdeal.nD Cert.PreparationIdeal.τ).loc Cert.PreparationIdeal.main_arg5) = m ((c.tc : Thread Cert.PreparationIdeal.nD Cert.PreparationIdeal.τ).loc Cert.PreparationIdeal.main_arg5)
          ∧ r.2.mem ((c.tc : Thread Cert.PreparationIdeal.nD Cert.PreparationIdeal.τ).loc Cert.PreparationIdeal.main_arg6) = m ((c.tc : Thread Cert.PreparationIdeal.nD Cert.PreparationIdeal.τ).loc Cert.PreparationIdeal.main_arg6)
          ∧ r.2.mem ((c.tc : Thread Cert.PreparationIdeal.nD Cert.PreparationIdeal.τ).loc Cert.PreparationIdeal.main_arg7) = m ((c.tc : Thread Cert.PreparationIdeal.nD Cert.PreparationIdeal.τ).loc Cert.PreparationIdeal.main_arg7)
          ∧ r.2.mem ((c.tc : Thread Cert.PreparationIdeal.nD Cert.PreparationIdeal.τ).loc Cert.PreparationIdeal.main_arg8) = m ((c.tc : Thread Cert.PreparationIdeal.nD Cert.PreparationIdeal.τ).loc Cert.PreparationIdeal.main_arg8)
          ∧ r.2.mem ((c.tc : Thread Cert.PreparationIdeal.nD Cert.PreparationIdeal.τ).loc Cert.PreparationIdeal.main_arg9) = m ((c.tc : Thread Cert.PreparationIdeal.nD Cert.PreparationIdeal.τ).loc Cert.PreparationIdeal.main_arg9)
          ∧ r.2.mem ((c.tc : Thread Cert.PreparationIdeal.nD Cert.PreparationIdeal.τ).loc Cert.PreparationIdeal.main_arg10) = m ((c.tc : Thread Cert.PreparationIdeal.nD Cert.PreparationIdeal.τ).loc Cert.PreparationIdeal.main_arg10))
      ∧ θ_run (Cert.PreparationRefIdeal.defs (F := Ideal)) (onTc (τ := Cert.PreparationRefIdeal.τ) (Cert.PreparationRefIdeal.main (F := Ideal))) ⟨m', fun _ => 0, g'⟩ (fun r => ∀ c : Dev Cert.PreparationRefIdeal.nD,
          r.2.mem ((c.tc : Thread Cert.PreparationRefIdeal.nD Cert.PreparationRefIdeal.τ).loc Cert.PreparationRefIdeal.main_v17) = v0 c
          ∧ r.2.mem ((c.tc : Thread Cert.PreparationRefIdeal.nD Cert.PreparationRefIdeal.τ).loc Cert.PreparationRefIdeal.main_v25) = v1 c
          ∧ r.2.mem ((c.tc : Thread Cert.PreparationRefIdeal.nD Cert.PreparationRefIdeal.τ).loc Cert.PreparationRefIdeal.main_arg0) = m' ((c.tc : Thread Cert.PreparationRefIdeal.nD Cert.PreparationRefIdeal.τ).loc Cert.PreparationRefIdeal.main_arg0)
          ∧ r.2.mem ((c.tc : Thread Cert.PreparationRefIdeal.nD Cert.PreparationRefIdeal.τ).loc Cert.PreparationRefIdeal.main_arg1) = m' ((c.tc : Thread Cert.PreparationRefIdeal.nD Cert.PreparationRefIdeal.τ).loc Cert.PreparationRefIdeal.main_arg1)
          ∧ r.2.mem ((c.tc : Thread Cert.PreparationRefIdeal.nD Cert.PreparationRefIdeal.τ).loc Cert.PreparationRefIdeal.main_arg2) = m' ((c.tc : Thread Cert.PreparationRefIdeal.nD Cert.PreparationRefIdeal.τ).loc Cert.PreparationRefIdeal.main_arg2)
          ∧ r.2.mem ((c.tc : Thread Cert.PreparationRefIdeal.nD Cert.PreparationRefIdeal.τ).loc Cert.PreparationRefIdeal.main_arg3) = m' ((c.tc : Thread Cert.PreparationRefIdeal.nD Cert.PreparationRefIdeal.τ).loc Cert.PreparationRefIdeal.main_arg3)
          ∧ r.2.mem ((c.tc : Thread Cert.PreparationRefIdeal.nD Cert.PreparationRefIdeal.τ).loc Cert.PreparationRefIdeal.main_arg4) = m' ((c.tc : Thread Cert.PreparationRefIdeal.nD Cert.PreparationRefIdeal.τ).loc Cert.PreparationRefIdeal.main_arg4)
          ∧ r.2.mem ((c.tc : Thread Cert.PreparationRefIdeal.nD Cert.PreparationRefIdeal.τ).loc Cert.PreparationRefIdeal.main_arg5) = m' ((c.tc : Thread Cert.PreparationRefIdeal.nD Cert.PreparationRefIdeal.τ).loc Cert.PreparationRefIdeal.main_arg5)
          ∧ r.2.mem ((c.tc : Thread Cert.PreparationRefIdeal.nD Cert.PreparationRefIdeal.τ).loc Cert.PreparationRefIdeal.main_arg6) = m' ((c.tc : Thread Cert.PreparationRefIdeal.nD Cert.PreparationRefIdeal.τ).loc Cert.PreparationRefIdeal.main_arg6)
          ∧ r.2.mem ((c.tc : Thread Cert.PreparationRefIdeal.nD Cert.PreparationRefIdeal.τ).loc Cert.PreparationRefIdeal.main_arg7) = m' ((c.tc : Thread Cert.PreparationRefIdeal.nD Cert.PreparationRefIdeal.τ).loc Cert.PreparationRefIdeal.main_arg7)
          ∧ r.2.mem ((c.tc : Thread Cert.PreparationRefIdeal.nD Cert.PreparationRefIdeal.τ).loc Cert.PreparationRefIdeal.main_arg8) = m' ((c.tc : Thread Cert.PreparationRefIdeal.nD Cert.PreparationRefIdeal.τ).loc Cert.PreparationRefIdeal.main_arg8)
          ∧ r.2.mem ((c.tc : Thread Cert.PreparationRefIdeal.nD Cert.PreparationRefIdeal.τ).loc Cert.PreparationRefIdeal.main_arg9) = m' ((c.tc : Thread Cert.PreparationRefIdeal.nD Cert.PreparationRefIdeal.τ).loc Cert.PreparationRefIdeal.main_arg9)
          ∧ r.2.mem ((c.tc : Thread Cert.PreparationRefIdeal.nD Cert.PreparationRefIdeal.τ).loc Cert.PreparationRefIdeal.main_arg10) = m' ((c.tc : Thread Cert.PreparationRefIdeal.nD Cert.PreparationRefIdeal.τ).loc Cert.PreparationRefIdeal.main_arg10))

def Claim : Prop :=
  ∃ (hAttention : Cert.Attention.Facts) (hAttentionIdeal : Cert.AttentionIdeal.Facts) (hAttentionRefIdeal : Cert.AttentionRefIdeal.Facts) (hProjection : Cert.Projection.Facts) (hProjectionIdeal : Cert.ProjectionIdeal.Facts) (hProjectionRefIdeal : Cert.ProjectionRefIdeal.Facts) (hExperts : Cert.Experts.Facts) (hExpertsIdeal : Cert.ExpertsIdeal.Facts) (hExpertsRefIdeal : Cert.ExpertsRefIdeal.Facts) (hMixing : Cert.Mixing.Facts) (hMixingIdeal : Cert.MixingIdeal.Facts) (hMixingRefIdeal : Cert.MixingRefIdeal.Facts) (hPreparation : Cert.Preparation.Facts) (hPreparationIdeal : Cert.PreparationIdeal.Facts) (hPreparationRefIdeal : Cert.PreparationRefIdeal.Facts) (hPre_finite_scores : Cert.Pre_finite_scores.Facts) (hPre_expert_tables : Cert.Pre_expert_tables.Facts) (hPre_finite_recurrence : Cert.Pre_finite_recurrence.Facts),
    quiescent_Attention (hAttention := hAttention)
    ∧ quiescent_AttentionIdeal (hAttentionIdeal := hAttentionIdeal)
    ∧ quiescent_AttentionIdeal_pre_finite_scores (hAttentionIdeal := hAttentionIdeal) (hPre_finite_scores := hPre_finite_scores)
    ∧ quiescent_AttentionRefIdeal (hAttentionRefIdeal := hAttentionRefIdeal)
    ∧ quiescent_AttentionRefIdeal_pre_finite_scores (hAttentionRefIdeal := hAttentionRefIdeal) (hPre_finite_scores := hPre_finite_scores)
    ∧ quiescent_Projection (hProjection := hProjection)
    ∧ quiescent_ProjectionIdeal (hProjectionIdeal := hProjectionIdeal)
    ∧ quiescent_ProjectionRefIdeal (hProjectionRefIdeal := hProjectionRefIdeal)
    ∧ quiescent_Experts (hExperts := hExperts) (hPre_expert_tables := hPre_expert_tables)
    ∧ quiescent_ExpertsIdeal (hExpertsIdeal := hExpertsIdeal) (hPre_expert_tables := hPre_expert_tables)
    ∧ quiescent_ExpertsRefIdeal (hExpertsRefIdeal := hExpertsRefIdeal)
    ∧ quiescent_ExpertsRefIdeal_pre_expert_tables (hExpertsRefIdeal := hExpertsRefIdeal) (hPre_expert_tables := hPre_expert_tables)
    ∧ quiescent_Mixing (hMixing := hMixing)
    ∧ quiescent_MixingIdeal (hMixingIdeal := hMixingIdeal)
    ∧ quiescent_MixingIdeal_pre_finite_recurrence (hMixingIdeal := hMixingIdeal) (hPre_finite_recurrence := hPre_finite_recurrence)
    ∧ quiescent_MixingRefIdeal (hMixingRefIdeal := hMixingRefIdeal)
    ∧ quiescent_MixingRefIdeal_pre_finite_recurrence (hMixingRefIdeal := hMixingRefIdeal) (hPre_finite_recurrence := hPre_finite_recurrence)
    ∧ quiescent_Preparation (hPreparation := hPreparation)
    ∧ quiescent_PreparationIdeal (hPreparationIdeal := hPreparationIdeal)
    ∧ quiescent_PreparationRefIdeal (hPreparationRefIdeal := hPreparationRefIdeal)
    ∧ preserves_Attention_AttentionIdeal
    ∧ algebraic_AttentionIdeal_AttentionRefIdeal_pre_finite_scores (hAttentionIdeal := hAttentionIdeal) (hAttentionRefIdeal := hAttentionRefIdeal) (hPre_finite_scores := hPre_finite_scores)
    ∧ preserves_Projection_ProjectionIdeal
    ∧ algebraic_ProjectionIdeal_ProjectionRefIdeal (hProjectionIdeal := hProjectionIdeal) (hProjectionRefIdeal := hProjectionRefIdeal)
    ∧ preserves_Experts_ExpertsIdeal
    ∧ algebraic_ExpertsIdeal_ExpertsRefIdeal (hExpertsIdeal := hExpertsIdeal) (hExpertsRefIdeal := hExpertsRefIdeal) (hPre_expert_tables := hPre_expert_tables)
    ∧ preserves_Mixing_MixingIdeal
    ∧ algebraic_MixingIdeal_MixingRefIdeal_pre_finite_recurrence (hMixingIdeal := hMixingIdeal) (hMixingRefIdeal := hMixingRefIdeal) (hPre_finite_recurrence := hPre_finite_recurrence)
    ∧ preserves_Preparation_PreparationIdeal
    ∧ algebraic_PreparationIdeal_PreparationRefIdeal (hPreparationIdeal := hPreparationIdeal) (hPreparationRefIdeal := hPreparationRefIdeal)
-- ==== Pre_expert_tables.lean ====
abbrev S147456x1024 : Shape := ⟨2, ![147456, 1024]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : FVec F S147456x1024 .f32) (main_arg1 : IVec S288 32) (main_arg2 : IVec S1 32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_finite_recurrence.lean ====
abbrev S32768x1024 : Shape := ⟨2, ![32768, 1024]⟩
abbrev S32768x512 : Shape := ⟨2, ![32768, 512]⟩
abbrev S512 : Shape := ⟨1, ![512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x1024 .f32) (main_arg1 : FVec F S32768x512 .bf16) (main_arg2 : FVec F S32768x512 .bf16) (main_arg3 : FVec F S32768x512 .bf16) (main_arg4 : FVec F S32768x512 .bf16) (main_arg5 : FVec F S32768x512 .bf16) (main_arg6 : FVec F S512 .f32) (main_arg7 : FVec F S512 .f32) (main_arg8 : FVec F S512 .f32) (main_arg9 : FVec F S1024x1024 .f32) (main_arg10 : FVec F S1024 .f32) (main_arg11 : FVec F S1024x32 .f32) (main_arg12 : FVec F S32 .f32) : IVec S_ 1 :=
  let main_v0 : FVec F S32768x512 .f32 := (extf .f32 · bitsLt_bf16_f32) main_arg2
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg3
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  main_v10
-- ==== Pre_finite_scores.lean ====
abbrev S4x8192x1536 : Shape := ⟨3, ![4, 8192, 1536]⟩
abbrev S8x15x31 : Shape := ⟨3, ![8, 15, 31]⟩
abbrev S4x8192x1024 : Shape := ⟨3, ![4, 8192, 1024]⟩
abbrev S_ : Shape := ⟨0, ![]⟩

class Facts : Prop where
  slices_S4x8192x1536_S4x8192x1024_0_0_0 : S4x8192x1536.Slices ![0, 0, 0] S4x8192x1024
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S4x8192x1536 .bf16) (main_arg1 : FVec F S8x15x31 .f32) : IVec S_ 1 :=
  let main_v0 : FVec F S4x8192x1024 .bf16 := (extractStridedSlice S4x8192x1024 ![0, 0, 0] · slices_S4x8192x1536_S4x8192x1024_0_0_0) main_arg0
  let main_v1 : FVec F S4x8192x1024 .f32 := (extf .f32 · bitsLt_bf16_f32) main_v0
  let main_v2 : FVec F S4x8192x1024 .f32 := Host.absf main_v1
  let main_cst : FVec F S_ .f32 := constant S_ .f32 0x7F800000#32
  let main_v3 : FVec F S4x8192x1024 .f32 := broadcastInDim S4x8192x1024 ![] bcast_S_S4x8192x1024 main_cst
  let main_v4 : IVec S4x8192x1024 1 := cmpf .olt main_v2 main_v3
  let main_c : IVec S_ 1 := constantI S_ 1 1#1
  let main_v5 : IVec S_ 1 := (fun x v => Host.reduce IntOp.andi x v reducesTo_S4x8192x1024_S_d0_1_2 h_S_) main_v4 main_c
  let main_v6 : FVec F S8x15x31 .f32 := Host.absf main_arg1
  let main_cst_0 : FVec F S_ .f32 := constant S_ .f32 0x7F800000#32
  let main_v7 : FVec F S8x15x31 .f32 := broadcastInDim S8x15x31 ![] bcast_S_S8x15x31 main_cst_0
  let main_v8 : IVec S8x15x31 1 := cmpf .olt main_v6 main_v7
  let main_c_1 : IVec S_ 1 := constantI S_ 1 1#1
  let main_v9 : IVec S_ 1 := (fun x v => Host.reduce IntOp.andi x v reducesTo_S8x15x31_S_d0_1_2 h_S_) main_v8 main_c_1
  let main_v10 : IVec S_ 1 := andi main_v5 main_v9
  main_v10
-- ==== Attention.lean ====
abbrev S4x8192x1536 : Shape := ⟨3, ![4, 8192, 1536]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x8x1 : Shape := ⟨3, ![8, 8, 1]⟩
abbrev S15 : Shape := ⟨1, ![15]⟩
abbrev S1x1x15 : Shape := ⟨3, ![1, 1, 15]⟩
abbrev S8x8x15 : Shape := ⟨3, ![8, 8, 15]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S8x1x8x15x1 : Shape := ⟨5, ![8, 1, 8, 15, 1]⟩
abbrev S1x8x1x15x31 : Shape := ⟨5, ![1, 8, 1, 15, 31]⟩
abbrev S8x8x8x15x31 : Shape := ⟨5, ![8, 8, 8, 15, 31]⟩
abbrev S8x8x8x31 : Shape := ⟨4, ![8, 8, 8, 31]⟩
abbrev S1x1x64x1x64x31 : Shape := ⟨6, ![1, 1, 64, 1, 64, 31]⟩
abbrev S8x8x1x8x1x31 : Shape := ⟨6, ![8, 8, 1, 8, 1, 31]⟩
abbrev S8x8x64x8x64x31 : Shape := ⟨6, ![8, 8, 64, 8, 64, 31]⟩
abbrev S8x8x64x8x64 : Shape := ⟨5, ![8, 8, 64, 8, 64]⟩
abbrev S1x1x64x1x64 : Shape := ⟨5, ![1, 1, 64, 1, 64]⟩
abbrev S8x8x64x512 : Shape := ⟨4, ![8, 8, 64, 512]⟩
abbrev S4x8192x512 : Shape := ⟨3, ![4, 8192, 512]⟩
abbrev S1x1024x128 : Shape := ⟨3, ![1, 1024, 128]⟩
abbrev S1x8192x128 : Shape := ⟨3, ![1, 8192, 128]⟩
abbrev S8x2x64x512 : Shape := ⟨4, ![8, 2, 64, 512]⟩
abbrev S1x128 : Shape := ⟨2, ![1, 128]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S128x128 : Shape := ⟨2, ![128, 128]⟩
abbrev S128x512 : Shape := ⟨2, ![128, 512]⟩
abbrev S1x2x64x512 : Shape := ⟨4, ![1, 2, 64, 512]⟩
abbrev S2x64x512 : Shape := ⟨3, ![2, 64, 512]⟩
abbrev S128 : Shape := ⟨1, ![128]⟩
abbrev S128x1 : Shape := ⟨2, ![128, 1]⟩

abbrev nBuf : Space → Nat
  | .hbm => 90
  | .vmem => 10
  | .smem => 0
  | _ => 0

abbrev bufTy : (tb : Table) → Fin (tcTables nBuf tb) → BufTy
  | .hbm, ⟨0, _⟩ => ⟨S4x8192x1536, .bf16⟩
  | .hbm, ⟨1, _⟩ => ⟨S8x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S8, .i32⟩
  | .hbm, ⟨38, _⟩ => ⟨S8, .i32⟩
  | .hbm, ⟨39, _⟩ => ⟨S1x8, .i32⟩
  | .hbm, ⟨40, _⟩ => ⟨S8x1, .i32⟩
  | .hbm, ⟨41, _⟩ => ⟨S8x8, .i32⟩
  | .hbm, ⟨42, _⟩ => ⟨S8x8, .i32⟩
  | .hbm, ⟨43, _⟩ => ⟨S8x8, .i32⟩
  | .hbm, ⟨44, _⟩ => ⟨S_, .i32⟩
  | .hbm, ⟨45, _⟩ => ⟨S8x8, .i32⟩
  | .hbm, ⟨46, _⟩ => ⟨S8x8, .i32⟩
  | .hbm, ⟨47, _⟩ => ⟨S8x8x1, .i32⟩
  | .hbm, ⟨48, _⟩ => ⟨S15, .i32⟩
  | .hbm, ⟨49, _⟩ => ⟨S1x1x15, .i32⟩
  | .hbm, ⟨50, _⟩ => ⟨S8x8x15, .i32⟩
  | .hbm, ⟨51, _⟩ => ⟨S8x8x15, .i32⟩
  | .hbm, ⟨52, _⟩ => ⟨S8x8x15, .i1⟩
  | .hbm, ⟨53, _⟩ => ⟨S64x64x1, .i32⟩
  | .hbm, ⟨54, _⟩ => ⟨S31, .i32⟩
  | .hbm, ⟨55, _⟩ => ⟨S1x1x31, .i32⟩
  | .hbm, ⟨56, _⟩ => ⟨S64x64x31, .i32⟩
  | .hbm, ⟨57, _⟩ => ⟨S64x64x31, .i32⟩
  | .hbm, ⟨58, _⟩ => ⟨S64x64x31, .i1⟩
  | .hbm, ⟨59, _⟩ => ⟨S64x64x1, .i1⟩
  | .hbm, ⟨60, _⟩ => ⟨S64x64x31, .i1⟩
  | .hbm, ⟨61, _⟩ => ⟨S64x64x31, .i1⟩
  | .hbm, ⟨62, _⟩ => ⟨S8x1x8x15x1, .i1⟩
  | .hbm, ⟨63, _⟩ => ⟨S1x8x1x15x31, .f32⟩
  | .hbm, ⟨64, _⟩ => ⟨S_, .f32⟩
  | .hbm, ⟨65, _⟩ => ⟨S_, .f32⟩
  | .hbm, ⟨66, _⟩ => ⟨S8x8x8x15x31, .i1⟩
  | .hbm, ⟨67, _⟩ => ⟨S8x8x8x15x31, .f32⟩
  | .hbm, ⟨68, _⟩ => ⟨S8x8x8x15x31, .f32⟩
  | .hbm, ⟨69, _⟩ => ⟨S8x8x8x15x31, .f32⟩
  | .hbm, ⟨70, _⟩ => ⟨S_, .f32⟩
  | .hbm, ⟨71, _⟩ => ⟨S8x8x8x31, .f32⟩
  | .hbm, ⟨72, _⟩ => ⟨S1x1x64x1x64x31, .i1⟩
  | .hbm, ⟨73, _⟩ => ⟨S8x8x1x8x1x31, .f32⟩
  | .hbm, ⟨74, _⟩ => ⟨S_, .f32⟩
  | .hbm, ⟨75, _⟩ => ⟨S_, .f32⟩
  | .hbm, ⟨76, _⟩ => ⟨S8x8x64x8x64x31, .i1⟩
  | .hbm, ⟨77, _⟩ => ⟨S8x8x64x8x64x31, .f32⟩
  | .hbm, ⟨78, _⟩ => ⟨S8x8x64x8x64x31, .f32⟩
  | .hbm, ⟨79, _⟩ => ⟨S8x8x64x8x64x31, .f32⟩
  | .hbm, ⟨80, _⟩ => ⟨S_, .f32⟩
  | .hbm, ⟨81, _⟩ => ⟨S8x8x64x8x64, .f32⟩
  | .hbm, ⟨82, _⟩ => ⟨S1x1x64x1x64, .i1⟩
  | .hbm, ⟨83, _⟩ => ⟨S_, .f32⟩
  | .hbm, ⟨84, _⟩ => ⟨S_, .f32⟩
  | .hbm, ⟨85, _⟩ => ⟨S8x8x64x8x64, .i1⟩
  | .hbm, ⟨86, _⟩ => ⟨S8x8x64x8x64, .f32⟩
  | .hbm, ⟨87, _⟩ => ⟨S8x8x64x8x64, .f32⟩
  | .hbm, ⟨88, _⟩ => ⟨S8x8x64x512, .f32⟩
  | .hbm, ⟨89, _⟩ => ⟨S4x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S8x2x64x512, .f32⟩
  | .local _ .vmem, ⟨7, _⟩ => ⟨S8x2x64x512, .f32⟩
  | .local _ .vmem, ⟨8, _⟩ => ⟨S1x1024x128, .bf16⟩
  | .local _ .vmem, ⟨9, _⟩ => ⟨S1x1024x128, .bf16⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let c120_i32 : BitVec 32 := 120#32
  let c0_i32_0 : BitVec 32 := 0#32
  let arg2 : BitVec 32 := BitVec.ofNat 32 (i 2).val
  let c16_i32 : BitVec 32 := 16#32
  let v3 : BitVec 32 := Scalar.muli arg2 c16_i32
  let c0_i32 : BitVec 32 := 0#32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c120_i32 v6
  let c64_i32_3 : BitVec 32 := 64#32
  let v11 : BitVec 32 := Scalar.muli v7 c64_i32_3
  v11
def k0_off1 (i : grid0.Coords) (c0_i32 : BitVec 32) : Fin 3 → Nat :=
  let c0_4 : Index := 0#32
  let c120_i32 : BitVec 32 := 120#32
  let c0_i32_0 : BitVec 32 := 0#32
  let arg2 : BitVec 32 := BitVec.ofNat 32 (i 2).val
  let c16_i32 : BitVec 32 := 16#32
  let v3 : BitVec 32 := Scalar.muli arg2 c16_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c120_i32 v6
  let c64_i32_3 : BitVec 32 := 64#32
  let v11 : BitVec 32 := Scalar.muli v7 c64_i32_3
  let v12 : BitVec 32 := v11
  let v13 : Index := Scalar.indexCast v12
  let c0_5 : Index := 0#32
  ![0, v13.toNat, 0]
def k0_off2 (i : grid0.Coords) (c0_i32 : BitVec 32) : Fin 4 → Nat :=
  let arg2 : BitVec 32 := BitVec.ofNat 32 (i 2).val
  let c16_i32 : BitVec 32 := 16#32
  let v3 : BitVec 32 := Scalar.muli arg2 c16_i32
  let v4 : BitVec 32 := Scalar.addi v3 c0_i32
  let c120_i32 : BitVec 32 := 120#32
  let c0_i32_0 : BitVec 32 := 0#32
  let c4_i32 : BitVec 32 := 4#32
  let v5 : BitVec 32 := Scalar.subi v4 c4_i32
  let v6 : BitVec 32 := Scalar.maxsi c0_i32_0 v5
  let v7 : BitVec 32 := Scalar.minsi c120_i32 v6
  let v8 : BitVec 32 := Scalar.subi v4 v7
  let v27 : Index := Scalar.indexCast v8
  let c0_8 : Index := 0#32
  let c0_9 : Index := 0#32
  let c0_10 : Index := 0#32
  ![v27.toNat, 0, 0, 0]
def k0_mult2 (i : grid0.Coords) : BitVec 32 :=
  let c120_i32_14 : BitVec 32 := 120#32
  let c0_i32_13 : BitVec 32 := 0#32
  let arg2 : BitVec 32 := BitVec.ofNat 32 (i 2).val
  let c16_i32_11 : BitVec 32 := 16#32
  let v32 : BitVec 32 := Scalar.muli arg2 c16_i32_11
  let c1_i32 : BitVec 32 := 1#32
  let v33 : BitVec 32 := Scalar.addi v32 c1_i32
  let c4_i32_12 : BitVec 32 := 4#32
  let v34 : BitVec 32 := Scalar.subi v33 c4_i32_12
  let v35 : BitVec 32 := Scalar.maxsi c0_i32_13 v34
  let v36 : BitVec 32 := Scalar.minsi c120_i32_14 v35
  let c64_i32_17 : BitVec 32 := 64#32
  let v40 : BitVec 32 := Scalar.muli v36 c64_i32_17
  v40
def k0_mult3 (i : grid0.Coords) : BitVec 32 :=
  let c120_i32_29 : BitVec 32 := 120#32
  let c0_i32_28 : BitVec 32 := 0#32
  let arg2 : BitVec 32 := BitVec.ofNat 32 (i 2).val
  let c16_i32_26 : BitVec 32 := 16#32
  let v61 : BitVec 32 := Scalar.muli arg2 c16_i32_26
  let c2_i32 : BitVec 32 := 2#32
  let v62 : BitVec 32 := Scalar.addi v61 c2_i32
  let c4_i32_27 : BitVec 32 := 4#32
  let v63 : BitVec 32 := Scalar.subi v62 c4_i32_27
  let v64 : BitVec 32 := Scalar.maxsi c0_i32_28 v63
  let v65 : BitVec 32 := Scalar.minsi c120_i32_29 v64
  let c64_i32_32 : BitVec 32 := 64#32
  let v69 : BitVec 32 := Scalar.muli v65 c64_i32_32
  v69
def k0_mult4 (i : grid0.Coords) : BitVec 32 :=
  let c120_i32_44 : BitVec 32 := 120#32
  let c0_i32_43 : BitVec 32 := 0#32
  let arg2 : BitVec 32 := BitVec.ofNat 32 (i 2).val
  let c16_i32_41 : BitVec 32 := 16#32
  let v90 : BitVec 32 := Scalar.muli arg2 c16_i32_41
  let c3_i32 : BitVec 32 := 3#32
  let v91 : BitVec 32 := Scalar.addi v90 c3_i32
  let c4_i32_42 : BitVec 32 := 4#32
  let v92 : BitVec 32 := Scalar.subi v91 c4_i32_42
  let v93 : BitVec 32 := Scalar.maxsi c0_i32_43 v92
  let v94 : BitVec 32 := Scalar.minsi c120_i32_44 v93
  let c64_i32_47 : BitVec 32 := 64#32
  let v98 : BitVec 32 := Scalar.muli v94 c64_i32_47
  v98
def k0_mult5 (i : grid0.Coords) : BitVec 32 :=
  let c120_i32_68 : BitVec 32 := 120#32
  let c0_i32_67 : BitVec 32 := 0#32
  let arg2 : BitVec 32 := BitVec.ofNat 32 (i 2).val
  let c16_i32_64 : BitVec 32 := 16#32
  let v142 : BitVec 32 := Scalar.muli arg2 c16_i32_64
  let c4_i32_65 : BitVec 32 := 4#32
  let v143 : BitVec 32 := Scalar.addi v142 c4_i32_65
  let c4_i32_66 : BitVec 32 := 4#32
  let v144 : BitVec 32 := Scalar.subi v143 c4_i32_66
  let v145 : BitVec 32 := Scalar.maxsi c0_i32_67 v144
  let v146 : BitVec 32 := Scalar.minsi c120_i32_68 v145
  let c64_i32_71 : BitVec 32 := 64#32
  let v150 : BitVec 32 := Scalar.muli v146 c64_i32_71
  v150
def k0_mult6 (i : grid0.Coords) : BitVec 32 :=
  let c120_i32_91 : BitVec 32 := 120#32
  let c0_i32_90 : BitVec 32 := 0#32
  let arg2 : BitVec 32 := BitVec.ofNat 32 (i 2).val
  let c16_i32_88 : BitVec 32 := 16#32
  let v194 : BitVec 32 := Scalar.muli arg2 c16_i32_88
  let c5_i32 : BitVec 32 := 5#32
  let v195 : BitVec 32 := Scalar.addi v194 c5_i32
  let c4_i32_89 : BitVec 32 := 4#32
  let v196 : BitVec 32 := Scalar.subi v195 c4_i32_89
  let v197 : BitVec 32 := Scalar.maxsi c0_i32_90 v196
  let v198 : BitVec 32 := Scalar.minsi c120_i32_91 v197
  let c64_i32_94 : BitVec 32 := 64#32
  let v202 : BitVec 32 := Scalar.muli v198 c64_i32_94
  v202
def k0_mult7 (i : grid0.Coords) : BitVec 32 :=
  let c120_i32_114 : BitVec 32 := 120#32
  let c0_i32_113 : BitVec 32 := 0#32
  let arg2 : BitVec 32 := BitVec.ofNat 32 (i 2).val
  let c16_i32_111 : BitVec 32 := 16#32
  let v246 : BitVec 32 := Scalar.muli arg2 c16_i32_111
  let c6_i32 : BitVec 32 := 6#32
  let v247 : BitVec 32 := Scalar.addi v246 c6_i32
  let c4_i32_112 : BitVec 32 := 4#32
  let v248 : BitVec 32 := Scalar.subi v247 c4_i32_112
  let v249 : BitVec 32 := Scalar.maxsi c0_i32_113 v248
  let v250 : BitVec 32 := Scalar.minsi c120_i32_114 v249
  let c64_i32_117 : BitVec 32 := 64#32
  let v254 : BitVec 32 := Scalar.muli v250 c64_i32_117
  v254
def k0_mult8 (i : grid0.Coords) : BitVec 32 :=
  let c120_i32_137 : BitVec 32 := 120#32
  let c0_i32_136 : BitVec 32 := 0#32
  let arg2 : BitVec 32 := BitVec.ofNat 32 (i 2).val
  let c16_i32_134 : BitVec 32 := 16#32
  let v298 : BitVec 32 := Scalar.muli arg2 c16_i32_134
  let c7_i32 : BitVec 32 := 7#32
  let v299 : BitVec 32 := Scalar.addi v298 c7_i32
  let c4_i32_135 : BitVec 32 := 4#32
  let v300 : BitVec 32 := Scalar.subi v299 c4_i32_135
  let v301 : BitVec 32 := Scalar.maxsi c0_i32_136 v300
  let v302 : BitVec 32 := Scalar.minsi c120_i32_137 v301
  let c64_i32_140 : BitVec 32 := 64#32
  let v306 : BitVec 32 := Scalar.muli v302 c64_i32_140
  v306
def k0_mult9 (i : grid0.Coords) : BitVec 32 :=
  let c120_i32_160 : BitVec 32 := 120#32
  let c0_i32_159 : BitVec 32 := 0#32
  let arg2 : BitVec 32 := BitVec.ofNat 32 (i 2).val
  let c16_i32_157 : BitVec 32 := 16#32
  let v350 : BitVec 32 := Scalar.muli arg2 c16_i32_157
  let c8_i32 : BitVec 32 := 8#32
  let v351 : BitVec 32 := Scalar.addi v350 c8_i32
  let c4_i32_158 : BitVec 32 := 4#32
  let v352 : BitVec 32 := Scalar.subi v351 c4_i32_158
  let v353 : BitVec 32 := Scalar.maxsi c0_i32_159 v352
  let v354 : BitVec 32 := Scalar.minsi c120_i32_160 v353
  let c64_i32_163 : BitVec 32 := 64#32
  let v358 : BitVec 32 := Scalar.muli v354 c64_i32_163
  v358
def k0_mult10 (i : grid0.Coords) : BitVec 32 :=
  let c120_i32_183 : BitVec 32 := 120#32
  let c0_i32_182 : BitVec 32 := 0#32
  let arg2 : BitVec 32 := BitVec.ofNat 32 (i 2).val
  let c16_i32_180 : BitVec 32 := 16#32
  let v402 : BitVec 32 := Scalar.muli arg2 c16_i32_180
  let c9_i32 : BitVec 32 := 9#32
  let v403 : BitVec 32 := Scalar.addi v402 c9_i32
  let c4_i32_181 : BitVec 32 := 4#32
  let v404 : BitVec 32 := Scalar.subi v403 c4_i32_181
  let v405 : BitVec 32 := Scalar.maxsi c0_i32_182 v404
  let v406 : BitVec 32 := Scalar.minsi c120_i32_183 v405
  let c64_i32_186 : BitVec 32 := 64#32
  let v410 : BitVec 32 := Scalar.muli v406 c64_i32_186
  v410
def k0_mult11 (i : grid0.Coords) : BitVec 32 :=
  let c120_i32_206 : BitVec 32 := 120#32
  let c0_i32_205 : BitVec 32 := 0#32
  let arg2 : BitVec 32 := BitVec.ofNat 32 (i 2).val
  let c16_i32_203 : BitVec 32 := 16#32
  let v454 : BitVec 32 := Scalar.muli arg2 c16_i32_203
  let c10_i32 : BitVec 32 := 10#32
  let v455 : BitVec 32 := Scalar.addi v454 c10_i32
  let c4_i32_204 : BitVec 32 := 4#32
  let v456 : BitVec 32 := Scalar.subi v455 c4_i32_204
  let v457 : BitVec 32 := Scalar.maxsi c0_i32_205 v456
  let v458 : BitVec 32 := Scalar.minsi c120_i32_206 v457
  let c64_i32_209 : BitVec 32 := 64#32
  let v462 : BitVec 32 := Scalar.muli v458 c64_i32_209
  v462
def k0_mult12 (i : grid0.Coords) : BitVec 32 :=
  let c120_i32_229 : BitVec 32 := 120#32
  let c0_i32_228 : BitVec 32 := 0#32
  let arg2 : BitVec 32 := BitVec.ofNat 32 (i 2).val
  let c16_i32_226 : BitVec 32 := 16#32
  let v506 : BitVec 32 := Scalar.muli arg2 c16_i32_226
  let c11_i32 : BitVec 32 := 11#32
  let v507 : BitVec 32 := Scalar.addi v506 c11_i32
  let c4_i32_227 : BitVec 32 := 4#32
  let v508 : BitVec 32 := Scalar.subi v507 c4_i32_227
  let v509 : BitVec 32 := Scalar.maxsi c0_i32_228 v508
  let v510 : BitVec 32 := Scalar.minsi c120_i32_229 v509
  let c64_i32_232 : BitVec 32 := 64#32
  let v514 : BitVec 32 := Scalar.muli v510 c64_i32_232
  v514
def k0_mult13 (i : grid0.Coords) : BitVec 32 :=
  let c120_i32_252 : BitVec 32 := 120#32
  let c0_i32_251 : BitVec 32 := 0#32
  let arg2 : BitVec 32 := BitVec.ofNat 32 (i 2).val
  let c16_i32_249 : BitVec 32 := 16#32
  let v558 : BitVec 32 := Scalar.muli arg2 c16_i32_249
  let c12_i32 : BitVec 32 := 12#32
  let v559 : BitVec 32 := Scalar.addi v558 c12_i32
  let c4_i32_250 : BitVec 32 := 4#32
  let v560 : BitVec 32 := Scalar.subi v559 c4_i32_250
  let v561 : BitVec 32 := Scalar.maxsi c0_i32_251 v560
  let v562 : BitVec 32 := Scalar.minsi c120_i32_252 v561
  let c64_i32_255 : BitVec 32 := 64#32
  let v566 : BitVec 32 := Scalar.muli v562 c64_i32_255
  v566
def k0_mult14 (i : grid0.Coords) : BitVec 32 :=
  let c120_i32_275 : BitVec 32 := 120#32
  let c0_i32_274 : BitVec 32 := 0#32
  let arg2 : BitVec 32 := BitVec.ofNat 32 (i 2).val
  let c16_i32_272 : BitVec 32 := 16#32
  let v610 : BitVec 32 := Scalar.muli arg2 c16_i32_272
  let c13_i32 : BitVec 32 := 13#32
  let v611 : BitVec 32 := Scalar.addi v610 c13_i32
  let c4_i32_273 : BitVec 32 := 4#32
  let v612 : BitVec 32 := Scalar.subi v611 c4_i32_273
  let v613 : BitVec 32 := Scalar.maxsi c0_i32_274 v612
  let v614 : BitVec 32 := Scalar.minsi c120_i32_275 v613
  let c64_i32_278 : BitVec 32 := 64#32
  let v618 : BitVec 32 := Scalar.muli v614 c64_i32_278
  v618
def k0_mult15 (i : grid0.Coords) : BitVec 32 :=
  let c120_i32_298 : BitVec 32 := 120#32
  let c0_i32_297 : BitVec 32 := 0#32
  let arg2 : BitVec 32 := BitVec.ofNat 32 (i 2).val
  let c16_i32_295 : BitVec 32 := 16#32
  let v662 : BitVec 32 := Scalar.muli arg2 c16_i32_295
  let c14_i32 : BitVec 32 := 14#32
  let v663 : BitVec 32 := Scalar.addi v662 c14_i32
  let c4_i32_296 : BitVec 32 := 4#32
  let v664 : BitVec 32 := Scalar.subi v663 c4_i32_296
  let v665 : BitVec 32 := Scalar.maxsi c0_i32_297 v664
  let v666 : BitVec 32 := Scalar.minsi c120_i32_298 v665
  let c64_i32_301 : BitVec 32 := 64#32
  let v670 : BitVec 32 := Scalar.muli v666 c64_i32_301
  v670
def k0_mult16 (i : grid0.Coords) : BitVec 32 :=
  let c120_i32_321 : BitVec 32 := 120#32
  let c0_i32_320 : BitVec 32 := 0#32
  let arg2 : BitVec 32 := BitVec.ofNat 32 (i 2).val
  let c16_i32_318 : BitVec 32 := 16#32
  let v714 : BitVec 32 := Scalar.muli arg2 c16_i32_318
  let c15_i32 : BitVec 32 := 15#32
  let v715 : BitVec 32 := Scalar.addi v714 c15_i32
  let c4_i32_319 : BitVec 32 := 4#32
  let v716 : BitVec 32 := Scalar.subi v715 c4_i32_319
  let v717 : BitVec 32 := Scalar.maxsi c0_i32_320 v716
  let v718 : BitVec 32 := Scalar.minsi c120_i32_321 v717
  let c64_i32_324 : BitVec 32 := 64#32
  let v722 : BitVec 32 := Scalar.muli v718 c64_i32_324
  v722
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttentionRefIdeal.lean ====
abbrev S4x8192x1536 : Shape := ⟨3, ![4, 8192, 1536]⟩
abbrev S8x15x31 : Shape := ⟨3, ![8, 15, 31]⟩
abbrev S4x8192x512 : Shape := ⟨3, ![4, 8192, 512]⟩
abbrev S4x128x64x8x64 : Shape := ⟨5, ![4, 128, 64, 8, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S4x128x8x64x8x64 : Shape := ⟨6, ![4, 128, 8, 64, 8, 64]⟩
abbrev S64x16x1 : Shape := ⟨3, ![64, 16, 1]⟩
abbrev S4x128x8x64x16x8x64 : Shape := ⟨7, ![4, 128, 8, 64, 16, 8, 64]⟩
abbrev S4x8x128x64x8x16 : Shape := ⟨6, ![4, 8, 128, 64, 8, 16]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S128x64x8x16x1 : Shape := ⟨5, ![128, 64, 8, 16, 1]⟩
abbrev S128x64x8x16x2 : Shape := ⟨5, ![128, 64, 8, 16, 2]⟩
abbrev S8x128x64x8x16 : Shape := ⟨5, ![8, 128, 64, 8, 16]⟩
abbrev S1x8x128x64x8x16 : Shape := ⟨6, ![1, 8, 128, 64, 8, 16]⟩
abbrev S4x8x128x64x128 : Shape := ⟨5, ![4, 8, 128, 64, 128]⟩
abbrev S4x8x128x64 : Shape := ⟨4, ![4, 8, 128, 64]⟩
abbrev S4x8x128x64x1 : Shape := ⟨5, ![4, 8, 128, 64, 1]⟩

abbrev nBuf : Space → Nat
  | .hbm => 143
  | .vmem => 0
  | .smem => 0
  | _ => 0

abbrev hbmTy0_0 (i : Nat) : BufTy := match i % 128 with
  | 0 => ⟨S4x8192x1536, .bf16⟩
  | 1 => ⟨S8x15x31, .f32⟩
  | 2 => ⟨S4x8192x512, .bf16⟩
  | 3 => ⟨S4x8192x512, .f32⟩
  | 4 => ⟨S4x128x64x8x64, .f32⟩
  | 5 => ⟨S4x8192x512, .bf16⟩
  | 6 => ⟨S4x8192x512, .f32⟩
  | 7 => ⟨S4x128x64x8x64, .f32⟩
  | 8 => ⟨S4x8192x512, .bf16⟩
  | 9 => ⟨S4x8192x512, .f32⟩
  | 10 => ⟨S4x128x64x8x64, .f32⟩
  | 11 => ⟨S64, .i32⟩
  | 12 => ⟨S_, .i32⟩
  | 13 => ⟨S64, .i32⟩
  | 14 => ⟨S64, .i32⟩
  | 15 => ⟨S_, .i32⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S64x1, .i32⟩
  | 24 => ⟨S16, .i32⟩
  | 25 => ⟨S1x16, .i32⟩
  | 26 => ⟨S64x16, .i32⟩
  | 27 => ⟨S64x16, .i32⟩
  | 28 => ⟨S64x16, .i32⟩
  | 29 => ⟨S64x1, .i32⟩
  | 30 => ⟨S64x16, .i32⟩
  | 31 => ⟨S64x16, .i32⟩
  | 32 => ⟨S_, .i32⟩
  | 33 => ⟨S64x16, .i32⟩
  | 34 => ⟨S64x16, .i32⟩
  | 35 => ⟨S128, .i32⟩
  | 36 => ⟨S_, .i32⟩
  | 37 => ⟨S128, .i32⟩
  | 38 => ⟨S128, .i32⟩
  | 39 => ⟨S_, .i32⟩
  | 40 => ⟨S_, .i32⟩
  | 41 => ⟨S_, .i32⟩
  | 42 => ⟨S128, .i32⟩
  | 43 => ⟨S128, .i32⟩
  | 44 => ⟨S_, .i32⟩
  | 45 => ⟨S128, .i32⟩
  | 46 => ⟨S128, .i32⟩
  | 47 => ⟨S128x1, .i32⟩
  | 48 => ⟨S8, .i32⟩
  | 49 => ⟨S1x8, .i32⟩
  | 50 => ⟨S128x8, .i32⟩
  | 51 => ⟨S128x8, .i32⟩
  | 52 => ⟨S128x8, .i32⟩
  | 53 => ⟨S128x1, .i32⟩
  | 54 => ⟨S128x8, .i32⟩
  | 55 => ⟨S128x8, .i32⟩
  | 56 => ⟨S_, .i32⟩
  | 57 => ⟨S128x8, .i32⟩
  | 58 => ⟨S128x8, .i32⟩
  | 59 => ⟨S_, .i32⟩
  | 60 => ⟨S128x8, .i32⟩
  | 61 => ⟨S128x8, .i1⟩
  | 62 => ⟨S_, .i32⟩
  | 63 => ⟨S128x8, .i32⟩
  | 64 => ⟨S128x8, .i32⟩
  | 65 => ⟨S128x8, .i32⟩
  | 66 => ⟨S128x8x1, .i32⟩
  | 67 => ⟨S4x128x8x64x8x64, .f32⟩
  | 68 => ⟨S_, .i32⟩
  | 69 => ⟨S64x16, .i32⟩
  | 70 => ⟨S64x16, .i1⟩
  | 71 => ⟨S_, .i32⟩
  | 72 => ⟨S64x16, .i32⟩
  | 73 => ⟨S64x16, .i32⟩
  | 74 => ⟨S64x16, .i32⟩
  | 75 => ⟨S64x16x1, .i32⟩
  | 76 => ⟨S4x128x8x64x16x8x64, .f32⟩
  | 77 => ⟨S_, .i32⟩
  | 78 => ⟨S128x8, .i32⟩
  | 79 => ⟨S128x8, .i1⟩
  | 80 => ⟨S_, .i32⟩
  | 81 => ⟨S128x8, .i32⟩
  | 82 => ⟨S128x8, .i32⟩
  | 83 => ⟨S128x8, .i32⟩
  | 84 => ⟨S128x8x1, .i32⟩
  | 85 => ⟨S4x128x8x64x8x64, .f32⟩
  | 86 => ⟨S_, .i32⟩
  | 87 => ⟨S64x16, .i32⟩
  | 88 => ⟨S64x16, .i1⟩
  | 89 => ⟨S_, .i32⟩
  | 90 => ⟨S64x16, .i32⟩
  | 91 => ⟨S64x16, .i32⟩
  | 92 => ⟨S64x16, .i32⟩
  | 93 => ⟨S64x16x1, .i32⟩
  | 94 => ⟨S4x128x8x64x16x8x64, .f32⟩
  | 95 => ⟨S4x8x128x64x8x16, .f32⟩
  | 96 => ⟨S_, .f32⟩
  | 97 => ⟨S4x8x128x64x8x16, .f32⟩
  | 98 => ⟨S4x8x128x64x8x16, .f32⟩
  | 99 => ⟨S128x1x8x1, .i32⟩
  | 100 => ⟨S1x64x1x16, .i32⟩
  | 101 => ⟨S_, .i32⟩
  | 102 => ⟨S128x1x8x1, .i32⟩
  | 103 => ⟨S128x1x8x1, .i1⟩
  | 104 => ⟨S_, .i32⟩
  | 105 => ⟨S128x1x8x1, .i32⟩
  | 106 => ⟨S128x1x8x1, .i32⟩
  | 107 => ⟨S128x1x8x1, .i32⟩
  | 108 => ⟨S_, .i32⟩
  | 109 => ⟨S1x64x1x16, .i32⟩
  | 110 => ⟨S1x64x1x16, .i1⟩
  | 111 => ⟨S_, .i32⟩
  | 112 => ⟨S1x64x1x16, .i32⟩
  | 113 => ⟨S1x64x1x16, .i32⟩
  | 114 => ⟨S1x64x1x16, .i32⟩
  | 115 => ⟨S128x64x8x16, .i32⟩
  | 116 => ⟨S128x64x8x16, .i32⟩
  | 117 => ⟨S128x64x8x16x1, .i32⟩
  | 118 => ⟨S128x64x8x16x1, .i32⟩
  | 119 => ⟨S128x64x8x16x2, .i32⟩
  | 120 => ⟨S8x128x64x8x16, .f32⟩
  | 121 => ⟨S1x8x128x64x8x16, .f32⟩
  | 122 => ⟨S4x8x128x64x8x16, .f32⟩
  | 123 => ⟨S4x8x128x64x8x16, .f32⟩
  | 124 => ⟨S4x8x128x64x128, .f32⟩
  | 125 => ⟨S_, .f32⟩
  | 126 => ⟨S4x8x128x64, .f32⟩
  | 127 => ⟨S_, .f32⟩
  | _ => ⟨S4x8192x1536, .bf16⟩

abbrev hbmTy0_1 (i : Nat) : BufTy := match i % 128 with
  | 0 => ⟨S4x8x128x64, .f32⟩
  | 1 => ⟨S4x8x128x64, .f32⟩
  | 2 => ⟨S4x8x128x64x1, .f32⟩
  | 3 => ⟨S4x8x128x64x128, .f32⟩
  | 4 => ⟨S4x8x128x64x128, .f32⟩
  | 5 => ⟨S4x8x128x64x128, .f32⟩
  | 6 => ⟨S_, .f32⟩
  | 7 => ⟨S4x8x128x64, .f32⟩
  | 8 => ⟨S4x8x128x64x1, .f32⟩
  | 9 => ⟨S4x8x128x64x128, .f32⟩
  | 10 => ⟨S4x8x128x64x128, .f32⟩
  | 11 => ⟨S4x8x128x64x8x16, .f32⟩
  | 12 => ⟨S4x128x64x8x64, .f32⟩
  | 13 => ⟨S4x8192x512, .f32⟩
  | 14 => ⟨S4x8192x512, .bf16⟩
  | _ => ⟨S4x8192x1536, .bf16⟩

abbrev hbmTy (i : Nat) : BufTy := match i / 128 with
  | 0 => hbmTy0_0 i
  | 1 => hbmTy0_1 i
  | _ => ⟨S4x8192x1536, .bf16⟩

abbrev bufTy : (tb : Table) → Fin (tcTables nBuf tb) → BufTy
  | .hbm, ⟨i, _⟩ => hbmTy i
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev main_cst_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]
-- ==== Projection.lean ====
abbrev S4x8192x1024 : Shape := ⟨3, ![4, 8192, 1024]⟩
abbrev S1x1024 : Shape := ⟨2, ![1, 1024]⟩
abbrev S1x1024x3456 : Shape := ⟨3, ![1, 1024, 3456]⟩
abbrev S32768x1024 : Shape := ⟨2, ![32768, 1024]⟩
abbrev S1024 : Shape := ⟨1, ![1024]⟩
abbrev S1024x3456 : Shape := ⟨2, ![1024, 3456]⟩
abbrev S32768x1536 : Shape := ⟨2, ![32768, 1536]⟩
abbrev S32768x1920 : Shape := ⟨2, ![32768, 1920]⟩
abbrev S512x1024 : Shape := ⟨2, ![512, 1024]⟩
abbrev S512x1536 : Shape := ⟨2, ![512, 1536]⟩
abbrev S512x1920 : Shape := ⟨2, ![512, 1920]⟩
abbrev S512 : Shape := ⟨1, ![512]⟩
abbrev S512x1 : Shape := ⟨2, ![512, 1]⟩
abbrev S1024x1536 : Shape := ⟨2, ![1024, 1536]⟩
abbrev S1024x1920 : Shape := ⟨2, ![1024, 1920]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3456, .f32⟩
  | .hbm, ⟨3, _⟩ => ⟨S32768x1024, .f32⟩
  | .hbm, ⟨4, _⟩ => ⟨S1024, .f32⟩
  | .hbm, ⟨5, _⟩ => ⟨S1024x3456, .f32⟩
  | .hbm, ⟨6, _⟩ => ⟨S1024x3456, .bf16⟩
  | .hbm, ⟨7, _⟩ => ⟨S1x1024, .f32⟩
  | .hbm, ⟨8, _⟩ => ⟨S32768x1536, .bf16⟩
  | .hbm, ⟨9, _⟩ => ⟨S32768x1920, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x1536, .bf16⟩
  | .local _ .vmem, ⟨5, _⟩ => ⟨S512x1536, .bf16⟩
  | .local _ .vmem, ⟨6, _⟩ => ⟨S512x1920, .bf16⟩
  | .local _ .vmem, ⟨7, _⟩ => ⟨S512x1920, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectionRefIdeal.lean ====
abbrev S4x8192x1024 : Shape := ⟨3, ![4, 8192, 1024]⟩
abbrev S1x1024 : Shape := ⟨2, ![1, 1024]⟩
abbrev S1x1024x3456 : Shape := ⟨3, ![1, 1024, 3456]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x3456 : Shape := ⟨2, ![1024, 3456]⟩
abbrev S4x8192x3456 : Shape := ⟨3, ![4, 8192, 3456]⟩
abbrev S32768x3456 : Shape := ⟨2, ![32768, 3456]⟩
abbrev S32768x1536 : Shape := ⟨2, ![32768, 1536]⟩
abbrev S32768x1920 : Shape := ⟨2, ![32768, 1920]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3456, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x3456, .f32⟩
  | .hbm, ⟨21, _⟩ => ⟨S4x8192x3456, .f32⟩
  | .hbm, ⟨22, _⟩ => ⟨S32768x3456, .f32⟩
  | .hbm, ⟨23, _⟩ => ⟨S32768x1536, .f32⟩
  | .hbm, ⟨24, _⟩ => ⟨S32768x1536, .bf16⟩
  | .hbm, ⟨25, _⟩ => ⟨S32768x1920, .f32⟩
  | .hbm, ⟨26, _⟩ => ⟨S32768x1920, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Experts.lean ====
abbrev S147456x1024 : Shape := ⟨2, ![147456, 1024]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S147456x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S147456x1024 : Shape := ⟨2, ![147456, 1024]⟩
abbrev S288 : Shape := ⟨1, ![288]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S32x2048 : Shape := ⟨2, ![32, 2048]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S288, .i32⟩
  | .hbm, ⟨2, _⟩ => ⟨S1, .i32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S32x2048, .f32⟩
  | .hbm, ⟨8, _⟩ => ⟨S32x1024, .f32⟩
  | .hbm, ⟨9, _⟩ => ⟨S288x512x1024, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .f32⟩
  | .hbm, ⟨19, _⟩ => ⟨S288x512x2048, .f32⟩
  | .hbm, ⟨20, _⟩ => ⟨S_, .i32⟩
  | .hbm, ⟨21, _⟩ => ⟨S288, .i32⟩
  | .hbm, ⟨22, _⟩ => ⟨S288, .i1⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S288x1, .i32⟩
  | .hbm, ⟨28, _⟩ => ⟨S288x2048, .f32⟩
  | .hbm, ⟨29, _⟩ => ⟨S288x1x2048, .f32⟩
  | .hbm, ⟨30, _⟩ => ⟨S288x512x2048, .f32⟩
  | .hbm, ⟨31, _⟩ => ⟨S288x512x2048, .f32⟩
  | .hbm, ⟨32, _⟩ => ⟨S288x512x1024, .f32⟩
  | .hbm, ⟨33, _⟩ => ⟨S288x512x1024, .f32⟩
  | .hbm, ⟨34, _⟩ => ⟨S_, .f32⟩
  | .hbm, ⟨35, _⟩ => ⟨S288x512x1024, .f32⟩
  | .hbm, ⟨36, _⟩ => ⟨S288x512x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S288x512x1024, .f32⟩
  | .hbm, ⟨41, _⟩ => ⟨S288x512x1024, .f32⟩
  | .hbm, ⟨42, _⟩ => ⟨S_, .f32⟩
  | .hbm, ⟨43, _⟩ => ⟨S288x512x1024, .f32⟩
  | .hbm, ⟨44, _⟩ => ⟨S288x512x1024, .f32⟩
  | .hbm, ⟨45, _⟩ => ⟨S_, .f32⟩
  | .hbm, ⟨46, _⟩ => ⟨S288x512x1024, .f32⟩
  | .hbm, ⟨47, _⟩ => ⟨S288x512x1024, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S288x512x1024, .f32⟩
  | .hbm, ⟨52, _⟩ => ⟨S288x512x1024, .f32⟩
  | .hbm, ⟨53, _⟩ => ⟨S_, .f32⟩
  | .hbm, ⟨54, _⟩ => ⟨S288x512x1024, .f32⟩
  | .hbm, ⟨55, _⟩ => ⟨S288x512x1024, .f32⟩
  | .hbm, ⟨56, _⟩ => ⟨S_, .f32⟩
  | .hbm, ⟨57, _⟩ => ⟨S288x512x1024, .f32⟩
  | .hbm, ⟨58, _⟩ => ⟨S288x512x1024, .f32⟩
  | .hbm, ⟨59, _⟩ => ⟨S288x512x1024, .f32⟩
  | .hbm, ⟨60, _⟩ => ⟨S288x512x1024, .f32⟩
  | .hbm, ⟨61, _⟩ => ⟨S_, .i32⟩
  | .hbm, ⟨62, _⟩ => ⟨S288, .i32⟩
  | .hbm, ⟨63, _⟩ => ⟨S288, .i1⟩
  | .hbm, ⟨64, _⟩ => ⟨S_, .i32⟩
  | .hbm, ⟨65, _⟩ => ⟨S288, .i32⟩
  | .hbm, ⟨66, _⟩ => ⟨S288, .i32⟩
  | .hbm, ⟨67, _⟩ => ⟨S288, .i32⟩
  | .hbm, ⟨68, _⟩ => ⟨S288x1, .i32⟩
  | .hbm, ⟨69, _⟩ => ⟨S288x1024x1024, .f32⟩
  | .hbm, ⟨70, _⟩ => ⟨S288x512x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S_, .i32⟩
  | .hbm, ⟨75, _⟩ => ⟨S288, .i32⟩
  | .hbm, ⟨76, _⟩ => ⟨S288, .i32⟩
  | .hbm, ⟨77, _⟩ => ⟨S288, .i32⟩
  | .hbm, ⟨78, _⟩ => ⟨S288x1, .i32⟩
  | .hbm, ⟨79, _⟩ => ⟨S288x1024, .f32⟩
  | .hbm, ⟨80, _⟩ => ⟨S288x1x1024, .f32⟩
  | .hbm, ⟨81, _⟩ => ⟨S288x512x1024, .f32⟩
  | .hbm, ⟨82, _⟩ => ⟨S288x512x1024, .f32⟩
  | .hbm, ⟨83, _⟩ => ⟨S288, .i32⟩
  | .hbm, ⟨84, _⟩ => ⟨S288x1x1, .i32⟩
  | .hbm, ⟨85, _⟩ => ⟨S_, .i32⟩
  | .hbm, ⟨86, _⟩ => ⟨S288x1x1, .i32⟩
  | .hbm, ⟨87, _⟩ => ⟨S288x1x1, .i1⟩
  | .hbm, ⟨88, _⟩ => ⟨S_, .f32⟩
  | .hbm, ⟨89, _⟩ => ⟨S_, .f32⟩
  | .hbm, ⟨90, _⟩ => ⟨S288x512x1024, .i1⟩
  | .hbm, ⟨91, _⟩ => ⟨S288x512x1024, .f32⟩
  | .hbm, ⟨92, _⟩ => ⟨S288x512x1024, .f32⟩
  | .hbm, ⟨93, _⟩ => ⟨S147456x1024, .f32⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Mixing.lean ====
abbrev S32768x1024 : Shape := ⟨2, ![32768, 1024]⟩
abbrev S32768x512 : Shape := ⟨2, ![32768, 512]⟩
abbrev S512 : Shape := ⟨1, ![512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S256x256 : Shape := ⟨2, ![256, 256]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1024x128 : Shape := ⟨2, ![1024, 128]⟩
abbrev S1 : Shape := ⟨1, ![1]⟩
abbrev S1x1024x128 : Shape := ⟨3, ![1, 1024, 128]⟩
abbrev S2x1024x128 : Shape := ⟨3, ![2, 1024, 128]⟩
abbrev S1x128 : Shape := ⟨2, ![1, 128]⟩
abbrev S2 : Shape := ⟨1, ![2]⟩
abbrev S1x1024 : Shape := ⟨2, ![1, 1024]⟩
abbrev S32768x128 : Shape := ⟨2, ![32768, 128]⟩
abbrev S1024x512 : Shape := ⟨2, ![1024, 512]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S128 : Shape := ⟨1, ![128]⟩

abbrev nBuf : Space → Nat
  | .hbm => 53
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S512, .i32⟩
  | .hbm, ⟨14, _⟩ => ⟨S256x256, .bf16⟩
  | .hbm, ⟨15, _⟩ => ⟨S512x1, .i32⟩
  | .hbm, ⟨16, _⟩ => ⟨S1x512, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S512x512, .bf16⟩
  | .hbm, ⟨22, _⟩ => ⟨S_, .f32⟩
  | .hbm, ⟨23, _⟩ => ⟨S1024x128, .f32⟩
  | .hbm, ⟨24, _⟩ => ⟨S_, .i32⟩
  | .hbm, ⟨25, _⟩ => ⟨S1, .i32⟩
  | .hbm, ⟨26, _⟩ => ⟨S1024x128, .f32⟩
  | .hbm, ⟨27, _⟩ => ⟨S1024x128, .bf16⟩
  | .hbm, ⟨28, _⟩ => ⟨S1024x128, .f32⟩
  | .hbm, ⟨29, _⟩ => ⟨S1024x128, .f32⟩
  | .hbm, ⟨30, _⟩ => ⟨S1024x128, .bf16⟩
  | .hbm, ⟨31, _⟩ => ⟨S1x1024x128, .bf16⟩
  | .hbm, ⟨32, _⟩ => ⟨S1x1024x128, .bf16⟩
  | .hbm, ⟨33, _⟩ => ⟨S2x1024x128, .bf16⟩
  | .hbm, ⟨34, _⟩ => ⟨S_, .f32⟩
  | .hbm, ⟨35, _⟩ => ⟨S1x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1024x1024, .bf16⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S32768x128, .i32⟩
  | .hbm, ⟨50, _⟩ => ⟨S32768x128, .f32⟩
  | .hbm, ⟨51, _⟩ => ⟨S32768x128, .i32⟩
  | .hbm, ⟨52, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S1024x1024, .bf16⟩
  | .local _ .vmem, ⟨17, _⟩ => ⟨S1x1024, .f32⟩
  | .local _ .vmem, ⟨18, _⟩ => ⟨S2x1024x128, .bf16⟩
  | .local _ .vmem, ⟨19, _⟩ => ⟨S1x128, .f32⟩
  | .local _ .vmem, ⟨20, _⟩ => ⟨S256x256, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x128, .i32⟩
  | .local _ .vmem, ⟨26, _⟩ => ⟨S1024x128, .i32⟩
  | .local _ .vmem, ⟨27, _⟩ => ⟨S1024x128, .f32⟩
  | .local _ .vmem, ⟨28, _⟩ => ⟨S1024x128, .f32⟩
  | .local _ .vmem, ⟨29, _⟩ => ⟨S1024x128, .i32⟩
  | .local _ .vmem, ⟨30, _⟩ => ⟨S1024x128, .i32⟩
  | .local _ .vmem, ⟨31, _⟩ => ⟨S1x128, .f32⟩
  | .local _ .vmem, ⟨32, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev main_v27_4 : Ref sig .tc := ⟨.hbm, 51, rfl⟩
abbrev main_v27_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MixingRefIdeal.lean ====
abbrev S32768x1024 : Shape := ⟨2, ![32768, 1024]⟩
abbrev S32768x512 : Shape := ⟨2, ![32768, 512]⟩
abbrev S512 : Shape := ⟨1, ![512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S32768x8x64 : Shape := ⟨3, ![32768, 8, 64]⟩
abbrev S32768x8 : Shape := ⟨2, ![32768, 8]⟩
abbrev S32768x8x1 : Shape := ⟨3, ![32768, 8, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S32768x512, .f32⟩
  | .hbm, ⟨14, _⟩ => ⟨S32768x512, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x512, .f32⟩
  | .hbm, ⟨26, _⟩ => ⟨S32768x512, .f32⟩
  | .hbm, ⟨27, _⟩ => ⟨S1x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x8x64, .f32⟩
  | .hbm, ⟨34, _⟩ => ⟨S_, .f32⟩
  | .hbm, ⟨35, _⟩ => ⟨S32768x8, .f32⟩
  | .hbm, ⟨36, _⟩ => ⟨S32768x8x1, .f32⟩
  | .hbm, ⟨37, _⟩ => ⟨S_, .f32⟩
  | .hbm, ⟨38, _⟩ => ⟨S32768x8x1, .f32⟩
  | .hbm, ⟨39, _⟩ => ⟨S32768x8x1, .f32⟩
  | .hbm, ⟨40, _⟩ => ⟨S32768x8x64, .f32⟩
  | .hbm, ⟨41, _⟩ => ⟨S32768x8x64, .f32⟩
  | .hbm, ⟨42, _⟩ => ⟨S32768x8x64, .f32⟩
  | .hbm, ⟨43, _⟩ => ⟨S_, .f32⟩
  | .hbm, ⟨44, _⟩ => ⟨S32768x8, .f32⟩
  | .hbm, ⟨45, _⟩ => ⟨S32768x8x1, .f32⟩
  | .hbm, ⟨46, _⟩ => ⟨S_, .f32⟩
  | .hbm, ⟨47, _⟩ => ⟨S32768x8x1, .f32⟩
  | .hbm, ⟨48, _⟩ => ⟨S32768x8x1, .f32⟩
  | .hbm, ⟨49, _⟩ => ⟨S32768x8x64, .f32⟩
  | .hbm, ⟨50, _⟩ => ⟨S32768x8x64, .f32⟩
  | .hbm, ⟨51, _⟩ => ⟨S_, .f32⟩
  | .hbm, ⟨52, _⟩ => ⟨S32768x8x1, .f32⟩
  | .hbm, ⟨53, _⟩ => ⟨S32768x8x1, .f32⟩
  | .hbm, ⟨54, _⟩ => ⟨S32768x8x1, .f32⟩
  | .hbm, ⟨55, _⟩ => ⟨S32768x8x64, .f32⟩
  | .hbm, ⟨56, _⟩ => ⟨S32768x8x64, .f32⟩
  | .hbm, ⟨57, _⟩ => ⟨S32768x512, .f32⟩
  | .hbm, ⟨58, _⟩ => ⟨S1x512, .f32⟩
  | .hbm, ⟨59, _⟩ => ⟨S32768x512, .f32⟩
  | .hbm, ⟨60, _⟩ => ⟨S32768x512, .f32⟩
  | .hbm, ⟨61, _⟩ => ⟨S1x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S32768x1, .f32⟩
  | .hbm, ⟨82, _⟩ => ⟨S32768x1024, .f32⟩
  | .hbm, ⟨83, _⟩ => ⟨S32768x1024, .f32⟩
  | .hbm, ⟨84, _⟩ => ⟨S1x1024, .f32⟩
  | .hbm, ⟨85, _⟩ => ⟨S32768x1024, .f32⟩
  | .hbm, ⟨86, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Preparation.lean ====
abbrev S4x8192x1920 : Shape := ⟨3, ![4, 8192, 1920]⟩
abbrev S1920 : Shape := ⟨1, ![1920]⟩
abbrev S1024 : Shape := ⟨1, ![1024]⟩
abbrev S2x64x512 : Shape := ⟨3, ![2, 64, 512]⟩
abbrev S128x512 : Shape := ⟨2, ![128, 512]⟩
abbrev S512 : Shape := ⟨1, ![512]⟩
abbrev S2x256x256 : Shape := ⟨3, ![2, 256, 256]⟩
abbrev S_ : Shape := ⟨0, ![]⟩
abbrev S128x1024 : Shape := ⟨2, ![128, 1024]⟩
abbrev S1x64x512 : Shape := ⟨3, ![1, 64, 512]⟩
abbrev S64x512 : Shape := ⟨2, ![64, 512]⟩
abbrev S1 : Shape := ⟨1, ![1]⟩
abbrev S2 : Shape := ⟨1, ![2]⟩
abbrev S512x1 : Shape := ⟨2, ![512, 1]⟩
abbrev S1x512 : Shape := ⟨2, ![1, 512]⟩
abbrev S512x512 : Shape := ⟨2, ![512, 512]⟩
abbrev S1x1920 : Shape := ⟨2, ![1, 1920]⟩
abbrev S1x1024 : Shape := ⟨2, ![1, 1024]⟩
abbrev S2x4x8192x512 : Shape := ⟨4, ![2, 4, 8192, 512]⟩
abbrev S2x4x128x1x512 : Shape := ⟨5, ![2, 4, 128, 1, 512]⟩
abbrev S4x8192x512 : Shape := ⟨3, ![4, 8192, 512]⟩
abbrev S1x256x1920 : Shape := ⟨3, ![1, 256, 1920]⟩
abbrev S1x16x1920 : Shape := ⟨3, ![1, 16, 1920]⟩
abbrev S2x1x256x512 : Shape := ⟨4, ![2, 1, 256, 512]⟩
abbrev S2x1x4x1x512 : Shape := ⟨5, ![2, 1, 4, 1, 512]⟩
abbrev S1x256x512 : Shape := ⟨3, ![1, 256, 512]⟩
abbrev S256x1920 : Shape := ⟨2, ![256, 1920]⟩
abbrev S1x1x1920 : Shape := ⟨3, ![1, 1, 1920]⟩
abbrev S256x1 : Shape := ⟨2, ![256, 1]⟩
abbrev S256x512 : Shape := ⟨2, ![256, 512]⟩
abbrev S256x128 : Shape := ⟨2, ![256, 128]⟩
abbrev S256x1024 : Shape := ⟨2, ![256, 1024]⟩
abbrev S1x256x256 : Shape := ⟨3, ![1, 256, 256]⟩
abbrev S256x256 : Shape := ⟨2, ![256, 256]⟩
abbrev S4x64x512 : Shape := ⟨3, ![4, 64, 512]⟩
abbrev S4x1x512 : Shape := ⟨3, ![4, 1, 512]⟩
abbrev S1x1x256x512 : Shape := ⟨4, ![1, 1, 256, 512]⟩
abbrev S1x1x4x1x512 : Shape := ⟨5, ![1, 1, 4, 1, 512]⟩

abbrev nBuf : Space → Nat
  | .hbm => 74
  | .vmem => 34
  | .smem => 0
  | _ => 0

abbrev bufTy : (tb : Table) → Fin (tcTables nBuf tb) → BufTy
  | .hbm, ⟨0, _⟩ => ⟨S4x8192x1920, .bf16⟩
  | .hbm, ⟨1, _⟩ => ⟨S1920, .f32⟩
  | .hbm, ⟨2, _⟩ => ⟨S1920, .f32⟩
  | .hbm, ⟨3, _⟩ => ⟨S1024, .f32⟩
  | .hbm, ⟨4, _⟩ => ⟨S2x64x512, .f32⟩
  | .hbm, ⟨5, _⟩ => ⟨S1024, .f32⟩
  | .hbm, ⟨6, _⟩ => ⟨S2x64x512, .f32⟩
  | .hbm, ⟨7, _⟩ => ⟨S128x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .i32⟩
  | .hbm, ⟨12, _⟩ => ⟨S2x256x256, .bf16⟩
  | .hbm, ⟨13, _⟩ => ⟨S_, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S1x64x512, .f32⟩
  | .hbm, ⟨18, _⟩ => ⟨S64x512, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x1024, .f32⟩
  | .hbm, ⟨25, _⟩ => ⟨S1x64x512, .f32⟩
  | .hbm, ⟨26, _⟩ => ⟨S64x512, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S128x1024, .f32⟩
  | .hbm, ⟨33, _⟩ => ⟨S1x64x512, .f32⟩
  | .hbm, ⟨34, _⟩ => ⟨S64x512, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S128x1024, .f32⟩
  | .hbm, ⟨41, _⟩ => ⟨S1x64x512, .f32⟩
  | .hbm, ⟨42, _⟩ => ⟨S64x512, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S128x1024, .f32⟩
  | .hbm, ⟨49, _⟩ => ⟨S512x1, .i32⟩
  | .hbm, ⟨50, _⟩ => ⟨S1x512, .i32⟩
  | .hbm, ⟨51, _⟩ => ⟨S512x512, .i32⟩
  | .hbm, ⟨52, _⟩ => ⟨S512x512, .i32⟩
  | .hbm, ⟨53, _⟩ => ⟨S512x512, .i1⟩
  | .hbm, ⟨54, _⟩ => ⟨S512x512, .f32⟩
  | .hbm, ⟨55, _⟩ => ⟨S512x512, .bf16⟩
  | .hbm, ⟨56, _⟩ => ⟨S1x1920, .f32⟩
  | .hbm, ⟨57, _⟩ => ⟨S1x1920, .f32⟩
  | .hbm, ⟨58, _⟩ => ⟨S1x1024, .f32⟩
  | .hbm, ⟨59, _⟩ => ⟨S128x1024, .bf16⟩
  | .hbm, ⟨60, _⟩ => ⟨S1x1024, .f32⟩
  | .hbm, ⟨61, _⟩ => ⟨S128x1024, .bf16⟩
  | .hbm, ⟨62, _⟩ => ⟨S128x512, .bf16⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S2x4x8192x512, .bf16⟩
  | .hbm, ⟨67, _⟩ => ⟨S2x4x8192x512, .bf16⟩
  | .hbm, ⟨68, _⟩ => ⟨S2x4x8192x512, .bf16⟩
  | .hbm, ⟨69, _⟩ => ⟨S2x4x8192x512, .bf16⟩
  | .hbm, ⟨70, _⟩ => ⟨S2x4x128x1x512, .f32⟩
  | .hbm, ⟨71, _⟩ => ⟨S4x8192x512, .bf16⟩
  | .hbm, ⟨72, _⟩ => ⟨S4x8192x512, .bf16⟩
  | .hbm, ⟨73, _⟩ => ⟨S4x8192x512, .bf16⟩
  | .local _ .vmem, ⟨0, _⟩ => ⟨S1x256x1920, .bf16⟩
  | .local _ .vmem, ⟨1, _⟩ => ⟨S1x256x1920, .bf16⟩
  | .local _ .vmem, ⟨2, _⟩ => ⟨S1x16x1920, .bf16⟩
  | .local _ .vmem, ⟨3, _⟩ => ⟨S1x16x1920, .bf16⟩
  | .local _ .vmem, ⟨4, _⟩ => ⟨S1x16x1920, .bf16⟩
  | .local _ .vmem, ⟨5, _⟩ => ⟨S1x16x1920, .bf16⟩
  | .local _ .vmem, ⟨6, _⟩ => ⟨S1x1920, .f32⟩
  | .local _ .vmem, ⟨7, _⟩ => ⟨S1x1920, .f32⟩
  | .local _ .vmem, ⟨8, _⟩ => ⟨S1x1024, .f32⟩
  | .local _ .vmem, ⟨9, _⟩ => ⟨S128x1024, .bf16⟩
  | .local _ .vmem, ⟨10, _⟩ => ⟨S1x1024, .f32⟩
  | .local _ .vmem, ⟨11, _⟩ => ⟨S128x1024, .bf16⟩
  | .local _ .vmem, ⟨12, _⟩ => ⟨S128x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S2x256x256, .bf16⟩
  | .local _ .vmem, ⟨18, _⟩ => ⟨S2x1x256x512, .bf16⟩
  | .local _ .vmem, ⟨19, _⟩ => ⟨S2x1x256x512, .bf16⟩
  | .local _ .vmem, ⟨20, _⟩ => ⟨S2x1x256x512, .bf16⟩
  | .local _ .vmem, ⟨21, _⟩ => ⟨S2x1x256x512, .bf16⟩
  | .local _ .vmem, ⟨22, _⟩ => ⟨S2x1x256x512, .bf16⟩
  | .local _ .vmem, ⟨23, _⟩ => ⟨S2x1x256x512, .bf16⟩
  | .local _ .vmem, ⟨24, _⟩ => ⟨S2x1x256x512, .bf16⟩
  | .local _ .vmem, ⟨25, _⟩ => ⟨S2x1x256x512, .bf16⟩
  | .local _ .vmem, ⟨26, _⟩ => ⟨S2x1x4x1x512, .f32⟩
  | .local _ .vmem, ⟨27, _⟩ => ⟨S2x1x4x1x512, .f32⟩
  | .local _ .vmem, ⟨28, _⟩ => ⟨S1x256x512, .bf16⟩
  | .local _ .vmem, ⟨29, _⟩ => ⟨S1x256x512, .bf16⟩
  | .local _ .vmem, ⟨30, _⟩ => ⟨S1x256x512, .bf16⟩
  | .local _ .vmem, ⟨31, _⟩ => ⟨S1x256x512, .bf16⟩
  | .local _ .vmem, ⟨32, _⟩ => ⟨S1x256x512, .bf16⟩
  | .local _ .vmem, ⟨33, _⟩ => ⟨S1x256x512, .bf16⟩
  | _, _ => ⟨S4x8192x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_cst_1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_2 : Ref sig .tc := ⟨.hbm, 19, rfl⟩
abbrev main_v4 : Ref sig .tc := ⟨.hbm, 20, rfl⟩
abbrev main_c_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_4 : Ref sig .tc := ⟨.hbm, 27, rfl⟩
abbrev main_v10 : Ref sig .tc := ⟨.hbm, 28, rfl⟩
abbrev main_c_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_6 : Ref sig .tc := ⟨.hbm, 35, rfl⟩
abbrev main_v16 : Ref sig .tc := ⟨.hbm, 36, rfl⟩
abbrev main_c_7 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_8 : Ref sig .tc := ⟨.hbm, 43, rfl⟩
abbrev main_v22 : Ref sig .tc := ⟨.hbm, 44, rfl⟩
abbrev main_c_9 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43_0 : Ref sig .tc := ⟨.hbm, 66, rfl⟩
abbrev main_v43_1 : Ref sig .tc := ⟨.hbm, 67, rfl⟩
abbrev main_v43_2 : Ref sig .tc := ⟨.hbm, 68, rfl⟩
abbrev main_v43_3 : Ref sig .tc := ⟨.hbm, 69, rfl⟩
abbrev main_v43_4 : Ref sig .tc := ⟨.hbm, 70, rfl⟩
abbrev main_v43_5 : Ref sig .tc := ⟨.hbm, 71, rfl⟩
abbrev main_v43_6 : Ref sig .tc := ⟨.hbm, 72, rfl⟩
abbrev main_v43_7 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S2x1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2x1x4x1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== PreparationRefIdeal.lean ====
abbrev S4x8192x1920 : Shape := ⟨3, ![4, 8192, 1920]⟩
abbrev S1920 : Shape := ⟨1, ![1920]⟩
abbrev S1024 : Shape := ⟨1, ![1024]⟩
abbrev S2x64x512 : Shape := ⟨3, ![2, 64, 512]⟩
abbrev S128x512 : Shape := ⟨2, ![128, 512]⟩
abbrev S512 : Shape := ⟨1, ![512]⟩
abbrev S_ : Shape := ⟨0, ![]⟩
abbrev S4x8193x1920 : Shape := ⟨3, ![4, 8193, 1920]⟩
abbrev S1x1x1920 : Shape := ⟨3, ![1, 1, 1920]⟩
abbrev S4x8192x512 : Shape := ⟨3, ![4, 8192, 512]⟩
abbrev S4x8192x128 : Shape := ⟨3, ![4, 8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1920, .bf16⟩
  | .hbm, ⟨1, _⟩ => ⟨S1920, .f32⟩
  | .hbm, ⟨2, _⟩ => ⟨S1920, .f32⟩
  | .hbm, ⟨3, _⟩ => ⟨S1024, .f32⟩
  | .hbm, ⟨4, _⟩ => ⟨S2x64x512, .f32⟩
  | .hbm, ⟨5, _⟩ => ⟨S1024, .f32⟩
  | .hbm, ⟨6, _⟩ => ⟨S2x64x512, .f32⟩
  | .hbm, ⟨7, _⟩ => ⟨S128x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x8192x1920, .f32⟩
  | .hbm, ⟨12, _⟩ => ⟨S_, .i32⟩
  | .hbm, ⟨13, _⟩ => ⟨S_, .f32⟩
  | .hbm, ⟨14, _⟩ => ⟨S4x8193x1920, .f32⟩
  | .hbm, ⟨15, _⟩ => ⟨S4x8192x1920, .f32⟩
  | .hbm, ⟨16, _⟩ => ⟨S_, .i32⟩
  | .hbm, ⟨17, _⟩ => ⟨S_, .f32⟩
  | .hbm, ⟨18, _⟩ => ⟨S4x8193x1920, .f32⟩
  | .hbm, ⟨19, _⟩ => ⟨S4x8192x1920, .f32⟩
  | .hbm, ⟨20, _⟩ => ⟨S4x8192x1920, .f32⟩
  | .hbm, ⟨21, _⟩ => ⟨S1x1x1920, .f32⟩
  | .hbm, ⟨22, _⟩ => ⟨S4x8192x1920, .f32⟩
  | .hbm, ⟨23, _⟩ => ⟨S4x8192x1920, .f32⟩
  | .hbm, ⟨24, _⟩ => ⟨S4x8192x1920, .f32⟩
  | .hbm, ⟨25, _⟩ => ⟨S4x8192x1920, .f32⟩
  | .hbm, ⟨26, _⟩ => ⟨S1x1x1920, .f32⟩
  | .hbm, ⟨27, _⟩ => ⟨S4x8192x1920, .f32⟩
  | .hbm, ⟨28, _⟩ => ⟨S4x8192x1920, .f32⟩
  | .hbm, ⟨29, _⟩ => ⟨S4x8192x1920, .f32⟩
  | .hbm, ⟨30, _⟩ => ⟨S4x8192x512, .f32⟩
  | .hbm, ⟨31, _⟩ => ⟨S4x8192x128, .f32⟩
  | .hbm, ⟨32, _⟩ => ⟨S4x8192x512, .bf16⟩
  | .hbm, ⟨33, _⟩ => ⟨S4x8192x128, .f32⟩
  | .hbm, ⟨34, _⟩ => ⟨S4x8192x128, .f32⟩
  | .hbm, ⟨35, _⟩ => ⟨S_, .f32⟩
  | .hbm, ⟨36, _⟩ => ⟨S4x8192x128, .f32⟩
  | .hbm, ⟨37, _⟩ => ⟨S4x8192x128, .f32⟩
  | .hbm, ⟨38, _⟩ => ⟨S_, .f32⟩
  | .hbm, ⟨39, _⟩ => ⟨S4x8192x128, .f32⟩
  | .hbm, ⟨40, _⟩ => ⟨S4x8192x128, .f32⟩
  | .hbm, ⟨41, _⟩ => ⟨S4x8192x512, .f32⟩
  | .hbm, ⟨42, _⟩ => ⟨S4x8192x512, .bf16⟩
  | _, _ => ⟨S4x8192x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.PrepRows.lean ====
module

public import proofs.«01_k».proof.Proof.Gen.PreparationIdeal.Skeleton
public import Idealize.ShloMosaic.Lib.Pointwise
public import Idealize.ShloMosaic.Lib.KernelVsHost
public import Idealize.ShloMosaic.Lib.Pipeline.Value
public import Idealize.ShloMosaic.Lib.Pipeline.ValueKit

@[expose] public section

set_option maxRecDepth 16384

noncomputable section

namespace Cert.TokenShift

open Cert.PreparationIdeal Cert.PreparationIdeal.Gen Idealize.ShloMosaic Idealize.ShloMosaic.TcCoe Idealize.SL.Sem

/-- An entry moved towards the entries before and after it. -/
def shifted (x before after mp mn : EReal) : EReal := x + mp * (before - x) + mn * (after - x)

/-- The entry before the `p`-th in a block of 256 rows: the row above the block, taken as zero at the first block, where `p` is the first. -/
def above (n : Fin 32) (x : Fin 256 → EReal) (z : EReal) (p : Fin 256) : EReal :=
  if p.val = 0 then (if 0 < n.val then z else 0) else x ⟨p.val - 1, by omega⟩

/-- The entry after the `p`-th in a block of 256 rows: the row below the block, taken as zero at the last block, where `p` is the last. -/
def below (n : Fin 32) (x : Fin 256 → EReal) (z : EReal) (p : Fin 256) : EReal :=
  if h : p.val = 255 then (if n.val < 31 then z else 0) else x ⟨p.val + 1, by omega⟩

/-- The bit that is set at the first row of a block. -/
theorem first_row : ∀ p : Fin 256, IntOp.cmpi .eq (BitVec.ofNat 32 p.val) 0#32 = BitVec.ofBool (decide (p.val = 0)) := by decide +kernel

/-- The bit that is set at the last row of a block. -/
theorem last_row : ∀ p : Fin 256, IntOp.cmpi .eq (BitVec.ofNat 32 p.val) 255#32 = BitVec.ofBool (decide (p.val = 255)) := by decide +kernel

/-- The bit that is set at every block but the first. -/
theorem later_block : ∀ n : Fin 32, Scalar.cmpi .sgt (BitVec.ofNat 32 n.val) 0#32 = BitVec.ofBool (decide (0 < n.val)) := by decide +kernel

/-- The bit that is set at every block but the last. -/
theorem earlier_block : ∀ n : Fin 32, Scalar.cmpi .slt (BitVec.ofNat 32 n.val) 31#32 = BitVec.ofBool (decide (n.val < 31)) := by decide +kernel

/-- A choice by a bit that says whether something holds. -/
theorem select_of {α : Type} (c : Prop) [Decidable c] (x y : α) : Scalar.select (BitVec.ofBool (decide c)) x y = if c then x else y := by
  by_cases h : c <;> simp [Scalar.select, h]

/-- The kernel's choice of the entry before. -/
theorem above_of (n : Fin 32) (x : Fin 256 → EReal) (z : EReal) (p q : Fin 256) (h : p.val ≠ 0 → q.val = p.val - 1) :
    Scalar.select (IntOp.cmpi .eq (BitVec.ofNat 32 p.val) 0#32) (Scalar.select (Scalar.cmpi .sgt (BitVec.ofNat 32 n.val) 0#32) z 0) (x q) = above n x z p := by
  rw [later_block, first_row, select_of, select_of]
  unfold above
  by_cases e : p.val = 0
  · rw [if_pos e, if_pos e]
  · rw [if_neg e, if_neg e]
    exact congrArg x (Fin.ext (h e))

/-- The kernel's choice of the entry after. -/
theorem below_of (n : Fin 32) (x : Fin 256 → EReal) (z : EReal) (p q : Fin 256) (h : p.val ≠ 255 → q.val = p.val + 1) :
    Scalar.select (IntOp.cmpi .eq (BitVec.ofNat 32 p.val) 255#32) (Scalar.select (Scalar.cmpi .slt (BitVec.ofNat 32 n.val) 31#32) z 0) (x q) = below n x z p := by
  rw [earlier_block, last_row, select_of, select_of]
  unfold below
  by_cases e : p.val = 255
  · rw [if_pos e, dif_pos e]
  · rw [if_neg e, dif_neg e]
    exact congrArg x (Fin.ext (h e))

/-- The block of rows the body is given, without its leading axis. -/
theorem pay4_apply (v0 : Vec Ideal S1x256x1920 .bf16) (p : Fin 256) (k : Fin 1920) : k0_pay4 v0 (ix2 p k) = v0 (ix3 0 p k) := by
  unfold k0_pay4
  pointwise

/-- The first of the two moves. -/
theorem pay6_apply (i : grid0.Coords) (v0 : Vec Ideal S1x256x1920 .bf16) (v4 : Vec Ideal S1x1x1920 .bf16) (v32 : Vec Ideal S1x1920 .f32) (p : Fin 256) (k : Fin 1920) :
    k0_pay6 i v0 v4 v32 (ix2 p k) = v0 (ix3 0 p k) + v32 (ix2 0 k) * (above (i 1) (fun p => v0 (ix3 0 p k)) (v4 (ix3 0 0 k)) p - v0 (ix3 0 p k)) := by
  unfold k0_pay6
  generalize hx : k0_pay4 v0 = x
  pointwise
  subst hx
  simp only [pay4_apply]
  refine congrArg (fun z => v0 (ix3 0 p k) + v32 (ix2 0 k) * (z - v0 (ix3 0 p k))) (above_of (i 1) (fun p => v0 (ix3 0 p k)) (v4 (ix3 0 0 k)) p ⟨(p.val + 256 - 1) % 256, by omega⟩ fun h => ?_)
  show (p.val + 256 - 1) % 256 = p.val - 1
  omega

/-- The rows that follow. -/
theorem pay5_apply (i : grid0.Coords) (v0 : Vec Ideal S1x256x1920 .bf16) (v10 : Vec Ideal S1x1x1920 .bf16) (p : Fin 256) (k : Fin 1920) :
    k0_pay5 i v0 v10 (ix2 p k) = below (i 1) (fun p => v0 (ix3 0 p k)) (v10 (ix3 0 0 k)) p := by
  unfold k0_pay5
  generalize hx : k0_pay4 v0 = x
  pointwise
  subst hx
  refine (congrArg (fun z => Scalar.select _ _ z) (pay4_apply v0 ⟨(p.val + 256 - 255) % 256, by omega⟩ k)).trans
    (below_of (i 1) (fun p => v0 (ix3 0 p k)) (v10 (ix3 0 0 k)) p ⟨(p.val + 256 - 255) % 256, by omega⟩ fun h => ?_)
  show (p.val + 256 - 255) % 256 = p.val + 1
  omega

/-- What is stored of the shifted rows: the columns from the 1024th. -/
theorem pay10_apply (v2 v31 v37 : FVec Ideal S256x1920 .f32) (v38 : Vec Ideal S1x1920 .f32) (p : Fin 256) (q : Fin 512) :
    k0_pay1 (k0_pay47 (k0_pay10 v2 v31 v37 v38)) (ix3 0 p q) = v37 (ix2 p ⟨1024 + q.val, by omega⟩)
      + v38 (ix2 0 ⟨1024 + q.val, by omega⟩) * (v31 (ix2 p ⟨1024 + q.val, by omega⟩) - v2 (ix2 p ⟨1024 + q.val, by omega⟩)) := by
  unfold k0_pay1 k0_pay47 k0_pay10 k0_pay7
  pointwise

/-- The last 128 columns of the shifted rows. -/
theorem pay11_apply (v2 v31 v37 : FVec Ideal S256x1920 .f32) (v38 : Vec Ideal S1x1920 .f32) (p : Fin 256) (q : Fin 128) :
    k0_pay11 v2 v31 v37 v38 (ix2 p q) = v37 (ix2 p ⟨1792 + q.val, by omega⟩)
      + v38 (ix2 0 ⟨1792 + q.val, by omega⟩) * (v31 (ix2 p ⟨1792 + q.val, by omega⟩) - v2 (ix2 p ⟨1792 + q.val, by omega⟩)) := by
  unfold k0_pay11 k0_pay7
  pointwise

/-- What is stored of the gate: the product of the logistic values with a column of the matrix. -/
theorem pay16_apply (v49 : FVec Ideal S256x128 .f32) (v89 : Vec Ideal S128x512 .bf16) (p : Fin 256) (q : Fin 512) :
    k0_pay3 (k0_pay16 v49 v89) (ix3 0 p q) = ∑ k : Fin 128, Ideal.logistic (v49 (ix2 p k)) * v89 (ix2 k q) := by
  unfold k0_pay3 k0_pay16
  pointwise [dot_S256x128_S128x512_S256x512_1_0_0_1_n_n]

end Cert.TokenShift

end
-- ==== Proof.PrepRef.lean ====
module

public import proofs.«01_k».proof.Proof.Gen.PreparationRefIdeal.Read
public import proofs.«01_k».proof.Proof.PrepRows

@[expose] public section

set_option maxRecDepth 16384

noncomputable section

namespace Cert.TokenShift

open Cert.PreparationRefIdeal Cert.PreparationRefIdeal.Gen Cert.PreparationRefIdeal.Read Idealize.ShloMosaic

/-- The entry before the `s`-th of a sequence, zero at the first. -/
def previous (x : Fin 8192 → EReal) (s : Fin 8192) : EReal := if h : s.val = 0 then 0 else x ⟨s.val - 1, by omega⟩

/-- The entry after the `s`-th of a sequence, zero at the last. -/
def following (x : Fin 8192 → EReal) (s : Fin 8192) : EReal := if h : s.val = 8191 then 0 else x ⟨s.val + 1, by omega⟩

/-- A sequence with every entry moved towards its two neighbours. -/
def shiftedAt (x : Fin 8192 → EReal) (mp mn : EReal) (s : Fin 8192) : EReal := shifted (x s) (previous x s) (following x s) mp mn

variable (x0 : FVec Ideal S4x8192x1920 .bf16) (x1 x2 : FVec Ideal S1920 .f32) (x7 : FVec Ideal S128x512 .f32)

/-- The reference's previous rows. -/
theorem previous_apply (b : Fin 4) (s : Fin 8192) (k : Fin 1920) :
    val_main_v2 (F := Ideal) x0 (ix3 b s k) = previous (fun s => x0 (ix3 b s k)) s := by
  rw [val_main_v2_apply]
  unfold val_main_v1 previous
  by_cases h : s.val = 0
  · rw [dif_pos h]
    refine (pad_apply_of_not_inside _ _ _ _ _ _ _ _ 1 ?_).trans ?_
    · show ¬(1 ≤ s.val ∧ _)
      omega
    · unfold val_main_call0_v0 val_main_c
      pointwise
      show (((0#32 : BitVec 32).toInt : ℝ) : EReal) = 0
      simp
  · rw [dif_neg h]
    refine (pad_apply_of_inside _ _ _ _ _ _ _ _ (ix3 b ⟨s.val - 1, by omega⟩ k) fun a => ?_).trans ?_
    · match a with
      | ⟨0, _⟩ => show b.val = 0 + b.val * (0 + 1); omega
      | ⟨1, _⟩ => show s.val = 1 + (s.val - 1) * (0 + 1); omega
      | ⟨2, _⟩ => show k.val = 0 + k.val * (0 + 1); omega
    · unfold val_main_v0
      pointwise

/-- The reference's following rows. -/
theorem following_apply (b : Fin 4) (s : Fin 8192) (k : Fin 1920) :
    val_main_v4 (F := Ideal) x0 (ix3 b s k) = following (fun s => x0 (ix3 b s k)) s := by
  rw [val_main_v4_apply]
  unfold val_main_v3 following
  by_cases h : s.val = 8191
  · rw [dif_pos h]
    refine (pad_apply_of_not_inside _ _ _ _ _ _ _ _ 1 ?_).trans ?_
    · show ¬(0 ≤ 1 + s.val ∧ (1 + s.val - 0) % (0 + 1) = 0 ∧ (1 + s.val - 0) / (0 + 1) < 8192)
      omega
    · unfold val_main_call1_v0 val_main_c_0
      pointwise
      show (((0#32 : BitVec 32).toInt : ℝ) : EReal) = 0
      simp
  · rw [dif_neg h]
    refine (pad_apply_of_inside _ _ _ _ _ _ _ _ (ix3 b ⟨s.val + 1, by omega⟩ k) fun a => ?_).trans ?_
    · match a with
      | ⟨0, _⟩ => show b.val = 0 + b.val * (0 + 1); omega
      | ⟨1, _⟩ => show 1 + s.val = 0 + (s.val + 1) * (0 + 1); omega
      | ⟨2, _⟩ => show k.val = 0 + k.val * (0 + 1); omega
    · unfold val_main_v0
      pointwise

/-- The reference's shifted rows. -/
theorem shifted_apply (b : Fin 4) (s : Fin 8192) (k : Fin 1920) :
    val_main_v14 (F := Ideal) x0 x1 x2 (ix3 b s k) = shiftedAt (fun s => x0 (ix3 b s k)) (x1 (ix1 k)) (x2 (ix1 k)) s := by
  unfold val_main_v14 val_main_v13 val_main_v12 val_main_v11 val_main_v10 val_main_v9 val_main_v8 val_main_v7 val_main_v6 val_main_v5 val_main_v0 shiftedAt shifted
  rw [← previous_apply, ← following_apply]
  generalize val_main_v2 (F := Ideal) x0 = y
  generalize val_main_v4 (F := Ideal) x0 = z
  pointwise

/-- The reference's first result: columns from the 1024th of the shifted rows. -/
theorem value_apply (b : Fin 4) (s : Fin 8192) (q : Fin 512) :
    val_main_v17 (F := Ideal) x0 x1 x2 (ix3 b s q)
      = shiftedAt (fun s => x0 (ix3 b s ⟨1024 + q.val, by omega⟩)) (x1 (ix1 ⟨1024 + q.val, by omega⟩)) (x2 (ix1 ⟨1024 + q.val, by omega⟩)) s := by
  rw [← shifted_apply]
  unfold val_main_v17 val_main_v15
  generalize val_main_v14 (F := Ideal) x0 x1 x2 = y
  pointwise

/-- The reference's logistic values of the last 128 columns of the shifted rows. -/
theorem logistic_apply (b : Fin 4) (s : Fin 8192) (k : Fin 128) :
    val_main_v23 (F := Ideal) x0 x1 x2 (ix3 b s k)
      = Ideal.logistic (shiftedAt (fun s => x0 (ix3 b s ⟨1792 + k.val, by omega⟩)) (x1 (ix1 ⟨1792 + k.val, by omega⟩)) (x2 (ix1 ⟨1792 + k.val, by omega⟩)) s) := by
  rw [← shifted_apply]
  unfold val_main_v23 val_main_v22 val_main_cst_1 val_main_v21 val_main_v20 val_main_cst val_main_v19 val_main_v18 val_main_v16 Ideal.logistic
  generalize val_main_v14 (F := Ideal) x0 x1 x2 = y
  pointwise

/-- The reference's second result: the product of the logistic values with a column of the matrix. -/
theorem gate_apply (b : Fin 4) (s : Fin 8192) (q : Fin 512) :
    val_main_v25 (F := Ideal) x0 x1 x2 x7 (ix3 b s q)
      = ∑ k : Fin 128, Ideal.logistic (shiftedAt (fun s => x0 (ix3 b s ⟨1792 + k.val, by omega⟩)) (x1 (ix1 ⟨1792 + k.val, by omega⟩)) (x2 (ix1 ⟨1792 + k.val, by omega⟩)) s)
          * x7 (ix2 k q) := by
  unfold val_main_v25 val_main_v24
  generalize hy : val_main_v23 (F := Ideal) x0 x1 x2 = y
  pointwise [dot_S4x8192x128_S128x512_S4x8192x512_2_0_01_1_n_n]
  subst hy
  simp only [logistic_apply]

end Cert.TokenShift

end
-- ==== Proof.PrepArray.lean ====
module

public import proofs.«01_k».proof.Proof.Gen.PreparationIdeal.Value
public import proofs.«01_k».proof.Proof.PrepRef

@[expose] public section

set_option maxRecDepth 16384

noncomputable section

namespace Cert.TokenShift

open Cert.PreparationIdeal Cert.PreparationIdeal.Gen Cert.PreparationIdeal.Value Idealize.ShloMosaic Idealize.ShloMosaic.TcCoe Idealize.SL.Sem

/-- The block of rows a grid point is given. -/
theorem index0 : ∀ t : Fin grid0.N, win0_0.index t = ![(grid0.coords t 0).val, (grid0.coords t 1).val, 0] := by decide +kernel
/-- The group of 16 rows that ends above the block. -/
theorem index1 : ∀ t : Fin grid0.N, win0_1.index t = ![(grid0.coords t 0).val, (grid0.coords t 1).val * 16 - 1, 0] := by decide +kernel
/-- The group of 16 rows that begins below the block. -/
theorem index2 : ∀ t : Fin grid0.N, win0_2.index t = ![(grid0.coords t 0).val, min (((grid0.coords t 1).val + 1) * 16) 511, 0] := by decide +kernel
/-- Every grid point is given the whole row of weights of the previous rows. -/
theorem index3 : ∀ t : Fin grid0.N, win0_3.index t = ![0, 0] := by decide +kernel
/-- Every grid point is given the whole row of weights of the following rows. -/
theorem index4 : ∀ t : Fin grid0.N, win0_4.index t = ![0, 0] := by decide +kernel
/-- Every grid point is given the whole matrix of the gate. -/
theorem index9 : ∀ t : Fin grid0.N, win0_9.index t = ![0, 0] := by decide +kernel
/-- The place of a block in the kernel's array of values. -/
theorem index20 : ∀ t : Fin grid0.N, win0_20.index t = ![(grid0.coords t 0).val, (grid0.coords t 1).val, 0] := by decide +kernel
/-- The place of a block in the kernel's array of gates. -/
theorem index22 : ∀ t : Fin grid0.N, win0_22.index t = ![(grid0.coords t 0).val, (grid0.coords t 1).val, 0] := by decide +kernel

variable (m : (ℓ : Loc nD τ sig) → Buf (Elt Ideal) ℓ)

/-- A grid point's batch element. -/
def batch (t : Fin grid0.N) : Fin 4 := grid0.coords t 0

/-- A grid point's block of rows. -/
def place (t : Fin grid0.N) : Fin 32 := grid0.coords t 1

/-- The row of the sequence that is the `p`-th of a block. -/
def rowAt (n : Fin 32) (p : Fin 256) : Fin 8192 := ⟨n.val * 256 + p.val, by omega⟩

/-- A row of the block, as the body reads it. -/
theorem read_p (c : Dev nD) (t : Fin cfg0.N) (p : Fin 256) (k : Fin 1920) :
    View.ld (iblk m c 0 t) r0_0 (ix3 0 p k) = V m c main_arg0 (ix3 (batch t) (rowAt (place t) p) k) := by
  rw [View.ld_apply]
  blk_ext [iblk, index0 t]
  · rfl
  · rw [Rect.idx_unit_val]
    show (grid0.coords t 1).val * 256 + (0 + p.val) = (grid0.coords t 1).val * 256 + p.val
    omega
  · rw [Rect.idx_unit_val]
    show 0 + k.val = k.val
    omega

/-- The row above the block, as the body reads it. -/
theorem read_above (c : Dev nD) (t : Fin cfg0.N) (k : Fin 1920) (r : Fin 8192) (h : r.val = ((place t).val * 16 - 1) * 16 + 15) :
    View.ld (iblk m c 1 t) r0_1 (ix3 0 0 k) = V m c main_arg0 (ix3 (batch t) r k) := by
  rw [View.ld_apply]
  blk_ext [iblk, index1 t]
  · rfl
  · rw [Rect.idx_unit_val]
    show ((grid0.coords t 1).val * 16 - 1) * 16 + (15 + 0) = r.val
    exact h.symm
  · rw [Rect.idx_unit_val]
    show 0 + k.val = k.val
    omega

/-- The row below the block, as the body reads it. -/
theorem read_below (c : Dev nD) (t : Fin cfg0.N) (k : Fin 1920) (r : Fin 8192) (h : r.val = min (((place t).val + 1) * 16) 511 * 16) :
    View.ld (iblk m c 2 t) r0_2 (ix3 0 0 k) = V m c main_arg0 (ix3 (batch t) r k) := by
  rw [View.ld_apply]
  blk_ext [iblk, index2 t]
  · rfl
  · rw [Rect.idx_unit_val]
    show min (((grid0.coords t 1).val + 1) * 16) 511 * 16 + (0 + 0) = r.val
    exact h.symm
  · rw [Rect.idx_unit_val]
    show 0 + k.val = k.val
    omega

/-- The weights of the previous rows, as the body reads them. -/
theorem read_mp (c : Dev nD) (t : Fin cfg0.N) (k : Fin 1920) : View.ld (iblk m c 3 t) r0_3 (ix2 0 k) = V m c main_v33 (ix2 0 k) := by
  rw [View.ld_apply]
  blk_ext [iblk, index3 t]
  · rw [Rect.idx_unit_val]
    show 0 + k.val = k.val
    omega

/-- The weights of the following rows, as the body reads them. -/
theorem read_mn (c : Dev nD) (t : Fin cfg0.N) (k : Fin 1920) : View.ld (iblk m c 4 t) r0_3 (ix2 0 k) = V m c main_v34 (ix2 0 k) := by
  rw [View.ld_apply]
  blk_ext [iblk, index4 t]
  · rw [Rect.idx_unit_val]
    show 0 + k.val = k.val
    omega

/-- The matrix of the gate, as the body reads it. -/
theorem read_g (c : Dev nD) (t : Fin cfg0.N) (k : Fin 128) (q : Fin 512) : View.ld (iblk m c 9 t) r0_6 (ix2 k q) = V m c main_v39 (ix2 k q) := by
  rw [View.ld_apply]
  blk_ext [iblk, index9 t]
  · rw [Rect.idx_unit_val]
    show 0 + k.val = k.val
    omega
  · rw [Rect.idx_unit_val]
    show 0 + q.val = q.val
    omega

/-- The weights of the previous rows are those of the second argument. -/
theorem V_mp (c : Dev nD) (k : Fin 1920) : V m c main_v33 (ix2 0 k) = m ((c : Thread nD τ).loc main_arg1) (ix1 k) := by
  have e : V m c main_v33 = shapeCast S1x1920 (m ((c : Thread nD τ).loc main_arg1)) shapeCasts_S1920_S1x1920 := by
    unfold V
    simp only [hostOps0]
    after_results_simp
    rfl
  rw [e]
  generalize m ((c : Thread nD τ).loc main_arg1) = z
  pointwise

/-- The weights of the following rows are those of the third argument. -/
theorem V_mn (c : Dev nD) (k : Fin 1920) : V m c main_v34 (ix2 0 k) = m ((c : Thread nD τ).loc main_arg2) (ix1 k) := by
  have e : V m c main_v34 = shapeCast S1x1920 (m ((c : Thread nD τ).loc main_arg2)) shapeCasts_S1920_S1x1920 := by
    unfold V
    simp only [hostOps0]
    after_results_simp
    rfl
  rw [e]
  generalize m ((c : Thread nD τ).loc main_arg2) = z
  pointwise

/-- The matrix of the gate is that of the eighth argument, cast. -/
theorem V_g (c : Dev nD) (k : Fin 128) (q : Fin 512) : V m c main_v39 (ix2 k q) = m ((c : Thread nD τ).loc main_arg7) (ix2 k q) := by
  have e : V m c main_v39 = (truncf .bf16 (m ((c : Thread nD τ).loc main_arg7) : FVec Ideal S128x512 .f32) bitsLt_bf16_f32 : FVec Ideal S128x512 .bf16) := by
    unfold V
    simp only [hostOps0]
    after_results_simp
  rw [e]
  rfl

/-- A block's shifted entry is the sequence's, where the rows above and below the block are read from it. -/
theorem shifted_block (x : Fin 8192 → EReal) (n : Fin 32) (p : Fin 256) (y : Fin 256 → EReal) (za zb mp mn : EReal) (hy : ∀ p, y p = x (rowAt n p))
    (ha : ∀ r : Fin 8192, r.val = (n.val * 16 - 1) * 16 + 15 → za = x r) (hb : ∀ r : Fin 8192, r.val = min ((n.val + 1) * 16) 511 * 16 → zb = x r) :
    y p + mp * (above n y za p - y p) + mn * (below n y zb p - y p) = shiftedAt x mp mn (rowAt n p) := by
  have ea : above n y za p = previous x (rowAt n p) := by
    unfold above previous
    by_cases hp : p.val = 0
    · rw [if_pos hp]
      by_cases hn : 0 < n.val
      · rw [if_pos hn, dif_neg (by show ¬ n.val * 256 + p.val = 0; omega)]
        exact ha _ (by show n.val * 256 + p.val - 1 = _; omega)
      · rw [if_neg hn, dif_pos (by show n.val * 256 + p.val = 0; omega)]
    · rw [if_neg hp, dif_neg (by show ¬ n.val * 256 + p.val = 0; omega), hy]
      exact congrArg x (Fin.ext (by show n.val * 256 + (p.val - 1) = n.val * 256 + p.val - 1; omega))
  have eb : below n y zb p = following x (rowAt n p) := by
    unfold below following
    by_cases hp : p.val = 255
    · rw [dif_pos hp]
      by_cases hn : n.val < 31
      · rw [if_pos hn, dif_neg (by show ¬ n.val * 256 + p.val = 8191; omega)]
        exact hb _ (by show n.val * 256 + p.val + 1 = _; omega)
      · rw [if_neg hn, dif_pos (by show n.val * 256 + p.val = 8191; omega)]
    · rw [dif_neg hp, dif_neg (by show ¬ n.val * 256 + p.val = 8191; omega), hy]
      exact congrArg x (Fin.ext (by show n.val * 256 + (p.val + 1) = n.val * 256 + p.val + 1; omega))
  rw [ea, eb, hy]
  rfl

/-- A shifted entry of a block, from the blocks the body is given. -/
def entryOf (i : grid0.Coords) (v0 : Vec Ideal S1x256x1920 .bf16) (v4 v10 : Vec Ideal S1x1x1920 .bf16) (v32 v38 : Vec Ideal S1x1920 .f32) (p : Fin 256) (k : Fin 1920) : EReal :=
  k0_pay6 i v0 v4 v32 (ix2 p k) + v38 (ix2 0 k) * (k0_pay5 i v0 v10 (ix2 p k) - k0_pay4 v0 (ix2 p k))

/-- A shifted entry of a grid point's block is the sequence's. -/
theorem entry_eq (c : Dev nD) (t : Fin cfg0.N) (p : Fin 256) (k : Fin 1920) :
    entryOf (grid0.coords t) (View.ld (iblk m c 0 t) r0_0) (View.ld (iblk m c 1 t) r0_1) (View.ld (iblk m c 2 t) r0_2) (View.ld (iblk m c 3 t) r0_3) (View.ld (iblk m c 4 t) r0_3) p k
      = shiftedAt (fun s => m ((c : Thread nD τ).loc main_arg0) (ix3 (batch t) s k)) (m ((c : Thread nD τ).loc main_arg1) (ix1 k)) (m ((c : Thread nD τ).loc main_arg2) (ix1 k))
          (rowAt (place t) p) := by
  unfold entryOf
  rw [pay6_apply, pay5_apply, pay4_apply, read_mp, read_mn, V_mp, V_mn]
  refine shifted_block (fun s => m ((c : Thread nD τ).loc main_arg0) (ix3 (batch t) s k)) (place t) p (fun p => View.ld (iblk m c 0 t) r0_0 (ix3 0 p k)) _ _ _ _
    (fun p => ?_) (fun r h => ?_) (fun r h => ?_)
  · rw [read_p, V_main_arg0 m c]
  · rw [read_above m c t k r h, V_main_arg0 m c]
  · rw [read_below m c t k r h, V_main_arg0 m c]

/-- What the body leaves in its block of values. -/
theorem out20_eq (i : grid0.Coords) (x0 : Vec Ideal S1x256x1920 .bf16) (x1 x2 : Vec Ideal S1x16x1920 .bf16) (x3 x4 : Vec Ideal S1x1920 .f32) (x5 : Vec Ideal S1x1024 .f32)
    (x6 : Vec Ideal S128x1024 .bf16) (x7 : Vec Ideal S1x1024 .f32) (x8 : Vec Ideal S128x1024 .bf16) (x9 : Vec Ideal S128x512 .bf16) (x10 x11 x12 : Vec Ideal S1x512 .f32)
    (x13 : Vec Ideal S512x512 .bf16) (x14 : Vec Ideal S2x256x256 .bf16) :
    out0_20 i x0 x1 x2 x3 x4 x5 x6 x7 x8 x9 x10 x11 x12 x13 x14
      = k0_pay1 (k0_pay47 (k0_pay10 (k0_pay4 (View.ld x0 r0_0)) (k0_pay5 i (View.ld x0 r0_0) (View.ld x2 r0_2)) (k0_pay6 i (View.ld x0 r0_0) (View.ld x1 r0_1) (View.ld x3 r0_3)) (View.ld x4 r0_3))) := by
  funext y
  unfold out0_20 k0_pay53 k0_pay50 k0_pay49 k0_pay48
  refine View.canon_apply_of_pieces _ _ ?_ y (cover0_20 _ y)
  simp only [List.forall_mem_cons]
  refine ⟨fun x => congrArg _ (funext fun a => Fin.ext ?_), fun p hp => absurd hp List.not_mem_nil⟩
  fin_cases a <;> simp [Rect.emb_apply]

/-- What the body leaves in its block of gates. -/
theorem out22_eq (i : grid0.Coords) (x0 : Vec Ideal S1x256x1920 .bf16) (x1 x2 : Vec Ideal S1x16x1920 .bf16) (x3 x4 : Vec Ideal S1x1920 .f32) (x5 : Vec Ideal S1x1024 .f32)
    (x6 : Vec Ideal S128x1024 .bf16) (x7 : Vec Ideal S1x1024 .f32) (x8 : Vec Ideal S128x1024 .bf16) (x9 : Vec Ideal S128x512 .bf16) (x10 x11 x12 : Vec Ideal S1x512 .f32)
    (x13 : Vec Ideal S512x512 .bf16) (x14 : Vec Ideal S2x256x256 .bf16) :
    out0_22 i x0 x1 x2 x3 x4 x5 x6 x7 x8 x9 x10 x11 x12 x13 x14
      = k0_pay3 (k0_pay16 (k0_pay11 (k0_pay4 (View.ld x0 r0_0)) (k0_pay5 i (View.ld x0 r0_0) (View.ld x2 r0_2)) (k0_pay6 i (View.ld x0 r0_0) (View.ld x1 r0_1) (View.ld x3 r0_3)) (View.ld x4 r0_3))
          (View.ld x9 r0_6)) := by
  funext y
  unfold out0_22 k0_pay50 k0_pay49 k0_pay48
  refine View.canon_apply_of_pieces _ _ ?_ y (cover0_22 _ y)
  simp only [List.forall_mem_cons]
  refine ⟨fun x => congrArg _ (funext fun a => Fin.ext ?_), fun p hp => absurd hp List.not_mem_nil⟩
  fin_cases a <;> simp [Rect.emb_apply]

/-- The kernel's array of values is the reference's first result. -/
theorem first_eq (c : Dev nD) : (dats m 0 c).arrAt 20 cfg0.N
    = Cert.PreparationRefIdeal.Read.val_main_v17 (F := Ideal) (m ((c.tc : Thread nD τ).loc main_arg0)) (m ((c.tc : Thread nD τ).loc main_arg1)) (m ((c.tc : Thread nD τ).loc main_arg2)) := by
  refine (dats m 0 c).arrAt_eq_of_covers 20 _ (by decide +kernel) fun t hf y => ?_
  blk_simp
  rw [after0_20, out20_eq]
  have e0 : ((win0_20.blk t).view.emb y 0).val = (grid0.coords t 0).val + (y 0).val := by blk_simp [index20 t]
  have e1 : ((win0_20.blk t).view.emb y 1).val = (grid0.coords t 1).val * 256 + (y 1).val := by blk_simp [index20 t]
  have e2 : ((win0_20.blk t).view.emb y 2).val = (y 2).val := by blk_simp [index20 t]
  have h0 : (y 0).val = 0 := by have : (y 0).val < 1 := (y 0).isLt; omega
  have ey : (y : S1x256x512.Idx) = ix3 0 (y 1) (y 2) := by
    funext a
    fin_cases a
    · exact Fin.ext h0
    · rfl
    · rfl
  have ez : (win0_20.blk t).view.emb y = ix3 (batch t) (rowAt (place t) (y 1)) (y 2) := by
    funext a
    fin_cases a
    · exact Fin.ext (e0.trans (by rw [h0]; rfl))
    · exact Fin.ext e1
    · exact Fin.ext e2
  refine (congrArg _ ey).trans ((pay10_apply _ _ _ _ (y 1) (y 2)).trans ?_)
  exact (entry_eq m c t (y 1) _).trans ((congrArg _ ez).trans (value_apply _ _ _ (batch t) (rowAt (place t) (y 1)) (y 2))).symm

/-- The kernel's array of gates is the reference's second result. -/
theorem second_eq (c : Dev nD) : (dats m 0 c).arrAt 22 cfg0.N
    = Cert.PreparationRefIdeal.Read.val_main_v25 (F := Ideal) (m ((c.tc : Thread nD τ).loc main_arg0)) (m ((c.tc : Thread nD τ).loc main_arg1)) (m ((c.tc : Thread nD τ).loc main_arg2))
        (m ((c.tc : Thread nD τ).loc main_arg7)) := by
  refine (dats m 0 c).arrAt_eq_of_covers 22 _ (by decide +kernel) fun t hf y => ?_
  blk_simp
  rw [after0_22, out22_eq]
  have e0 : ((win0_22.blk t).view.emb y 0).val = (grid0.coords t 0).val + (y 0).val := by blk_simp [index22 t]
  have e1 : ((win0_22.blk t).view.emb y 1).val = (grid0.coords t 1).val * 256 + (y 1).val := by blk_simp [index22 t]
  have e2 : ((win0_22.blk t).view.emb y 2).val = (y 2).val := by blk_simp [index22 t]
  have h0 : (y 0).val = 0 := by have : (y 0).val < 1 := (y 0).isLt; omega
  have ey : (y : S1x256x512.Idx) = ix3 0 (y 1) (y 2) := by
    funext a
    fin_cases a
    · exact Fin.ext h0
    · rfl
    · rfl
  have ez : (win0_22.blk t).view.emb y = ix3 (batch t) (rowAt (place t) (y 1)) (y 2) := by
    funext a
    fin_cases a
    · exact Fin.ext (e0.trans (by rw [h0]; rfl))
    · exact Fin.ext e1
    · exact Fin.ext e2
  refine (congrArg _ ey).trans ((pay16_apply _ _ (y 1) (y 2)).trans ?_)
  refine Eq.trans ?_ ((congrArg _ ez).trans (gate_apply _ _ _ _ (batch t) (rowAt (place t) (y 1)) (y 2))).symm
  refine Finset.sum_congr rfl fun k _ => congrArg₂ (· * ·) (congrArg Ideal.logistic ?_) ((read_g m c t k (y 2)).trans (V_g m c k (y 2)))
  exact (pay11_apply _ _ _ _ (y 1) k).trans (entry_eq m c t (y 1) _)

end Cert.TokenShift

end
-- ==== Proof.Block.lean ====
module

public import proofs.«01_k».proof.Proof.Gen.AttentionIdeal.Value
public import Idealize.ShloMosaic.Lib.Pointwise
public import Idealize.ShloMosaic.Lib.Pipeline.Value

@[expose] public section

noncomputable section

namespace Cert.NeighbourAttention

open Cert.AttentionIdeal Cert.AttentionIdeal.Gen Idealize.ShloMosaic Idealize.ShloMosaic.TcCoe Idealize.SL.Sem

/-- What the kernel stores for one grid row, from the row's queries, its window of keys, its window of values and its
    slice of the bias table. -/
def rowOut (q : Vec Ideal S1x64x128 .bf16) (k v : Vec Ideal S1x512x128 .bf16) (b : Vec Ideal S1x2x64x512 .f32) :
    FVec Ideal S1x64x128 .bf16 :=
  k0_pay9 k0_pay2 (k0_pay3 q k b) v

/-- The sixteen rows of a block lie within it. -/
theorem inbRow (rr : Fin 16) : ∀ a, (![0, 64 * rr.val, 0] : Fin 3 → Nat) a + S1x64x128.size a ≤ S1x1024x128.size a := by
  intro a
  have := rr.isLt
  fin_cases a <;> simp [Shape.size] <;> omega

/-- What the kernel stores for grid row `rr` of the sixteen of one grid point, from the point's four input blocks. -/
def rowAt (i : grid0.Coords) (x0 : Vec Ideal S1x1024x128 .bf16) (x1 x2 : Vec Ideal S1x8192x128 .bf16)
    (x3 : Vec Ideal S8x2x64x512 .f32) (rr : Fin 16) : FVec Ideal S1x64x128 .bf16 :=
  rowOut (View.ld x0 (Rect.unit ![0, 64 * rr.val, 0] S1x64x128.size (inbRow rr)))
    (View.ld x1 (Rect.unit (k0_off1 i (BitVec.ofNat 32 rr.val)) S1x512x128.size (k0_off1_inb i rr)))
    (View.ld x2 (Rect.unit (k0_off1 i (BitVec.ofNat 32 rr.val)) S1x512x128.size (k0_off1_inb i rr)))
    (View.ld x3 (Rect.unit (k0_off2 i (BitVec.ofNat 32 rr.val)) S1x2x64x512.size (k0_off2_inb i rr)))

/-- The block of results of one grid point, row by row. -/
def block (i : grid0.Coords) (x0 : Vec Ideal S1x1024x128 .bf16) (x1 x2 : Vec Ideal S1x8192x128 .bf16)
    (x3 : Vec Ideal S8x2x64x512 .f32) : Vec Ideal S1x1024x128 .bf16 := fun y =>
  rowAt i x0 x1 x2 x3 ⟨(y 1).val / 64, by have : (y 1).val < 1024 := (y 1).isLt; omega⟩
    (ix3 (n0 := 1) (n1 := 64) (n2 := 128) (y 0) ⟨(y 1).val % 64, by omega⟩ (y 2))

/-- A block's result, read within one of its sixteen rows, is what the body stored for the row. -/
theorem block_emb (i : grid0.Coords) (x0 : Vec Ideal S1x1024x128 .bf16) (x1 x2 : Vec Ideal S1x8192x128 .bf16)
    (x3 : Vec Ideal S8x2x64x512 .f32) (rr : Fin 16) (inb) (x : S1x64x128.Idx) :
    block i x0 x1 x2 x3 ((Rect.unit (s := S1x1024x128) ![0, 64 * rr.val, 0] S1x64x128.size inb).emb x)
      = rowAt i x0 x1 x2 x3 rr x := by
  have h0 : (x 0).val = 0 := by have : (x 0).val < 1 := (x 0).isLt; omega
  have h1 : (x 1).val < 64 := (x 1).isLt
  have e1 : (((Rect.unit (s := S1x1024x128) ![0, 64 * rr.val, 0] S1x64x128.size inb).emb x) 1).val = 64 * rr.val + (x 1).val := by
    simp [Rect.emb_apply]
  unfold block
  have hr : (⟨(((Rect.unit (s := S1x1024x128) ![0, 64 * rr.val, 0] S1x64x128.size inb).emb x) 1).val / 64, by
      rw [e1]; have := rr.isLt; omega⟩ : Fin 16) = rr := Fin.ext (by simp only [e1]; omega)
  have hx : ix3 (n0 := 1) (n1 := 64) (n2 := 128) (((Rect.unit (s := S1x1024x128) ![0, 64 * rr.val, 0] S1x64x128.size inb).emb x) 0)
      ⟨(((Rect.unit (s := S1x1024x128) ![0, 64 * rr.val, 0] S1x64x128.size inb).emb x) 1).val % 64, by omega⟩
      (((Rect.unit (s := S1x1024x128) ![0, 64 * rr.val, 0] S1x64x128.size inb).emb x) 2) = x := by
    funext a
    fin_cases a
    · exact Fin.ext (by simp [Rect.emb_apply])
    · exact Fin.ext ((congrArg (· % 64) e1).trans (by show (64 * rr.val + (x 1).val) % 64 = (x 1).val; omega))
    · exact Fin.ext (by simp [Rect.emb_apply])
  rw [hr]
  exact congrArg _ hx

/-- What the body leaves in its block of results is the sixteen stored rows. -/
theorem out_eq (c : Dev nD) (i : grid0.Coords) (arg3 : Memref sig .tc .vmem S1x1024x128 .bf16) (harg3 : arg3.IsWhole)
    (arg4 : Memref sig .tc .vmem S1x8192x128 .bf16) (harg4 : arg4.IsWhole)
    (arg5 : Memref sig .tc .vmem S1x8192x128 .bf16) (harg5 : arg5.IsWhole)
    (arg6 : Memref sig .tc .vmem S8x2x64x512 .f32) (harg6 : arg6.IsWhole)
    (arg7 : Memref sig .tc .vmem S1x1024x128 .bf16) (harg7 : arg7.IsWhole)
    (x0 : Vec Ideal S1x1024x128 .bf16) (x1 x2 : Vec Ideal S1x8192x128 .bf16) (x3 : Vec Ideal S8x2x64x512 .f32) :
    out0_A_4 c i arg3 harg3 arg4 harg4 arg5 harg5 arg6 harg6 arg7 harg7 x0 x1 x2 x3 = block i x0 x1 x2 x3 := by
  unfold out0_A_4
  rw [View.read_writes_eq_canon _ _ _ (cover0_A_4 c i arg3 harg3 arg4 harg4 arg5 harg5 arg6 harg6 arg7 harg7 x0 x1 x2 x3)]
  funext y
  refine View.canon_apply_of_pieces _ _ ?_ y
    (cover0_A_4 c i arg3 harg3 arg4 harg4 arg5 harg5 arg6 harg6 arg7 harg7 x0 x1 x2 x3 y)
  unfold kernelRun0_A
  dsimp only
  sl_unfold_words
  simp only [View.readAt_eq_ld, harg3.read_unread, harg4.read_unread, harg5.read_unread, harg6.read_unread, List.forall_mem_cons]
  have key (rr : Fin 16) (w : FVec Ideal S1x64x128 .bf16) (hw : w = rowAt i x0 x1 x2 x3 rr) (inb) (x : S1x64x128.Idx) :
      w x = block i x0 x1 x2 x3 ((Rect.unit (s := S1x1024x128) ![0, 64 * rr.val, 0] S1x64x128.size inb).emb x) := by
    rw [block_emb, hw]
  exact ⟨key 15 _ rfl _, key 14 _ rfl _, key 13 _ rfl _, key 12 _ rfl _, key 11 _ rfl _, key 10 _ rfl _, key 9 _ rfl _,
    key 8 _ rfl _, key 7 _ rfl _, key 6 _ rfl _, key 5 _ rfl _, key 4 _ rfl _, key 3 _ rfl _, key 2 _ rfl _,
    key 1 _ rfl _, key 0 _ rfl _, fun p hp => absurd hp List.not_mem_nil⟩

end Cert.NeighbourAttention

end
-- ==== Proof.Reads.lean ====
module

public import proofs.«01_k».proof.Proof.Gen.AttentionRefIdeal.Read
public import Idealize.ShloMosaic.Lib.Pointwise

@[expose] public section

noncomputable section

namespace Cert.NeighbourAttention

open Cert.AttentionRefIdeal Cert.AttentionRefIdeal.Gen Cert.AttentionRefIdeal.Read Idealize.ShloMosaic

/-- A number below 128, held as a word, is read back as itself. -/
theorem word128 : ∀ n : Fin 128, min (BitVec.ofNat 32 n.val).toInt.toNat 127 + 0 + 0 = n.val := by decide +kernel

/-- A number below 64, held as a word, is read back as itself. -/
theorem word64 : ∀ n : Fin 64, min (BitVec.ofNat 32 n.val).toInt.toNat 63 + 0 + 0 = n.val := by decide +kernel

/-- A number below 15, held as a word, is read back as itself. -/
theorem word15 : ∀ n : Fin 15, min (BitVec.ofNat 32 n.val).toInt.toNat 14 + 0 + 0 = n.val := by decide +kernel

/-- A number below 31, held as a word, is read back as itself. -/
theorem word31 : ∀ n : Fin 31, min (BitVec.ofNat 32 n.val).toInt.toNat 30 + 0 + 0 = n.val := by decide +kernel

/-- Taking rows of keys or values by a table of row numbers reads, at each place, the row the table names there. -/
theorem take_rows {α : Type} (x : S4x128x64x8x64.Idx → α) (idx : IVec S128x8x1 32) (n : Fin 128)
    (b : Fin 4) (r : Fin 128) (i : Fin 8) (y : Fin 64) (h : Fin 8) (d : Fin 64)
    (hn : idx (ix3 r i 0) = BitVec.ofNat 32 n.val) :
    Host.gather gather_S4x128x64x8x64_S128x8x1_S4x128x8x64x8x64_0345_1_n_n_1_2_4164864 x idx (ix6 b r i y h d)
      = x (ix5 b n y h d) := by
  unfold Host.gather
  congr 1
  funext a
  refine Fin.ext ?_
  match a with
  | ⟨0, _⟩ => exact (Nat.zero_add _)
  | ⟨1, _⟩ =>
    have e : idx ((gather_S4x128x64x8x64_S128x8x1_S4x128x8x64x8x64_0345_1_n_n_1_2_4164864).siIdx (ix6 b r i y h d) ⟨0, by decide⟩) = BitVec.ofNat 32 n.val := by
      rw [← hn]; congr 1; funext c; refine Fin.ext ?_
      match c with
      | ⟨0, _⟩ => rfl
      | ⟨1, _⟩ => rfl
      | ⟨2, _⟩ => rfl
    exact (congrArg (fun w : BitVec 32 => min w.toInt.toNat 127 + 0 + 0) e).trans (word128 n)
  | ⟨2, _⟩ => exact (Nat.zero_add _)
  | ⟨3, _⟩ => exact (Nat.zero_add _)
  | ⟨4, _⟩ => exact (Nat.zero_add _)

/-- Taking columns by a table of column numbers reads, at each place, the column the table names there. -/
theorem take_columns {α : Type} (x : S4x128x8x64x8x64.Idx → α) (idx : IVec S64x16x1 32) (n : Fin 64)
    (b : Fin 4) (r : Fin 128) (i : Fin 8) (y : Fin 64) (j : Fin 16) (h : Fin 8) (d : Fin 64)
    (hn : idx (ix3 y j 0) = BitVec.ofNat 32 n.val) :
    Host.gather gather_S4x128x8x64x8x64_S64x16x1_S4x128x8x64x16x8x64_01256_3_n_n_3_2_412881864 x idx (ix7 b r i y j h d)
      = x (ix6 b r i n h d) := by
  unfold Host.gather
  congr 1
  funext a
  refine Fin.ext ?_
  match a with
  | ⟨0, _⟩ => exact (Nat.zero_add _)
  | ⟨1, _⟩ => exact (Nat.zero_add _)
  | ⟨2, _⟩ => exact (Nat.zero_add _)
  | ⟨3, _⟩ =>
    have e : idx ((gather_S4x128x8x64x8x64_S64x16x1_S4x128x8x64x16x8x64_01256_3_n_n_3_2_412881864).siIdx (ix7 b r i y j h d) ⟨0, by decide⟩) = BitVec.ofNat 32 n.val := by
      rw [← hn]; congr 1; funext c; refine Fin.ext ?_
      match c with
      | ⟨0, _⟩ => rfl
      | ⟨1, _⟩ => rfl
      | ⟨2, _⟩ => rfl
    exact (congrArg (fun w : BitVec 32 => min w.toInt.toNat 63 + 0 + 0) e).trans (word64 n)
  | ⟨4, _⟩ => exact (Nat.zero_add _)
  | ⟨5, _⟩ => exact (Nat.zero_add _)

/-- Taking biases by a table of pairs reads, at each place, the bias of the row and column distance the pair names. -/
theorem take_biases {α : Type} (x : S8x15x31.Idx → α) (idx : IVec S128x64x8x16x2 32) (n : Fin 15) (o : Fin 31)
    (h : Fin 8) (r : Fin 128) (y : Fin 64) (i : Fin 8) (j : Fin 16)
    (hn : idx (ix5 r y i j 0) = BitVec.ofNat 32 n.val) (ho : idx (ix5 r y i j 1) = BitVec.ofNat 32 o.val) :
    Host.gather gather_S8x15x31_S128x64x8x16x2_S8x128x64x8x16_0_12_n_n_12_4_811 x idx (ix5 h r y i j)
      = x (ix3 h n o) := by
  unfold Host.gather
  congr 1
  funext a
  refine Fin.ext ?_
  match a with
  | ⟨0, _⟩ => exact (Nat.zero_add _)
  | ⟨1, _⟩ =>
    have e : idx ((gather_S8x15x31_S128x64x8x16x2_S8x128x64x8x16_0_12_n_n_12_4_811).siIdx (ix5 h r y i j) ⟨0, by decide⟩) = BitVec.ofNat 32 n.val := by
      rw [← hn]; congr 1; funext c; refine Fin.ext ?_
      match c with
      | ⟨0, _⟩ => rfl
      | ⟨1, _⟩ => rfl
      | ⟨2, _⟩ => rfl
      | ⟨3, _⟩ => rfl
      | ⟨4, _⟩ => rfl
    exact (congrArg (fun w : BitVec 32 => min w.toInt.toNat 14 + 0 + 0) e).trans (word15 n)
  | ⟨2, _⟩ =>
    have e : idx ((gather_S8x15x31_S128x64x8x16x2_S8x128x64x8x16_0_12_n_n_12_4_811).siIdx (ix5 h r y i j) ⟨1, by decide⟩) = BitVec.ofNat 32 o.val := by
      rw [← ho]; congr 1; funext c; refine Fin.ext ?_
      match c with
      | ⟨0, _⟩ => rfl
      | ⟨1, _⟩ => rfl
      | ⟨2, _⟩ => rfl
      | ⟨3, _⟩ => rfl
      | ⟨4, _⟩ => rfl
    exact (congrArg (fun w : BitVec 32 => min w.toInt.toNat 30 + 0 + 0) e).trans (word31 o)

/-- The first of the eight rows the queries of row `r` attend to. -/
def rowStart (r : ℕ) : ℕ := min (r - 4) 120

/-- The first of the sixteen columns the query of column `x` attends to. -/
def colStart (x : ℕ) : ℕ := min (x - 8) 48

/-- The eight rows attended to are rows of the grid. -/
theorem rowStart_lt (r i : ℕ) (h : i < 8) : rowStart r + i < 128 := by unfold rowStart; omega

/-- The sixteen columns attended to are columns of the grid. -/
theorem colStart_lt (x j : ℕ) (h : j < 16) : colStart x + j < 64 := by unfold colStart; omega

/-- The `i`-th row attended to from row `r`. -/
def nrow (r : Fin 128) (i : Fin 8) : Fin 128 := ⟨rowStart r + i, rowStart_lt _ _ i.isLt⟩

/-- The `j`-th column attended to from column `x`. -/
def ncol (x : Fin 64) (j : Fin 16) : Fin 64 := ⟨colStart x + j, colStart_lt _ _ j.isLt⟩

/-- How far the `i`-th row attended to lies from row `r`, counted from seven rows above. -/
def drow (r : Fin 128) (i : Fin 8) : Fin 15 := ⟨rowStart r + i + 7 - r, by have := i.isLt; have := r.isLt; unfold rowStart; omega⟩

/-- How far the `j`-th column attended to lies from column `x`, counted from fifteen columns to the left. -/
def dcol (x : Fin 64) (j : Fin 16) : Fin 31 := ⟨colStart x + j + 15 - x, by have := j.isLt; have := x.isLt; unfold colStart; omega⟩

/-- The reference's row numbers for the keys are those of the rows attended to. -/
theorem rows_word : ∀ (r : Fin 128) (i : Fin 8), val_main_v44 (F := Ideal) (ix3 r i 0) = BitVec.ofNat 32 (nrow r i).val := by
  decide +kernel

/-- The reference's row numbers for the values are those of the rows attended to. -/
theorem rows_word' : ∀ (r : Fin 128) (i : Fin 8), val_main_v58 (F := Ideal) (ix3 r i 0) = BitVec.ofNat 32 (nrow r i).val := by
  decide +kernel

/-- The reference's column numbers for the keys are those of the columns attended to. -/
theorem cols_word : ∀ (x : Fin 64) (j : Fin 16), val_main_v51 (F := Ideal) (ix3 x j 0) = BitVec.ofNat 32 (ncol x j).val := by
  decide +kernel

/-- The reference's column numbers for the values are those of the columns attended to. -/
theorem cols_word' : ∀ (x : Fin 64) (j : Fin 16), val_main_v65 (F := Ideal) (ix3 x j 0) = BitVec.ofNat 32 (ncol x j).val := by
  decide +kernel

/-- The reference's row distances. -/
theorem drows_word : ∀ (r : Fin 128) (i : Fin 8), val_main_v76 (F := Ideal) (ix4 r 0 i 0) = BitVec.ofNat 32 (drow r i).val := by
  decide +kernel

/-- The reference's column distances. -/
theorem dcols_word : ∀ (x : Fin 64) (j : Fin 16), val_main_v81 (F := Ideal) (ix4 0 x 0 j) = BitVec.ofNat 32 (dcol x j).val := by
  decide +kernel

/-- The first entry of a pair of distances is the row distance. -/
theorem pair_word0 (r : Fin 128) (x : Fin 64) (i : Fin 8) (j : Fin 16) :
    val_main_v86 (F := Ideal) (ix5 r x i j 0) = BitVec.ofNat 32 (drow r i).val := by
  rw [← drows_word]
  rfl

/-- The second entry of a pair of distances is the column distance. -/
theorem pair_word1 (r : Fin 128) (x : Fin 64) (i : Fin 8) (j : Fin 16) :
    val_main_v86 (F := Ideal) (ix5 r x i j 1) = BitVec.ofNat 32 (dcol x j).val := by
  rw [← dcols_word]
  rfl

end Cert.NeighbourAttention

end
-- ==== Proof.Ref.lean ====
module

public import proofs.«01_k».proof.Proof.Reads

@[expose] public section

noncomputable section

namespace Cert.NeighbourAttention

open Cert.AttentionRefIdeal Cert.AttentionRefIdeal.Gen Cert.AttentionRefIdeal.Read Idealize.ShloMosaic

/-- The position of row `r`, column `x` in the sequence. -/
def pos (r : Fin 128) (x : Fin 64) : Fin 8192 := ⟨r.val * 64 + x.val, by have := r.isLt; have := x.isLt; omega⟩

/-- The channel of a head's `d`-th entry, among the queries (`o = 0`), the keys (`o = 1`) or the values (`o = 2`). -/
def chan (o : Fin 3) (h : Fin 8) (d : Fin 64) : Fin 1536 :=
  ⟨o.val * 512 + (h.val * 64 + d.val), by have := o.isLt; have := h.isLt; have := d.isLt; omega⟩

variable (x0 : (⟨S4x8192x1536, .bf16⟩ : BufTy).Contents (Elt Ideal)) (x1 : (⟨S8x15x31, .f32⟩ : BufTy).Contents (Elt Ideal))

/-- The score a query gives the neighbour in the `i`-th row and `j`-th column of its window. -/
def score (b : Fin 4) (h : Fin 8) (r : Fin 128) (x : Fin 64) (i : Fin 8) (j : Fin 16) : EReal :=
  (∑ d : Fin 64, x0 (ix3 b (pos r x) (chan 0 h d)) * x0 (ix3 b (pos (nrow r i) (ncol x j)) (chan 1 h d)))
      * Ideal.ofBits FTy.f32 1040187392#32
    + x1 (ix3 h (drow r i) (dcol x j))

/-- The sum of a window's values, each weighted by its share of the exponentials of the scores. -/
def weighted (s : Fin 8 → Fin 16 → EReal) (v : Fin 8 → Fin 16 → EReal) : EReal :=
  let M := Finset.fold max (⊥ : EReal) (fun κ : Fin 128 => s ⟨κ / 16, by omega⟩ ⟨κ % 16, by omega⟩) Finset.univ
  ∑ i, ∑ j, Ideal.div (Ideal.exp (s i j - M))
    (∑ κ : Fin 128, Ideal.exp (s ⟨κ / 16, by omega⟩ ⟨κ % 16, by omega⟩ - M)) * v i j

/-- The word of minus infinity is minus infinity. -/
theorem ofBits_neg_inf : Ideal.ofBits FTy.f32 4286578688#32 = (⊥ : EReal) := by
  simp [Ideal.ofBits, Ideal.ieee]

/-- The reference's queries are entries of the packed array. -/
theorem q_apply (b : Fin 4) (h : Fin 8) (r : Fin 128) (x : Fin 64) (d : Fin 64) :
    val_main_v2 x0 (ix5 b r x h d) = x0 (ix3 b (pos r x) (chan 0 h d)) := by
  unfold val_main_v2 val_main_v1 val_main_v0
  pointwise
  congr 1; congr 1 <;> refine Fin.ext ?_ <;> simp only [pos, chan] <;> omega

/-- The reference's keys are entries of the packed array. -/
theorem k_apply (b : Fin 4) (h : Fin 8) (r : Fin 128) (x : Fin 64) (d : Fin 64) :
    val_main_v5 x0 (ix5 b r x h d) = x0 (ix3 b (pos r x) (chan 1 h d)) := by
  unfold val_main_v5 val_main_v4 val_main_v3
  pointwise
  exact congrArg x0 (congrArg (ix3 b (pos r x)) (Fin.ext rfl))

/-- The reference's values are entries of the packed array. -/
theorem v_apply (b : Fin 4) (h : Fin 8) (r : Fin 128) (x : Fin 64) (d : Fin 64) :
    val_main_v8 x0 (ix5 b r x h d) = x0 (ix3 b (pos r x) (chan 2 h d)) := by
  unfold val_main_v8 val_main_v7 val_main_v6
  pointwise
  exact congrArg x0 (congrArg (ix3 b (pos r x)) (Fin.ext rfl))

/-- The gathered keys are those of the window. -/
theorem keys_apply (b : Fin 4) (r : Fin 128) (i : Fin 8) (x : Fin 64) (j : Fin 16) (h : Fin 8) (d : Fin 64) :
    val_main_v52 x0 (ix7 b r i x j h d) = x0 (ix3 b (pos (nrow r i) (ncol x j)) (chan 1 h d)) := by
  unfold val_main_v52 val_main_v45
  rw [take_columns _ _ (ncol x j) _ _ _ _ _ _ _ (cols_word x j), take_rows _ _ (nrow r i) _ _ _ _ _ _ (rows_word r i), k_apply]

/-- The gathered values are those of the window. -/
theorem vals_apply (b : Fin 4) (r : Fin 128) (i : Fin 8) (x : Fin 64) (j : Fin 16) (h : Fin 8) (d : Fin 64) :
    val_main_v66 x0 (ix7 b r i x j h d) = x0 (ix3 b (pos (nrow r i) (ncol x j)) (chan 2 h d)) := by
  unfold val_main_v66 val_main_v59
  rw [take_columns _ _ (ncol x j) _ _ _ _ _ _ _ (cols_word' x j), take_rows _ _ (nrow r i) _ _ _ _ _ _ (rows_word' r i), v_apply]

/-- The gathered biases are those of the distances. -/
theorem bias_apply (h : Fin 8) (r : Fin 128) (x : Fin 64) (i : Fin 8) (j : Fin 16) :
    val_main_v87 x1 (ix5 h r x i j) = x1 (ix3 h (drow r i) (dcol x j)) := by
  unfold val_main_v87
  exact take_biases _ _ _ _ _ _ _ _ _ (pair_word0 r x i j) (pair_word1 r x i j)

/-- The reference's scores. -/
theorem score_apply (b : Fin 4) (h : Fin 8) (r : Fin 128) (x : Fin 64) (i : Fin 8) (j : Fin 16) :
    val_main_v90 x0 x1 (ix6 b h r x i j) = score x0 x1 b h r x i j := by
  unfold val_main_v90 val_main_v69 val_main_v68 val_main_v67 val_main_v89 val_main_v88 val_main_cst
  generalize hq : val_main_v2 x0 = q
  generalize hk : val_main_v52 x0 = k
  generalize hb : val_main_v87 x1 = w
  pointwise [dot_S4x128x64x8x64_S4x128x8x64x16x8x64_S4x8x128x64x8x16_4_6_n_24_0312_0513]
  subst hq hk hb
  simp only [q_apply, keys_apply, bias_apply]
  rfl

/-- The reference's scores, with the window numbered from 0 to 127. -/
theorem scores_flat (b : Fin 4) (h : Fin 8) (r : Fin 128) (x : Fin 64) (κ : Fin 128) :
    val_main_v91 x0 x1 (ix5 b h r x κ) = score x0 x1 b h r x ⟨κ / 16, by omega⟩ ⟨κ % 16, by omega⟩ := by
  rw [← score_apply]
  unfold val_main_v91
  generalize val_main_v90 x0 x1 = y
  pointwise

/-- The largest score of a window, before it is spread over the window. -/
theorem max_flat (b : Fin 4) (h : Fin 8) (r : Fin 128) (x : Fin 64) :
    val_main_v92 x0 x1 (ix4 b h r x) = Finset.fold max (val_main_cst_19 (F := Ideal) (Shape.Idx.first h_S_))
      (fun κ : Fin 128 => val_main_v91 x0 x1 (ix5 b h r x κ)) Finset.univ := by
  unfold val_main_v92
  generalize val_main_v91 x0 x1 = y
  generalize val_main_cst_19 (F := Ideal) = z
  pointwise

/-- The largest score of a window. -/
theorem max_apply (b : Fin 4) (h : Fin 8) (r : Fin 128) (x : Fin 64) :
    val_main_v94 x0 x1 (ix4 b h r x)
      = Finset.fold max (⊥ : EReal) (fun κ : Fin 128 => score x0 x1 b h r x ⟨κ / 16, by omega⟩ ⟨κ % 16, by omega⟩) Finset.univ := by
  have e : val_main_v93 (F := Ideal) (ix4 b h r x) = (⊥ : EReal) := by
    rw [val_main_v93_apply]
    exact ofBits_neg_inf
  have z : val_main_cst_19 (F := Ideal) (Shape.Idx.first h_S_) = (⊥ : EReal) := ofBits_neg_inf
  rw [val_main_v94_apply, max_flat, e, z, funext fun κ => scores_flat x0 x1 b h r x κ]
  exact max_eq_right bot_le

/-- The exponential of a score less the largest. -/
theorem exp_apply (b : Fin 4) (h : Fin 8) (r : Fin 128) (x : Fin 64) (κ : Fin 128) :
    val_main_v98 x0 x1 (ix5 b h r x κ)
      = Ideal.exp (score x0 x1 b h r x ⟨κ / 16, by omega⟩ ⟨κ % 16, by omega⟩ - val_main_v94 x0 x1 (ix4 b h r x)) := by
  rw [← scores_flat]
  unfold val_main_v98 val_main_v97 val_main_v96 val_main_v95
  generalize val_main_v91 x0 x1 = y
  generalize val_main_v94 x0 x1 = z
  pointwise

/-- The softmax weight of a key, with the window numbered from 0 to 127. -/
theorem weight_flat (b : Fin 4) (h : Fin 8) (r : Fin 128) (x : Fin 64) (κ : Fin 128) :
    val_main_v102 x0 x1 (ix5 b h r x κ) = Ideal.div (val_main_v98 x0 x1 (ix5 b h r x κ))
      (∑ κ : Fin 128, val_main_v98 x0 x1 (ix5 b h r x κ)) := by
  rw [val_main_v102_apply, val_main_v101_apply, val_main_v100_apply, val_main_v99_apply]
  have e : ∀ k : Fin 128, idx_main_v99 (idx_main_v100 (idx_main_v101 (ix5 b h r x κ))) k = ix5 b h r x k := fun k => by
    funext a
    match a with
    | ⟨0, _⟩ => rfl
    | ⟨1, _⟩ => rfl
    | ⟨2, _⟩ => rfl
    | ⟨3, _⟩ => rfl
    | ⟨4, _⟩ => rfl
  have z : val_main_cst_21 (F := Ideal) (Shape.Idx.first h_S_) = (0 : EReal) := Ideal.ofBits_zero_f32
  simp only [e, z, zero_add]
  rfl

/-- The softmax weight of a key of the window. -/
theorem weight_apply (b : Fin 4) (h : Fin 8) (r : Fin 128) (x : Fin 64) (i : Fin 8) (j : Fin 16) :
    val_main_v103 x0 x1 (ix6 b h r x i j) = Ideal.div (val_main_v98 x0 x1 (ix5 b h r x ⟨i * 16 + j, by omega⟩))
      (∑ κ : Fin 128, val_main_v98 x0 x1 (ix5 b h r x κ)) := by
  rw [← weight_flat]
  unfold val_main_v103
  generalize val_main_v102 x0 x1 = y
  pointwise

/-- An entry of the reference's result is the softmax-weighted sum of the window's values. -/
theorem reference_apply (b : Fin 4) (h : Fin 8) (r : Fin 128) (x : Fin 64) (d : Fin 64) :
    val_main_v106 x0 x1 (ix3 b (pos r x) ⟨h * 64 + d, by omega⟩)
      = weighted (score x0 x1 b h r x) (fun i j => x0 (ix3 b (pos (nrow r i) (ncol x j)) (chan 2 h d))) := by
  have e : val_main_v106 x0 x1 (ix3 b (pos r x) ⟨h * 64 + d, by omega⟩) = val_main_v104 x0 x1 (ix5 b r x h d) := by
    unfold val_main_v106 val_main_v105
    generalize val_main_v104 x0 x1 = y
    pointwise
    congr 1; congr 1 <;> refine Fin.ext ?_ <;> simp only [pos] <;> omega
  rw [e]
  unfold val_main_v104
  generalize hy : val_main_v103 x0 x1 = y
  generalize hz : val_main_v66 x0 = z
  pointwise [dot_S4x8x128x64x8x16_S4x128x8x64x16x8x64_S4x128x64x8x64_45_24_n_6_0231_0135]
  subst hy hz
  simp only [weight_apply, vals_apply, exp_apply, max_apply]
  unfold weighted
  refine Finset.sum_congr rfl fun i _ => Finset.sum_congr rfl fun j _ => ?_
  have e1 : (⟨(i.val * 16 + j.val) / 16, by omega⟩ : Fin 8) = i := Fin.ext (by show (i.val * 16 + j.val) / 16 = i.val; omega)
  have e2 : (⟨(i.val * 16 + j.val) % 16, by omega⟩ : Fin 16) = j := Fin.ext (by show (i.val * 16 + j.val) % 16 = j.val; omega)
  rw [e1, e2]

end Cert.NeighbourAttention

end
-- ==== Proof.Softmax.lean ====
module

public import proofs.«01_k».proof.Proof.Ref

@[expose] public section

noncomputable section

namespace Cert.NeighbourAttention

open Idealize.ShloMosaic

/-- A sum times a nonnegative finite number is the sum of the products, whatever the summands. -/
theorem sum_mul_real {ι : Type} (S : Finset ι) (f : ι → EReal) (c : EReal) (h0 : 0 ≤ c) (ht : c ≠ ⊤) :
    (∑ k ∈ S, f k) * c = ∑ k ∈ S, f k * c := by
  classical
  induction S using Finset.induction_on with
  | empty => simp
  | insert a S ha ih => rw [Finset.sum_insert ha, Finset.sum_insert ha, EReal.right_distrib_of_nonneg_of_ne_top h0 ht, ih]

/-- A finite sum of positive numbers over a nonempty range is a positive number. -/
theorem sum_pos_real {n : ℕ} [NeZero n] (f : Fin n → EReal) (h : ∀ k, ∃ a : ℝ, 0 < a ∧ f k = a) :
    ∃ a : ℝ, 0 < a ∧ ∑ k, f k = a := by
  choose g hg hf using h
  refine ⟨∑ k, g k, Finset.sum_pos (fun k _ => hg k) ⟨0, Finset.mem_univ _⟩, ?_⟩
  rw [Finset.sum_congr rfl fun k _ => hf k]
  exact (map_sum (⟨⟨fun x : ℝ => (x : EReal), rfl⟩, fun _ _ => rfl⟩ : ℝ →+ EReal) g Finset.univ).symm

/-- The largest of finitely many numbers, over a nonempty range, is a number. -/
theorem max_real {n : ℕ} [NeZero n] (f : Fin n → EReal) (h : ∀ k, ∃ a : ℝ, f k = a) :
    ∃ a : ℝ, Finset.fold max (⊥ : EReal) f Finset.univ = a := by
  obtain ⟨k, -, hk⟩ := Finset.exists_mem_eq_sup Finset.univ ⟨(0 : Fin n), Finset.mem_univ _⟩ f
  obtain ⟨a, ha⟩ := h k
  exact ⟨a, hk.trans ha⟩

/-- The largest over a range is the largest over the part of it where the function is not minus infinity. -/
theorem max_part {m n : ℕ} (p : Fin m → Fin n) (f : Fin n → EReal) (h : ∀ κ, κ ∉ Set.range p → f κ = ⊥) :
    Finset.fold max (⊥ : EReal) f Finset.univ = Finset.fold max (⊥ : EReal) (fun k => f (p k)) Finset.univ := by
  refine le_antisymm (Finset.sup_le fun κ _ => ?_ : Finset.univ.sup f ≤ Finset.univ.sup fun k => f (p k))
    (Finset.sup_le fun k _ => Finset.le_sup (f := f) (Finset.mem_univ (p k)))
  by_cases hκ : κ ∈ Set.range p
  · obtain ⟨k, rfl⟩ := hκ
    exact Finset.le_sup (f := fun k => f (p k)) (Finset.mem_univ k)
  · rw [h κ hκ]; exact bot_le

/-- Softmax weighting over a whole row of 512 keys, the keys outside the window scored minus infinity, is softmax
    weighting over the window: outside it every weight is zero, and dividing the weighted sum by the sum of the
    exponentials divides each weight. -/
theorem window_softmax (s v : Fin 512 → EReal) (t w : Fin 8 → Fin 16 → EReal) (e : Fin 8 → Fin 16 → Fin 512)
    (he : ∀ i j i' j', e i j = e i' j' → i = i' ∧ j = j')
    (hs : ∀ i j, s (e i j) = t i j) (hv : ∀ i j, v (e i j) = w i j)
    (hoff : ∀ κ, (∀ i j, e i j ≠ κ) → s κ = ⊥) (hfin : ∀ i j, ∃ a : ℝ, t i j = a) :
    Ideal.div (∑ κ, Ideal.exp (s κ - Finset.fold max (⊥ : EReal) s Finset.univ) * v κ)
      (∑ κ, Ideal.exp (s κ - Finset.fold max (⊥ : EReal) s Finset.univ)) = weighted t w := by
  let p : Fin 128 → Fin 512 := fun κ => e ⟨κ / 16, by omega⟩ ⟨κ % 16, by omega⟩
  have hp : Function.Injective p := fun a b hab => by
    obtain ⟨h1, h2⟩ := he _ _ _ _ hab
    have h1 := congrArg Fin.val h1
    have h2 := congrArg Fin.val h2
    simp only at h1 h2
    exact Fin.ext (by omega)
  have hout : ∀ κ, κ ∉ Set.range p → s κ = ⊥ := fun κ hκ => hoff κ fun i j hij => hκ ⟨⟨i * 16 + j, by omega⟩, by
    rw [← hij]
    exact congrArg₂ e (Fin.ext (by show (i.val * 16 + j.val) / 16 = i.val; omega)) (Fin.ext (by show (i.val * 16 + j.val) % 16 = j.val; omega))⟩
  have hM := max_part p s hout
  simp only [show ∀ k, s (p k) = t ⟨k / 16, by omega⟩ ⟨k % 16, by omega⟩ from fun k => hs _ _] at hM
  unfold weighted
  rw [← hM]
  obtain ⟨M, hM'⟩ := max_real (fun κ : Fin 128 => t ⟨κ / 16, by omega⟩ ⟨κ % 16, by omega⟩) fun _ => hfin _ _
  rw [hM, hM']
  have hbot : ∀ κ, κ ∉ Set.range p → Ideal.exp (s κ - (M : EReal)) = 0 := fun κ hκ => by
    rw [hout κ hκ]; rfl
  have hsum : ∀ u : Fin 512 → EReal, (∑ κ, Ideal.exp (s κ - (M : EReal)) * u κ)
      = ∑ k : Fin 128, Ideal.exp (t ⟨k / 16, by omega⟩ ⟨k % 16, by omega⟩ - (M : EReal)) * u (p k) := fun u =>
    (Fintype.sum_of_injective p hp _ _ (fun κ hκ => by rw [hbot κ hκ, zero_mul]) fun k => by
      rw [show s (p k) = t ⟨k / 16, by omega⟩ ⟨k % 16, by omega⟩ from hs _ _]).symm
  have hden : (∑ κ, Ideal.exp (s κ - (M : EReal)))
      = ∑ k : Fin 128, Ideal.exp (t ⟨k / 16, by omega⟩ ⟨k % 16, by omega⟩ - (M : EReal)) := by
    have := hsum fun _ => 1
    simpa only [mul_one] using this
  obtain ⟨D, hD, hD'⟩ := sum_pos_real (fun k : Fin 128 => Ideal.exp (t ⟨k / 16, by omega⟩ ⟨k % 16, by omega⟩ - (M : EReal)))
    fun k => by
      obtain ⟨a, ha⟩ := hfin ⟨k / 16, by omega⟩ ⟨k % 16, by omega⟩
      exact ⟨Real.exp (a - M), Real.exp_pos _, by rw [ha, ← EReal.coe_sub]; rfl⟩
  have hdiv : ∀ y : EReal, Ideal.div y (D : EReal) = y * ((D⁻¹ : ℝ) : EReal) := fun y => by
    unfold Ideal.div
    rw [if_neg (by exact_mod_cast hD.ne'), EReal.coe_inv]
  rw [hsum v, hden]
  simp only [hD', hdiv]
  rw [sum_mul_real _ _ _ (by exact_mod_cast (inv_pos.mpr hD).le) (EReal.coe_ne_top _), ← Finset.sum_product']
  symm
  refine Fintype.sum_equiv (finProdFinEquiv (m := 8) (n := 16)) _ _ fun q => ?_
  have e1 : (⟨(finProdFinEquiv (m := 8) (n := 16) q).val / 16, by have := (finProdFinEquiv (m := 8) (n := 16) q).isLt; omega⟩ : Fin 8) = q.1 :=
    Fin.ext (by show (q.2.val + 16 * q.1.val) / 16 = q.1.val; omega)
  have e2 : (⟨(finProdFinEquiv (m := 8) (n := 16) q).val % 16, by omega⟩ : Fin 16) = q.2 :=
    Fin.ext (by show (q.2.val + 16 * q.1.val) % 16 = q.2.val; omega)
  show _ = Ideal.exp (t _ _ - (M : EReal)) * v (e _ _) * _
  rw [e1, e2, hv]
  exact mul_right_comm _ _ _

end Cert.NeighbourAttention

end
-- ==== Proof.Row.lean ====
module

public import proofs.«01_k».proof.Proof.Block
public import proofs.«01_k».proof.Proof.Softmax

@[expose] public section

noncomputable section

namespace Cert.NeighbourAttention

open Cert.AttentionIdeal Cert.AttentionIdeal.Gen Idealize.ShloMosaic

/-- The softmax-weighted sum of 512 values: the sum of the values times the exponentials of their scores, divided by
    the sum of the exponentials. -/
def attend (s v : Fin 512 → EReal) : EReal :=
  Ideal.div (∑ κ, Ideal.exp (s κ - Finset.fold max (⊥ : EReal) s Finset.univ) * v κ)
    (∑ κ, Ideal.exp (s κ - Finset.fold max (⊥ : EReal) s Finset.univ))

/-- The lane of entry `d` of the first or second head of a pair. -/
def lane (g : Fin 2) (d : Fin 64) : Fin 128 := ⟨g.val * 64 + d.val, by have := g.isLt; have := d.isLt; omega⟩

/-- Whether a lane lies in the first half, as the kernel computes it. -/
theorem lane_word : ∀ (g : Fin 2) (d : Fin 64) {α : Type} (a b : α),
    Scalar.select (IntOp.cmpi .slt (BitVec.ofNat 32 (lane g d).val) 64#32) a b = if g = 0 then a else b := by
  intro g d α a b
  have h : ∀ (g : Fin 2) (d : Fin 64), IntOp.cmpi .slt (BitVec.ofNat 32 (lane g d).val) 64#32 = if g = 0 then 1#1 else 0#1 := by
    decide +kernel
  rw [h]
  split <;> rfl

/-- A sum over 128 lanes is the sum over the two heads' lanes. -/
theorem sum_lanes (f : Fin 128 → EReal) : ∑ l, f l = ∑ g, ∑ d, f (lane g d) := by
  rw [← Finset.sum_product']
  refine (Fintype.sum_equiv (finProdFinEquiv (m := 2) (n := 64)) _ _ fun q => ?_).symm
  exact congrArg f (Fin.ext (by show q.1.val * 64 + q.2.val = q.2.val + 64 * q.1.val; omega))

/-- The scores the body computes for one row of both heads of a pair. -/
theorem scores_apply (q : Vec Ideal S1x64x128 .bf16) (k : Vec Ideal S1x512x128 .bf16) (b : Vec Ideal S1x2x64x512 .f32)
    (g : Fin 2) (x : Fin 64) (κ : Fin 512) : k0_pay3 q k b (ix2 (lane g x) κ)
      = (∑ d, q (ix3 0 x (lane g d)) * k (ix3 0 κ (lane g d))) * Ideal.ofBits FTy.f32 1040187392#32 + b (ix4 0 g x κ) := by
  unfold_payloads
  pointwise [dot_S128x128_S512x128_S128x512_1_1_0_0_n_n]
  have e1 : (⟨(lane g x).val / 64, by have := (lane g x).isLt; omega⟩ : Fin 2) = g := Fin.ext (by show (g.val * 64 + x.val) / 64 = g.val; omega)
  have e2 : (⟨(lane g x).val % 64, by omega⟩ : Fin 64) = x := Fin.ext (by show (g.val * 64 + x.val) % 64 = x.val; omega)
  rw [e1, e2, sum_lanes]
  simp only [lane_word]
  congr 2
  match g with
  | 0 =>
    rw [Fin.sum_univ_two]
    simp [lane]
  | 1 =>
    rw [Fin.sum_univ_two]
    simp [lane]

/-- What the body stores of the scores of one row: the softmax-weighted sum of the 512 values. -/
theorem finish_apply (s : FVec Ideal S128x512 .f32) (v : Vec Ideal S1x512x128 .bf16) (g : Fin 2) (x : Fin 64) (d : Fin 64) :
    k0_pay9 k0_pay2 s v (ix3 0 x (lane g d)) = attend (fun κ => s (ix2 (lane g x) κ)) (fun κ => v (ix3 0 κ (lane g d))) := by
  unfold_payloads
  pointwise [dot_S128x512_S512x128_S128x128_1_0_0_1_n_n]
  rw [lane_word]
  unfold attend
  rw [ofBits_neg_inf]
  match g with
  | 0 =>
    rw [if_pos rfl]
    have e : lane 0 x = ⟨x.val, by omega⟩ := Fin.ext (by show 0 * 64 + x.val = x.val; omega)
    rw [e]
  | 1 =>
    rw [if_neg (by decide)]
    have e : lane 1 x = ⟨64 + x.val, by omega⟩ := Fin.ext (by show 1 * 64 + x.val = 64 + x.val; omega)
    rw [e]

/-- One row of the kernel's results at a lane: attention over the row's 512 loaded keys, by the head of that lane. -/
theorem rowOut_apply (q : Vec Ideal S1x64x128 .bf16) (k v : Vec Ideal S1x512x128 .bf16) (b : Vec Ideal S1x2x64x512 .f32)
    (g : Fin 2) (x : Fin 64) (d : Fin 64) : rowOut q k v b (ix3 0 x (lane g d))
      = attend (fun κ => (∑ d, q (ix3 0 x (lane g d)) * k (ix3 0 κ (lane g d))) * Ideal.ofBits FTy.f32 1040187392#32 + b (ix4 0 g x κ))
          (fun κ => v (ix3 0 κ (lane g d))) := by
  unfold rowOut
  rw [finish_apply]
  simp only [scores_apply]

end Cert.NeighbourAttention

end
-- ==== Proof.Array.lean ====
module

public import proofs.«01_k».proof.Proof.Row
public import Idealize.ShloMosaic.Lib.Pipeline.ValueKit

@[expose] public section

set_option maxRecDepth 16384

noncomputable section

namespace Cert.NeighbourAttention

open Cert.AttentionIdeal Cert.AttentionIdeal.Gen Cert.AttentionIdeal.Value Idealize.ShloMosaic Idealize.ShloMosaic.TcCoe Idealize.SL.Sem

/-- How far row `r` lies below the first row it attends to. -/
def dist (r : Fin 128) : Fin 8 := ⟨r - rowStart r, by have := r.isLt; unfold rowStart; omega⟩

/-- The position of the `κ`-th of the 512 keys in the eight rows that row `r` attends to. -/
def key (r : Fin 128) (κ : Fin 512) : Fin 8192 := ⟨rowStart r * 64 + κ, by have := κ.isLt; unfold rowStart; omega⟩

/-- The kernel's result at head `h`, row `r`, column `x`, entry `d`, from the packed queries, keys and values and a
    table of biases. -/
def out (x0 : Vec Ideal S4x8192x1536 .bf16) (tab : Vec Ideal S8x8x64x512 .f32) (b : Fin 4) (h : Fin 8) (r : Fin 128) (x : Fin 64) (d : Fin 64) : EReal :=
  attend (fun κ => (∑ d, x0 (ix3 b (pos r x) (chan 0 h d)) * x0 (ix3 b (key r κ) (chan 1 h d))) * Ideal.ofBits FTy.f32 1040187392#32
      + tab (ix4 (dist r) h x κ))
    (fun κ => x0 (ix3 b (key r κ) (chan 2 h d)))

/-- The whole array of the kernel's results. -/
def outArray (x0 : Vec Ideal S4x8192x1536 .bf16) (tab : Vec Ideal S8x8x64x512 .f32) : Vec Ideal S4x8192x512 .bf16 := fun y =>
  out x0 tab (y 0) ⟨(y 2).val / 64, by have : (y 2).val < 512 := (y 2).isLt; omega⟩
    ⟨(y 1).val / 64, by have : (y 1).val < 8192 := (y 1).isLt; omega⟩ ⟨(y 1).val % 64, by omega⟩ ⟨(y 2).val % 64, by omega⟩

/-- Where the keys and values of a row start, at every grid point. -/
theorem off1 : ∀ (t : Fin grid0.N) (rr : Fin 16),
    k0_off1 (grid0.coords t) (BitVec.ofNat 32 rr.val) = ![0, rowStart ((grid0.coords t 2).val * 16 + rr.val) * 64, 0] := by
  decide +kernel

/-- Which table of biases a row uses, at every grid point. -/
theorem off2 : ∀ (t : Fin grid0.N) (rr : Fin 16),
    k0_off2 (grid0.coords t) (BitVec.ofNat 32 rr.val)
      = ![(grid0.coords t 2).val * 16 + rr.val - rowStart ((grid0.coords t 2).val * 16 + rr.val), 0, 0, 0] := by
  decide +kernel

/-- The block of queries a grid point is given. -/
theorem index0 : ∀ t : Fin grid0.N, win0_0.index t = ![(grid0.coords t 0).val, (grid0.coords t 2).val, (grid0.coords t 1).val] := by
  decide +kernel
/-- The block of keys a grid point is given. -/
theorem index1 : ∀ t : Fin grid0.N, win0_1.index t = ![(grid0.coords t 0).val, 0, 4 + (grid0.coords t 1).val] := by
  decide +kernel
/-- The block of values a grid point is given. -/
theorem index2 : ∀ t : Fin grid0.N, win0_2.index t = ![(grid0.coords t 0).val, 0, 8 + (grid0.coords t 1).val] := by
  decide +kernel
/-- The block of biases a grid point is given. -/
theorem index3 : ∀ t : Fin grid0.N, win0_3.index t = ![0, (grid0.coords t 1).val, 0, 0] := by
  decide +kernel
/-- The block of results a grid point writes. -/
theorem index4 : ∀ t : Fin grid0.N, win0_4.index t = ![(grid0.coords t 0).val, (grid0.coords t 2).val, (grid0.coords t 1).val] := by
  decide +kernel

variable (m : (ℓ : Loc nD τ sig) → Buf (Elt Ideal) ℓ)

/-- The head a grid point works on, of the two of its pair. -/
def head (t : Fin grid0.N) (g : Fin 2) : Fin 8 :=
  ⟨2 * (grid0.coords t 1).val + g, by have : (grid0.coords t 1).val < 4 := (grid0.coords t 1).isLt; have := g.isLt; omega⟩

/-- The grid row of the `rr`-th of a grid point's sixteen rows. -/
def row (t : Fin grid0.N) (rr : Fin 16) : Fin 128 :=
  ⟨(grid0.coords t 2).val * 16 + rr, by have : (grid0.coords t 2).val < 8 := (grid0.coords t 2).isLt; have := rr.isLt; omega⟩

/-- The batch element a grid point works on. -/
def batch (t : Fin grid0.N) : Fin 4 := grid0.coords t 0

/-- A row's queries, as the body reads them, are entries of the packed array. -/
theorem read_q (c : Dev nD) (t : Fin cfg0.N) (rr : Fin 16) (x : Fin 64) (g : Fin 2) (d : Fin 64) :
    View.ld (iblk m c 0 t) (Rect.unit ![0, 64 * rr.val, 0] S1x64x128.size (inbRow rr)) (ix3 0 x (lane g d))
      = V m c main_arg0 (ix3 (batch t) (pos (row t rr) x) (chan 0 (head t g) d)) := by
  rw [View.ld_apply]
  blk_ext [iblk, index0 t]
  · rfl
  · rw [Rect.idx_unit_val]
    show _ + (64 * rr.val + x.val) = ((grid0.coords t 2).val * 16 + rr.val) * 64 + x.val
    omega
  · rw [Rect.idx_unit_val]
    show _ + (0 + (g.val * 64 + d.val)) = 0 * 512 + ((2 * (grid0.coords t 1).val + g.val) * 64 + d.val)
    omega

/-- A row's keys, as the body reads them, are entries of the packed array. -/
theorem read_k (c : Dev nD) (t : Fin cfg0.N) (rr : Fin 16) (κ : Fin 512) (g : Fin 2) (d : Fin 64) :
    View.ld (iblk m c 1 t) (Rect.unit (k0_off1 (grid0.coords t) (BitVec.ofNat 32 rr.val)) S1x512x128.size (k0_off1_inb (grid0.coords t) rr)) (ix3 0 κ (lane g d))
      = V m c main_arg0 (ix3 (batch t) (key (row t rr) κ) (chan 1 (head t g) d)) := by
  rw [View.ld_apply]
  blk_ext [iblk, index1 t]
  · rfl
  · rw [Rect.idx_unit_val]
    show k0_off1 (grid0.coords t) (BitVec.ofNat 32 rr.val) 1 + κ.val = _
    rw [congrFun (off1 t rr) 1]
    rfl
  · rw [Rect.idx_unit_val]
    show _ + (k0_off1 (grid0.coords t) (BitVec.ofNat 32 rr.val) 2 + (g.val * 64 + d.val)) = _
    rw [congrFun (off1 t rr) 2]
    show _ + (0 + (g.val * 64 + d.val)) = 1 * 512 + ((2 * (grid0.coords t 1).val + g.val) * 64 + d.val)
    omega

/-- A row's values, as the body reads them, are entries of the packed array. -/
theorem read_v (c : Dev nD) (t : Fin cfg0.N) (rr : Fin 16) (κ : Fin 512) (g : Fin 2) (d : Fin 64) :
    View.ld (iblk m c 2 t) (Rect.unit (k0_off1 (grid0.coords t) (BitVec.ofNat 32 rr.val)) S1x512x128.size (k0_off1_inb (grid0.coords t) rr)) (ix3 0 κ (lane g d))
      = V m c main_arg0 (ix3 (batch t) (key (row t rr) κ) (chan 2 (head t g) d)) := by
  rw [View.ld_apply]
  blk_ext [iblk, index2 t]
  · rfl
  · rw [Rect.idx_unit_val]
    show k0_off1 (grid0.coords t) (BitVec.ofNat 32 rr.val) 1 + κ.val = _
    rw [congrFun (off1 t rr) 1]
    rfl
  · rw [Rect.idx_unit_val]
    show _ + (k0_off1 (grid0.coords t) (BitVec.ofNat 32 rr.val) 2 + (g.val * 64 + d.val)) = _
    rw [congrFun (off1 t rr) 2]
    show _ + (0 + (g.val * 64 + d.val)) = 2 * 512 + ((2 * (grid0.coords t 1).val + g.val) * 64 + d.val)
    omega

/-- A row's biases, as the body reads them, are entries of the table. -/
theorem read_b (c : Dev nD) (t : Fin cfg0.N) (rr : Fin 16) (x : Fin 64) (κ : Fin 512) (g : Fin 2) :
    View.ld (iblk m c 3 t) (Rect.unit (k0_off2 (grid0.coords t) (BitVec.ofNat 32 rr.val)) S1x2x64x512.size (k0_off2_inb (grid0.coords t) rr)) (ix4 0 g x κ)
      = V m c main_v59 (ix4 (dist (row t rr)) (head t g) x κ) := by
  rw [View.ld_apply]
  blk_ext [iblk, index3 t]
  · rw [Rect.idx_unit_val]
    show k0_off2 (grid0.coords t) (BitVec.ofNat 32 rr.val) 0 + 0 = _
    rw [congrFun (off2 t rr) 0]
    rfl
  · rw [Rect.idx_unit_val]
    show _ + (k0_off2 (grid0.coords t) (BitVec.ofNat 32 rr.val) 1 + g.val) = _
    rw [congrFun (off2 t rr) 1]
    show _ + (0 + g.val) = 2 * (grid0.coords t 1).val + g.val
    omega
  · rw [Rect.idx_unit_val]
    show k0_off2 (grid0.coords t) (BitVec.ofNat 32 rr.val) 2 + x.val = _
    rw [congrFun (off2 t rr) 2]
    exact Nat.zero_add _
  · rw [Rect.idx_unit_val]
    show k0_off2 (grid0.coords t) (BitVec.ofNat 32 rr.val) 3 + κ.val = _
    rw [congrFun (off2 t rr) 3]
    exact Nat.zero_add _

/-- One row of one grid point's results, from the arrays the kernel is given. -/
theorem rowAt_eq (c : Dev nD) (t : Fin cfg0.N) (rr : Fin 16) (x : Fin 64) (g : Fin 2) (d : Fin 64) :
    rowAt (grid0.coords t) (iblk m c 0 t) (iblk m c 1 t) (iblk m c 2 t) (iblk m c 3 t) rr (ix3 0 x (lane g d))
      = out (V m c main_arg0) (V m c main_v59) (batch t) (head t g) (row t rr) x d := by
  unfold rowAt
  rw [rowOut_apply]
  unfold out
  refine congrArg₂ attend (funext fun κ => ?_) (funext fun κ => read_v m c t rr κ g d)
  exact congrArg₂ (· + ·) (congrArg (· * _) (Finset.sum_congr rfl fun d _ =>
    congrArg₂ (· * ·) (read_q m c t rr x g d) (read_k m c t rr κ g d))) (read_b m c t rr x κ g)

/-- The array the kernel returns, from the packed array and the table. -/
theorem array_eq (c : Dev nD) : (dats m 0 c).arrAt 4 cfg0.N
    = outArray (V m c main_arg0) (V m c main_v59) := by
  refine (dats m 0 c).arrAt_eq_of_covers 4 _ (by decide +kernel) fun t hf y => ?_
  blk_simp
  rw [after0_4]
  unfold outsAt0
  rw [out_eq]
  unfold block
  have h0 : (y 0).val < 1 := (y 0).isLt
  have h1 : (y 1).val < 1024 := (y 1).isLt
  have h2 : (y 2).val < 128 := (y 2).isLt
  have ey : ix3 (n0 := 1) (n1 := 64) (n2 := 128) (y 0) ⟨(y 1).val % 64, by omega⟩ (y 2)
      = ix3 0 ⟨(y 1).val % 64, by omega⟩ (lane ⟨(y 2).val / 64, by omega⟩ ⟨(y 2).val % 64, by omega⟩) := by
    refine congrArg₂ (fun a b => ix3 a _ b) (Fin.ext (by show (y 0).val = 0; omega)) (Fin.ext ?_)
    show (y 2).val = (y 2).val / 64 * 64 + (y 2).val % 64
    omega
  refine (congrArg _ ey).trans ((rowAt_eq m c t _ _ _ _).trans ?_)
  have e0 : ((win0_4.blk t).view.emb y 0).val = (grid0.coords t 0).val := by blk_simp [index4 t]
  have e1 : ((win0_4.blk t).view.emb y 1).val = (grid0.coords t 2).val * 1024 + (y 1).val := by blk_simp [index4 t]
  have e2 : ((win0_4.blk t).view.emb y 2).val = (grid0.coords t 1).val * 128 + (y 2).val := by blk_simp [index4 t]
  unfold outArray
  congr 1
  · exact Fin.ext e0.symm
  · refine Fin.ext ?_
    show 2 * (grid0.coords t 1).val + (y 2).val / 64 = ((win0_4.blk t).view.emb y 2).val / 64
    omega
  · refine Fin.ext ?_
    show (grid0.coords t 2).val * 16 + (y 1).val / 64 = ((win0_4.blk t).view.emb y 1).val / 64
    omega
  · refine Fin.ext ?_
    show (y 1).val % 64 = ((win0_4.blk t).view.emb y 1).val % 64
    omega
  · refine Fin.ext ?_
    show (y 2).val % 64 = ((win0_4.blk t).view.emb y 2).val % 64
    omega

end Cert.NeighbourAttention

end
-- ==== Proof.Table.lean ====
module

public import proofs.«01_k».proof.Proof.Array

@[expose] public section

set_option maxRecDepth 16384

noncomputable section

namespace Cert.NeighbourAttention

open Cert.AttentionIdeal Cert.AttentionIdeal.Gen Cert.AttentionIdeal.Value Idealize.ShloMosaic Idealize.ShloMosaic.TcCoe Idealize.SL.Sem

/-- The first column each column's query attends to, as the program computes it. -/
def starts : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- A number per column of keys, the same for every query. -/
def perKey (v : IVec S64 32) : IVec S64x64 32 :=
  broadcastInDim S64x64 ![0, 1] bcast_S1x64_S64x64_0_1 (broadcastInDim S1x64 ![1] bcast_S64_S1x64_1 v)

/-- A number per column of queries, the same for every key. -/
def perQuery (v : IVec S64 32) : IVec S64x64 32 :=
  broadcastInDim S64x64 ![0, 1] bcast_S64x1_S64x64_0_1 (broadcastInDim S64x1 ![0] bcast_S64_S64x1_0 v)

/-- Whether a key's column lies in the window of a query's column, as the program computes it. -/
def inWindow : IVec S64x64 1 :=
  andi (cmpi .sge (perKey (iotaInDim S64 32 0)) (perQuery starts))
    (cmpi .slt (perKey (iotaInDim S64 32 0)) (broadcastInDim S64x64 ![0, 1] bcast_S64x1_S64x64_0_1
      (addi (broadcastInDim S64x1 ![0] bcast_S64_S64x1_0 starts) (broadcastInDim S64x1 ![] bcast_S_S64x1 (constantI S_ 32 16#32)))))

/-- Which row of the bias table a row distance selects, one bit per row of the table. -/
def rowSel : IVec S8x8x15 1 :=
  cmpi .eq
    (broadcastInDim S8x8x15 ![0, 1, 2] bcast_S8x8x1_S8x8x15_0_1_2 (broadcastInDim S8x8x1 ![0, 1] bcast_S8x8_S8x8x1_0_1
      (addi (subi (broadcastInDim S8x8 ![0, 1] bcast_S1x8_S8x8_0_1 (broadcastInDim S1x8 ![1] bcast_S8_S1x8_1 (iotaInDim S8 32 0)))
          (broadcastInDim S8x8 ![0, 1] bcast_S8x1_S8x8_0_1 (broadcastInDim S8x1 ![0] bcast_S8_S8x1_0 (iotaInDim S8 32 0))))
        (broadcastInDim S8x8 ![] bcast_S_S8x8 (constantI S_ 32 7#32)))))
    (broadcastInDim S8x8x15 ![0, 1, 2] bcast_S1x1x15_S8x8x15_0_1_2 (broadcastInDim S1x1x15 ![2] bcast_S15_S1x1x15_2 (iotaInDim S15 32 0)))

/-- Which column of the bias table a column distance inside the window selects, one bit per column of the table. -/
def colSel : IVec S64x64x31 1 :=
  andi
    (cmpi .eq
      (broadcastInDim S64x64x31 ![0, 1, 2] bcast_S64x64x1_S64x64x31_0_1_2 (broadcastInDim S64x64x1 ![0, 1] bcast_S64x64_S64x64x1_0_1
        (addi (subi (perKey (iotaInDim S64 32 0)) (perQuery (iotaInDim S64 32 0)))
          (broadcastInDim S64x64 ![] bcast_S_S64x64 (constantI S_ 32 15#32)))))
      (broadcastInDim S64x64x31 ![0, 1, 2] bcast_S1x1x31_S64x64x31_0_1_2 (broadcastInDim S1x1x31 ![2] bcast_S31_S1x1x31_2 (iotaInDim S31 32 0))))
    (broadcastInDim S64x64x31 ![0, 1, 2] bcast_S64x64x1_S64x64x31_0_1_2 (broadcastInDim S64x64x1 ![0, 1] bcast_S64x64_S64x64x1_0_1 inWindow))

/-- The bias table with its rows selected. -/
def byRow (w : FVec Ideal S8x15x31 .f32) : FVec Ideal S8x8x8x31 .f32 :=
  Host.reduceAdd (select
      (broadcastInDim S8x8x8x15x31 ![0, 1, 2, 3, 4] bcast_S8x1x8x15x1_S8x8x8x15x31_0_1_2_3_4 (broadcastInDim S8x1x8x15x1 ![0, 2, 3] bcast_S8x8x15_S8x1x8x15x1_0_2_3 rowSel))
      (broadcastInDim S8x8x8x15x31 ![0, 1, 2, 3, 4] bcast_S1x8x1x15x31_S8x8x8x15x31_0_1_2_3_4 (broadcastInDim S1x8x1x15x31 ![1, 3, 4] bcast_S8x15x31_S1x8x1x15x31_1_3_4 w))
      (broadcastInDim S8x8x8x15x31 ![] bcast_S_S8x8x8x15x31 (constant (F := Ideal) S_ .f32 0x00000000#32)))
    (constant (F := Ideal) S_ .f32 0x00000000#32) reducesTo_S8x8x8x15x31_S8x8x8x31_d3 h_S_

/-- The bias table with its rows and columns selected. -/
def byCol (w : FVec Ideal S8x8x8x31 .f32) : FVec Ideal S8x8x64x8x64 .f32 :=
  Host.reduceAdd (select
      (broadcastInDim S8x8x64x8x64x31 ![0, 1, 2, 3, 4, 5] bcast_S1x1x64x1x64x31_S8x8x64x8x64x31_0_1_2_3_4_5 (broadcastInDim S1x1x64x1x64x31 ![2, 4, 5] bcast_S64x64x31_S1x1x64x1x64x31_2_4_5 colSel))
      (broadcastInDim S8x8x64x8x64x31 ![0, 1, 2, 3, 4, 5] bcast_S8x8x1x8x1x31_S8x8x64x8x64x31_0_1_2_3_4_5 (broadcastInDim S8x8x1x8x1x31 ![0, 1, 3, 5] bcast_S8x8x8x31_S8x8x1x8x1x31_0_1_3_5 w))
      (broadcastInDim S8x8x64x8x64x31 ![] bcast_S_S8x8x64x8x64x31 (constant (F := Ideal) S_ .f32 0x00000000#32)))
    (constant (F := Ideal) S_ .f32 0x00000000#32) reducesTo_S8x8x64x8x64x31_S8x8x64x8x64_d5 h_S_

/-- The kernel's table of biases: minus infinity outside the window. -/
def masked (w : FVec Ideal S8x8x64x8x64 .f32) : FVec Ideal S8x8x64x512 .f32 :=
  shapeCast _ (select
      (broadcastInDim S8x8x64x8x64 ![0, 1, 2, 3, 4] bcast_S1x1x64x1x64_S8x8x64x8x64_0_1_2_3_4 (broadcastInDim S1x1x64x1x64 ![2, 4] bcast_S64x64_S1x1x64x1x64_2_4 inWindow))
      w (broadcastInDim S8x8x64x8x64 ![] bcast_S_S8x8x64x8x64 (constant (F := Ideal) S_ .f32 0xFF800000#32))) shapeCasts_S8x8x64x8x64_S8x8x64x512

variable (m : (ℓ : Loc nD τ sig) → Buf (Elt Ideal) ℓ)

/-- The table the kernel is given is the three steps above applied to the biases. -/
theorem V_table (c : Dev nD) : V m c main_v59 = masked (byCol (byRow (m ((c : Thread nD τ).loc main_arg1)))) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The computed window of columns is the interval of sixteen columns. -/
theorem inWindow_apply : ∀ x y : Fin 64, inWindow (ix2 x y) = if colStart x ≤ y.val ∧ y.val < colStart x + 16 then 1#1 else 0#1 := by
  decide +kernel

/-- The computed row selection, as an equation between row numbers. -/
theorem rowSel_apply : ∀ (v i : Fin 8) (n : Fin 15), rowSel (ix3 v i n) = if i.val + 7 = n.val + v.val then 1#1 else 0#1 := by
  decide +kernel

/-- The computed column distance equals a number exactly if the columns lie so far apart. -/
theorem colWord (x y : Fin 64) (n : Fin 31) :
    IntOp.cmpi .eq (IntOp.addi (IntOp.subi (BitVec.ofNat 32 y.val) (BitVec.ofNat 32 x.val)) 15#32) (BitVec.ofNat 32 n.val)
      = if y.val + 15 = n.val + x.val then 1#1 else 0#1 := by
  have e : (BitVec.ofNat 32 y.val - BitVec.ofNat 32 x.val + 15#32 = BitVec.ofNat 32 n.val) ↔ y.val + 15 = n.val + x.val := by
    rw [← BitVec.toNat_inj]
    simp only [BitVec.toNat_add, BitVec.toNat_sub, BitVec.toNat_ofNat]
    omega
  show BitVec.ofBool (decide _) = _
  by_cases h : y.val + 15 = n.val + x.val
  · rw [if_pos h]; exact congrArg BitVec.ofBool (decide_eq_true (e.mpr h))
  · rw [if_neg h]; exact congrArg BitVec.ofBool (decide_eq_false fun q => h (e.mp q))

/-- The computed column selection, as an equation between column numbers within the window. -/
theorem colSel_apply (x y : Fin 64) (n : Fin 31) : colSel (ix3 x y n)
    = if y.val + 15 = n.val + x.val ∧ colStart x ≤ y.val ∧ y.val < colStart x + 16 then 1#1 else 0#1 := by
  have h : colSel (ix3 x y n) = IntOp.andi (IntOp.cmpi .eq (IntOp.addi (IntOp.subi (BitVec.ofNat 32 y.val) (BitVec.ofNat 32 x.val)) 15#32) (BitVec.ofNat 32 n.val))
      (inWindow (ix2 x y)) := by
    unfold colSel perKey perQuery
    generalize inWindow = s
    pointwise
  rw [h, colWord, inWindow_apply]
  split <;> split <;> split <;> first | rfl | (exfalso; tauto)

/-- An entry of the row sum. -/
theorem byRow_apply (w : FVec Ideal S8x15x31 .f32) (v h i : Fin 8) (d : Fin 31) :
    byRow w (ix4 v h i d) = ∑ n : Fin 15, Scalar.select (rowSel (ix3 v i n)) (w (ix3 h n d)) 0 := by
  unfold byRow
  generalize rowSel = s
  pointwise

/-- An entry of the column sum. -/
theorem byCol_apply (w : FVec Ideal S8x8x8x31 .f32) (v h i : Fin 8) (x y : Fin 64) :
    byCol w (ix5 v h x i y) = ∑ n : Fin 31, Scalar.select (colSel (ix3 x y n)) (w (ix4 v h i n)) 0 := by
  unfold byCol
  generalize colSel = s
  simp only [Host.reduceAdd, Ideal.hostReduceAdd_def]
  rw [Ideal.hostReduceAdd_single reducesTo_S8x8x64x8x64x31_S8x8x64x8x64_d5 (by decide)]
  have z : constant (F := Ideal) S_ .f32 0x00000000#32 (Shape.Idx.first h_S_) = (0 : EReal) := Ideal.ofBits_zero_f32
  rw [z, zero_add]
  refine Finset.sum_congr rfl fun n _ => ?_
  refine (congrArg _ (show _ = ix6 v h x i y n from funext fun a => Fin.ext (by
    match a with | ⟨0, _⟩ => rfl | ⟨1, _⟩ => rfl | ⟨2, _⟩ => rfl | ⟨3, _⟩ => rfl | ⟨4, _⟩ => rfl | ⟨5, _⟩ => rfl))).trans ?_
  pointwise

/-- An entry of the masked table. -/
theorem masked_apply (w : FVec Ideal S8x8x64x8x64 .f32) (v h : Fin 8) (x : Fin 64) (κ : Fin 512) :
    masked w (ix4 v h x κ) = Scalar.select (inWindow (ix2 x ⟨κ % 64, by omega⟩)) (w (ix5 v h x ⟨κ / 64, by omega⟩ ⟨κ % 64, by omega⟩)) ⊥ := by
  unfold masked
  generalize inWindow = s
  pointwise
  rw [ofBits_neg_inf]

end Cert.NeighbourAttention

end
-- ==== Proof.Equation.lean ====
module

public import proofs.«01_k».proof.Proof.Table
public import proofs.«01_k».proof.Proof.Softmax

@[expose] public section

set_option maxRecDepth 16384

noncomputable section

namespace Cert.NeighbourAttention

open Cert.AttentionIdeal Idealize.ShloMosaic

/-- The table of biases the kernel is given, from the problem's biases. -/
def table (w : FVec Ideal S8x15x31 .f32) : FVec Ideal S8x8x64x512 .f32 := masked (byCol (byRow w))

/-- The place, among the 512 keys of eight rows, of the `j`-th key of the window in the `i`-th row. -/
def place (x : Fin 64) (i : Fin 8) (j : Fin 16) : Fin 512 :=
  ⟨i.val * 64 + (colStart x + j.val), by have := i.isLt; have := colStart_lt x j.val j.isLt; omega⟩

/-- Different keys of a window have different places. -/
theorem place_inj (x : Fin 64) (i : Fin 8) (j : Fin 16) (i' : Fin 8) (j' : Fin 16) (h : place x i j = place x i' j') : i = i' ∧ j = j' := by
  have h := congrArg Fin.val h
  have e : i.val * 64 + (colStart x + j.val) = i'.val * 64 + (colStart x + j'.val) := h
  have := colStart_lt x j.val j.isLt
  have := colStart_lt x j'.val j'.isLt
  exact ⟨Fin.ext (by omega), Fin.ext (by omega)⟩

/-- A sum of which one term alone is selected is that term. -/
theorem sum_select {n : ℕ} (c : Fin n → BitVec 1) (f : Fin n → EReal) (a : Fin n) (ha : c a = 1#1) (hc : ∀ k, k ≠ a → c k = 0#1) :
    ∑ k, Scalar.select (c k) (f k) 0 = f a := by
  rw [Finset.sum_eq_single a (fun k _ hk => by rw [hc k hk]; rfl) (fun h => absurd (Finset.mem_univ a) h), ha]
  rfl

/-- The row sum picks out the bias of the row distance. -/
theorem byRow_value (w : FVec Ideal S8x15x31 .f32) (r : Fin 128) (h i : Fin 8) (d : Fin 31) :
    byRow w (ix4 (dist r) h i d) = w (ix3 h (drow r i) d) := by
  rw [byRow_apply]
  have hr : rowStart r ≤ r.val ∧ r.val ≤ rowStart r + 7 := by have := r.isLt; unfold rowStart; omega
  refine sum_select _ (fun n => w (ix3 h n d)) (drow r i) ?_ fun n hn => ?_
  · rw [rowSel_apply, if_pos]
    show i.val + 7 = (rowStart r + i.val + 7 - r.val) + (r.val - rowStart r)
    omega
  · rw [rowSel_apply, if_neg]
    intro e
    have e : i.val + 7 = n.val + (r.val - rowStart r) := e
    refine hn (Fin.ext ?_)
    show n.val = rowStart r + i.val + 7 - r.val
    omega

/-- Within the window the column sum picks out the bias of the column distance. -/
theorem byCol_value (w : FVec Ideal S8x8x8x31 .f32) (v h i : Fin 8) (x : Fin 64) (j : Fin 16) :
    byCol w (ix5 v h x i (ncol x j)) = w (ix4 v h i (dcol x j)) := by
  rw [byCol_apply]
  have hx : colStart x ≤ x.val ∧ x.val ≤ colStart x + 15 := by have := x.isLt; unfold colStart; omega
  have hj := j.isLt
  refine sum_select _ (fun n => w (ix4 v h i n)) (dcol x j) ?_ fun n hn => ?_
  · rw [colSel_apply, if_pos]
    refine ⟨?_, ?_, ?_⟩
    · show colStart x + j.val + 15 = (colStart x + j.val + 15 - x.val) + x.val
      omega
    · show colStart x ≤ colStart x + j.val
      omega
    · show colStart x + j.val < colStart x + 16
      omega
  · rw [colSel_apply, if_neg]
    intro e
    have e : colStart x + j.val + 15 = n.val + x.val := e.1
    refine hn (Fin.ext ?_)
    show n.val = colStart x + j.val + 15 - x.val
    omega

/-- The table holds, at a key of the window, the problem's bias for the key. -/
theorem table_inside (w : FVec Ideal S8x15x31 .f32) (r : Fin 128) (h : Fin 8) (x : Fin 64) (i : Fin 8) (j : Fin 16) :
    table w (ix4 (dist r) h x (place x i j)) = w (ix3 h (drow r i) (dcol x j)) := by
  have hl := colStart_lt x j.val j.isLt
  have e1 : (⟨(place x i j).val % 64, by omega⟩ : Fin 64) = ncol x j := Fin.ext (by
    show (i.val * 64 + (colStart x + j.val)) % 64 = colStart x + j.val
    omega)
  have e2 : (⟨(place x i j).val / 64, by have := (place x i j).isLt; omega⟩ : Fin 8) = i := Fin.ext (by
    show (i.val * 64 + (colStart x + j.val)) / 64 = i.val
    omega)
  unfold table
  rw [masked_apply, e1, e2, inWindow_apply, if_pos, byCol_value, byRow_value]
  · rfl
  · have := j.isLt
    refine ⟨?_, ?_⟩
    · show colStart x ≤ colStart x + j.val
      omega
    · show colStart x + j.val < colStart x + 16
      omega

/-- The table holds minus infinity at a key outside the window. -/
theorem table_outside (w : FVec Ideal S8x15x31 .f32) (v h : Fin 8) (x : Fin 64) (κ : Fin 512) (hκ : ∀ i j, place x i j ≠ κ) :
    table w (ix4 v h x κ) = ⊥ := by
  unfold table
  rw [masked_apply, inWindow_apply, if_neg]
  · rfl
  · intro e
    have e : colStart x ≤ κ.val % 64 ∧ κ.val % 64 < colStart x + 16 := e
    refine hκ ⟨κ / 64, by have := κ.isLt; omega⟩ ⟨κ % 64 - colStart x, by omega⟩ (Fin.ext ?_)
    show κ.val / 64 * 64 + (colStart x + (κ.val % 64 - colStart x)) = κ.val
    omega

/-- The key of a place is the key of the window's row and column. -/
theorem key_place (r : Fin 128) (x : Fin 64) (i : Fin 8) (j : Fin 16) : key r (place x i j) = pos (nrow r i) (ncol x j) := Fin.ext (by
  show rowStart r * 64 + (i.val * 64 + (colStart x + j.val)) = (rowStart r + i.val) * 64 + (colStart x + j.val)
  ring)

/-- One entry of the kernel's result is the problem's weighted sum over the window, where the scores are numbers. -/
theorem out_weighted (x0 : FVec Ideal S4x8192x1536 .bf16) (x1 : FVec Ideal S8x15x31 .f32) (b : Fin 4) (h : Fin 8) (r : Fin 128) (x d : Fin 64)
    (hfin : ∀ i j, ∃ a : ℝ, score x0 x1 b h r x i j = a) :
    out x0 (table x1) b h r x d
      = weighted (score x0 x1 b h r x) (fun i j => x0 (ix3 b (pos (nrow r i) (ncol x j)) (chan 2 h d))) := by
  unfold out attend
  refine window_softmax _ _ _ _ (place x) (place_inj x) (fun i j => ?_) (fun i j => ?_) (fun κ hκ => ?_) hfin
  · rw [table_inside, key_place]
    rfl
  · rw [key_place]
  · rw [table_outside x1 _ h x κ hκ, EReal.add_bot]

/-- A score is a number where queries, keys and biases are. -/
theorem score_real (x0 : FVec Ideal S4x8192x1536 .bf16) (x1 : FVec Ideal S8x15x31 .f32)
    (h0 : ∀ (b : Fin 4) (p : Fin 8192) (c : Fin 1536), c.val < 1024 → ∃ a : ℝ, x0 (ix3 b p c) = a) (h1 : ∀ i, ∃ a : ℝ, x1 i = a)
    (b : Fin 4) (h : Fin 8) (r : Fin 128) (x : Fin 64) (i : Fin 8) (j : Fin 16) : ∃ a : ℝ, score x0 x1 b h r x i j = a := by
  have hc : ∀ (o : Fin 3) (d : Fin 64), o.val < 2 → (chan o h d).val < 1024 := fun o d ho => by
    have := h.isLt
    have := d.isLt
    show o.val * 512 + (h.val * 64 + d.val) < 1024
    omega
  choose q hq using fun d => h0 b (pos r x) (chan 0 h d) (hc 0 d (by decide))
  choose k hk using fun d => h0 b (pos (nrow r i) (ncol x j)) (chan 1 h d) (hc 1 d (by decide))
  obtain ⟨a, ha⟩ := h1 (ix3 h (drow r i) (dcol x j))
  have hs : Ideal.ofBits FTy.f32 1040187392#32 = ((0.125 : ℝ) : EReal) := by
    simp [Ideal.ofBits, Ideal.ieee]
    rw [← EReal.coe_mul]
    norm_num
  refine ⟨(∑ d, q d * k d) * 0.125 + a, ?_⟩
  unfold score
  simp only [hq, hk, ha, hs]
  push_cast
  rfl

/-- The kernel's array of results is the reference's, where queries, keys and biases are numbers. -/
theorem outArray_eq (x0 : FVec Ideal S4x8192x1536 .bf16) (x1 : FVec Ideal S8x15x31 .f32)
    (h0 : ∀ (b : Fin 4) (p : Fin 8192) (c : Fin 1536), c.val < 1024 → ∃ a : ℝ, x0 (ix3 b p c) = a) (h1 : ∀ i, ∃ a : ℝ, x1 i = a) :
    outArray x0 (table x1) = Cert.AttentionRefIdeal.Read.val_main_v106 x0 x1 := by
  funext y
  have y1 : (y 1).val < 8192 := (y 1).isLt
  have y2 : (y 2).val < 512 := (y 2).isLt
  unfold outArray
  refine (out_weighted x0 x1 _ _ _ _ _ (score_real x0 x1 h0 h1 _ _ _ _)).trans ((reference_apply x0 x1 _ _ _ _ _).symm.trans ?_)
  refine congrArg _ (funext fun k => ?_)
  fin_cases k
  · rfl
  · refine Fin.ext ?_
    show (y 1).val / 64 * 64 + (y 1).val % 64 = (y 1).val
    omega
  · refine Fin.ext ?_
    show (y 2).val / 64 * 64 + (y 2).val % 64 = (y 2).val
    omega

end Cert.NeighbourAttention

end
-- ==== Proof.Finite.lean ====
module

public import proofs.«01_k».proof.Pre_finite_scores
public import proofs.«01_k».proof.Proof.Ref
public import Idealize.ShloMosaic.Lib.ReduceAll
public import Idealize.ShloMosaic.Lib.Affine

@[expose] public section

noncomputable section

namespace Cert.NeighbourAttention

open Idealize.ShloMosaic

/-- An extended real whose absolute value the program finds below infinity is a number. -/
theorem real_of_below (a : EReal) (h : Ideal.cmp .olt (max a (-a)) (Ideal.ofBits FTy.f32 2139095040#32) = 1#1) : ∃ r : ℝ, a = r := by
  have htop : Ideal.ofBits FTy.f32 2139095040#32 = (⊤ : EReal) := by simp [Ideal.ofBits, Ideal.ieee]
  rw [htop] at h
  induction a using EReal.rec with
  | bot => exfalso; revert h; simp [Ideal.cmp]
  | top => exfalso; revert h; simp [Ideal.cmp]
  | coe r => exact ⟨r, rfl⟩

instance : Subsingleton Cert.Pre_finite_scores.S_.Idx := ⟨fun a b => funext fun k => k.elim0⟩

variable [Cert.Pre_finite_scores.Facts]

/-- Under the precondition every query and key entry is a number. -/
theorem finite_qk (x0 : FVec Ideal Cert.Pre_finite_scores.S4x8192x1536 .bf16) (x1 : FVec Ideal Cert.Pre_finite_scores.S8x15x31 .f32)
    (h : Cert.Pre_finite_scores.fn (F := Ideal) x0 x1 = fun _ => 1#1) (b : Fin 4) (p : Fin 8192) (ch : Fin 1536) (hc : ch.val < 1024) :
    ∃ r : ℝ, x0 (ix3 b p ch) = r := by
  have e := congrFun h (fun k => k.elim0)
  dsimp only [Cert.Pre_finite_scores.fn] at e
  have e1 := Host.reduce_andi_all _ _ _ _ _ (IntOp.andi_eq_one.mp e).1 (ix3 b p ⟨ch.val, hc⟩)
  have e2 : extractStridedSlice Cert.Pre_finite_scores.S4x8192x1024 ![0, 0, 0] x0 Cert.Pre_finite_scores.Facts.slices_S4x8192x1536_S4x8192x1024_0_0_0
      (ix3 b p ⟨ch.val, hc⟩) = x0 (ix3 b p ch) :=
    congrArg x0 (funext fun k => by fin_cases k <;> exact Fin.ext (Nat.zero_add _))
  exact e2 ▸ real_of_below _ e1

/-- Under the precondition every bias is a number. -/
theorem finite_bias (x0 : FVec Ideal Cert.Pre_finite_scores.S4x8192x1536 .bf16) (x1 : FVec Ideal Cert.Pre_finite_scores.S8x15x31 .f32)
    (h : Cert.Pre_finite_scores.fn (F := Ideal) x0 x1 = fun _ => 1#1) (i : Cert.Pre_finite_scores.S8x15x31.Idx) :
    ∃ r : ℝ, x1 i = r := by
  have e := congrFun h (fun k => k.elim0)
  dsimp only [Cert.Pre_finite_scores.fn] at e
  exact real_of_below _ (Host.reduce_andi_all _ _ _ _ _ (IntOp.andi_eq_one.mp e).2 i)

end Cert.NeighbourAttention

end
-- ==== Proof.Project.lean ====
module

public import proofs.«01_k».proof.Proof.Gen.ProjectionIdeal.Value
public import proofs.«01_k».proof.Proof.Gen.ProjectionRefIdeal.Read
public import Idealize.ShloMosaic.Lib.Pointwise
public import Idealize.ShloMosaic.Lib.Pipeline.Value
public import Idealize.ShloMosaic.Lib.Pipeline.ValueKit

@[expose] public section

set_option maxRecDepth 16384

noncomputable section

namespace Cert.InputProjection

open Cert.ProjectionIdeal Cert.ProjectionIdeal.Gen Cert.ProjectionIdeal.Value Idealize.ShloMosaic Idealize.ShloMosaic.TcCoe Idealize.SL.Sem

/-- A row divided by the root of its mean square, entry by entry times the weights `g`. -/
def normed (x g : Fin 1024 → EReal) (k : Fin 1024) : EReal :=
  x k * Ideal.rsqrt (Ideal.div (∑ j, x j * x j) (Ideal.ofBits FTy.f32 0x44800000#32) + Ideal.ofBits FTy.f32 0x3727C5AC#32) * g k

/-- One entry of the projection of a row: the normed row times a column of the matrix. -/
def projected (x g w : Fin 1024 → EReal) : EReal := ∑ k, normed x g k * w k

/-- The kernel's normed rows. -/
theorem pay1_apply (v0 : Vec Ideal S512x1024 .f32) (v12 : Vec Ideal S1x1024 .f32) (p : Fin 512) (k : Fin 1024) :
    k0_pay1 v0 v12 (ix2 p k) = normed (fun k => v0 (ix2 p k)) (fun k => v12 (ix2 0 k)) k := by
  unfold k0_pay1 normed
  pointwise

/-- The first of the two products the kernel stores. -/
theorem pay2_apply (v0 : Vec Ideal S512x1024 .f32) (v12 : Vec Ideal S1x1024 .f32) (v17 : Vec Ideal S1024x1536 .bf16) (p : Fin 512) (q : Fin 1536) :
    k0_pay2 v0 v12 v17 (ix2 p q) = projected (fun k => v0 (ix2 p k)) (fun k => v12 (ix2 0 k)) (fun k => v17 (ix2 k q)) := by
  unfold k0_pay2 projected
  generalize hy : k0_pay1 v0 v12 = y
  pointwise [dot_S512x1024_S1024x1536_S512x1536_1_0_0_1_n_n]
  subst hy
  simp only [pay1_apply]

/-- The second of the two products the kernel stores. -/
theorem pay3_apply (v0 : Vec Ideal S512x1024 .f32) (v12 : Vec Ideal S1x1024 .f32) (v22 : Vec Ideal S1024x1920 .bf16) (p : Fin 512) (q : Fin 1920) :
    k0_pay3 v0 v12 v22 (ix2 p q) = projected (fun k => v0 (ix2 p k)) (fun k => v12 (ix2 0 k)) (fun k => v22 (ix2 k q)) := by
  unfold k0_pay3 projected
  generalize hy : k0_pay1 v0 v12 = y
  pointwise [dot_S512x1024_S1024x1920_S512x1920_1_0_0_1_n_n]
  subst hy
  simp only [pay1_apply]

/-- The two coordinates of a place in the kernel's first result. -/
theorem index3 : ∀ t : Fin grid0.N, win0_3.index t = ![(grid0.coords t 0).val, 0] := by decide +kernel
/-- The two coordinates of a place in the kernel's second result. -/
theorem index4 : ∀ t : Fin grid0.N, win0_4.index t = ![(grid0.coords t 0).val, 0] := by decide +kernel
/-- The block of rows a grid point is given. -/
theorem index0 : ∀ t : Fin grid0.N, win0_0.index t = ![(grid0.coords t 0).val, 0] := by decide +kernel
/-- Every grid point is given all the weights. -/
theorem index1 : ∀ t : Fin grid0.N, win0_1.index t = ![0, 0] := by decide +kernel
/-- Every grid point is given the whole matrix. -/
theorem index2 : ∀ t : Fin grid0.N, win0_2.index t = ![0, 0] := by decide +kernel

variable (m : (ℓ : Loc nD τ sig) → Buf (Elt Ideal) ℓ)

/-- The row of the whole array that is the `p`-th row of a grid point's block. -/
def row (t : Fin grid0.N) (p : Fin 512) : Fin 32768 :=
  ⟨(grid0.coords t 0).val * 512 + p.val, by have : (grid0.coords t 0).val < 64 := (grid0.coords t 0).isLt; have := p.isLt; omega⟩

/-- A row of a block, as the body reads it. -/
theorem read_x (c : Dev nD) (t : Fin cfg0.N) (p : Fin 512) (k : Fin 1024) :
    View.ld (iblk m c 0 t) r0_0 (ix2 p k) = V m c main_v0 (ix2 (row t p) k) := by
  rw [View.ld_apply]
  blk_ext [iblk, index0 t]
  · rw [Rect.idx_unit_val]
    show _ + (0 + p.val) = (grid0.coords t 0).val * 512 + p.val
    omega
  · rw [Rect.idx_unit_val]
    show 0 + k.val = k.val
    omega

/-- The weights, as the body reads them. -/
theorem read_g (c : Dev nD) (t : Fin cfg0.N) (k : Fin 1024) :
    View.ld (iblk m c 1 t) r0_1 (ix2 0 k) = V m c main_v4 (ix2 0 k) := by
  rw [View.ld_apply]
  blk_ext [iblk, index1 t]
  · rw [Rect.idx_unit_val]
    show 0 + k.val = k.val
    omega

/-- The first columns of the matrix, as the body reads them. -/
theorem read_w (c : Dev nD) (t : Fin cfg0.N) (k : Fin 1024) (q : Fin 1536) :
    View.ld (iblk m c 2 t) r0_2 (ix2 k q) = V m c main_v3 (ix2 k ⟨q.val, by omega⟩) := by
  rw [View.ld_apply]
  blk_ext [iblk, index2 t]
  · rw [Rect.idx_unit_val]
    show 0 + k.val = k.val
    omega
  · rw [Rect.idx_unit_val]
    show 0 + q.val = q.val
    omega

/-- The remaining columns of the matrix, as the body reads them. -/
theorem read_w' (c : Dev nD) (t : Fin cfg0.N) (k : Fin 1024) (q : Fin 1920) :
    View.ld (iblk m c 2 t) r0_4 (ix2 k q) = V m c main_v3 (ix2 k ⟨1536 + q.val, by omega⟩) := by
  rw [View.ld_apply]
  blk_ext [iblk, index2 t]
  · rw [Rect.idx_unit_val]
    show 0 + k.val = k.val
    omega
  · rw [Rect.idx_unit_val]
    rfl

/-- The array of the kernel's first results, from the rows, the weights and the matrix it is given. -/
def first (x : Vec Ideal S32768x1024 .f32) (g : Vec Ideal S1x1024 .f32) (w : Vec Ideal S1024x3456 .bf16) : Vec Ideal S32768x1536 .bf16 := fun y =>
  projected (fun k => x (ix2 (y 0) k)) (fun k => g (ix2 0 k)) (fun k => w (ix2 k ⟨(y 1).val, by have : (y 1).val < 1536 := (y 1).isLt; omega⟩))

/-- The array of the kernel's second results, from the rows, the weights and the matrix it is given. -/
def second (x : Vec Ideal S32768x1024 .f32) (g : Vec Ideal S1x1024 .f32) (w : Vec Ideal S1024x3456 .bf16) : Vec Ideal S32768x1920 .bf16 := fun y =>
  projected (fun k => x (ix2 (y 0) k)) (fun k => g (ix2 0 k)) (fun k => w (ix2 k ⟨1536 + (y 1).val, by have : (y 1).val < 1920 := (y 1).isLt; omega⟩))

/-- What the body leaves in its block of first results. -/
theorem out3_eq (x0 : Vec Ideal S512x1024 .f32) (x1 : Vec Ideal S1x1024 .f32) (x2 : Vec Ideal S1024x3456 .bf16) :
    out0_3 x0 x1 x2 = k0_pay2 (View.ld x0 r0_0) (View.ld x1 r0_1) (View.ld x2 r0_2) := by
  funext y
  unfold out0_3
  refine View.canon_apply_of_pieces _ _ ?_ y (cover0_3 _ y)
  simp only [List.forall_mem_cons]
  refine ⟨fun x => congrArg _ (funext fun a => Fin.ext ?_), fun p hp => absurd hp List.not_mem_nil⟩
  fin_cases a <;> simp [Rect.emb_apply]

/-- What the body leaves in its block of second results. -/
theorem out4_eq (x0 : Vec Ideal S512x1024 .f32) (x1 : Vec Ideal S1x1024 .f32) (x2 : Vec Ideal S1024x3456 .bf16) :
    out0_4 x0 x1 x2 = k0_pay3 (View.ld x0 r0_0) (View.ld x1 r0_1) (View.ld x2 r0_4) := by
  funext y
  unfold out0_4
  refine View.canon_apply_of_pieces _ _ ?_ y (cover0_4 _ y)
  simp only [List.forall_mem_cons]
  refine ⟨fun x => congrArg _ (funext fun a => Fin.ext ?_), fun p hp => absurd hp List.not_mem_nil⟩
  fin_cases a <;> simp [Rect.emb_apply]

/-- The first array the kernel returns, from the arrays it is given. -/
theorem array3_eq (c : Dev nD) : (dats m 0 c).arrAt 3 cfg0.N = first (V m c main_v0) (V m c main_v4) (V m c main_v3) := by
  refine (dats m 0 c).arrAt_eq_of_covers 3 _ (by decide +kernel) fun t hf y => ?_
  blk_simp
  rw [after0_3, out3_eq]
  have e0 : ((win0_3.blk t).view.emb y 0).val = (grid0.coords t 0).val * 512 + (y 0).val := by blk_simp [index3 t]
  have e1 : ((win0_3.blk t).view.emb y 1).val = (y 1).val := by blk_simp [index3 t]
  have ey : (y : S512x1536.Idx) = ix2 (y 0) (y 1) := by funext a; fin_cases a <;> rfl
  refine (congrArg _ ey).trans ((pay2_apply _ _ _ _ _).trans ?_)
  unfold first
  have er : row t (y 0) = (win0_3.blk t).view.emb y 0 := Fin.ext e0.symm
  refine congr (congrArg₂ projected (funext fun k => ?_) (funext fun k => read_g m c t k)) (funext fun k => ?_)
  · exact (read_x m c t (y 0) k).trans (congrArg (fun r => V m c main_v0 (ix2 r k)) er)
  · exact (read_w m c t k (y 1)).trans (congrArg (fun r => V m c main_v3 (ix2 k r)) (Fin.ext e1.symm))

/-- The second array the kernel returns, from the arrays it is given. -/
theorem array4_eq (c : Dev nD) : (dats m 0 c).arrAt 4 cfg0.N = second (V m c main_v0) (V m c main_v4) (V m c main_v3) := by
  refine (dats m 0 c).arrAt_eq_of_covers 4 _ (by decide +kernel) fun t hf y => ?_
  blk_simp
  rw [after0_4, out4_eq]
  have e0 : ((win0_4.blk t).view.emb y 0).val = (grid0.coords t 0).val * 512 + (y 0).val := by blk_simp [index4 t]
  have e1 : ((win0_4.blk t).view.emb y 1).val = (y 1).val := by blk_simp [index4 t]
  have ey : (y : S512x1920.Idx) = ix2 (y 0) (y 1) := by funext a; fin_cases a <;> rfl
  refine (congrArg _ ey).trans ((pay3_apply _ _ _ _ _).trans ?_)
  unfold second
  have er : row t (y 0) = (win0_4.blk t).view.emb y 0 := Fin.ext e0.symm
  refine congr (congrArg₂ projected (funext fun k => ?_) (funext fun k => read_g m c t k)) (funext fun k => ?_)
  · exact (read_x m c t (y 0) k).trans (congrArg (fun r => V m c main_v0 (ix2 r k)) er)
  · exact (read_w' m c t k (y 1)).trans (congrArg (fun r => V m c main_v3 (ix2 k r)) (Fin.ext (congrArg (1536 + ·) e1.symm)))

/-- The batch elements laid out one after the other, row by row. -/
theorem rows_apply (z : FVec Ideal S4x8192x1024 .f32) (b : Fin 4) (s : Fin 8192) (k : Fin 1024) (r : Fin 32768) (h : r.val = b.val * 8192 + s.val) :
    shapeCast S32768x1024 z shapeCasts_S4x8192x1024_S32768x1024 (ix2 r k) = z (ix3 b s k) := by
  refine shapeCast_apply z shapeCasts_S4x8192x1024_S32768x1024 (ix2 r k) (ix3 b s k) ?_
  rewrite [Shape.rowMajor_val_three, Shape.rowMajor_val_two]
  show (b.val * 8192 + s.val) * 1024 + k.val = r.val * 1024 + k.val
  rw [h]

/-- The rows the kernel is given are the rows of its first argument. -/
theorem V_x (c : Dev nD) (b : Fin 4) (s : Fin 8192) (k : Fin 1024) (r : Fin 32768) (h : r.val = b.val * 8192 + s.val) :
    V m c main_v0 (ix2 r k) = m ((c : Thread nD τ).loc main_arg0) (ix3 b s k) := by
  have e : V m c main_v0 = shapeCast S32768x1024 (m ((c : Thread nD τ).loc main_arg0)) shapeCasts_S4x8192x1024_S32768x1024 := by
    unfold V
    simp only [hostOps0]
    after_results_simp
    rfl
  rw [e]
  exact rows_apply _ b s k r h

/-- The weights the kernel is given are those of its second argument. -/
theorem V_g (c : Dev nD) (k : Fin 1024) : V m c main_v4 (ix2 0 k) = m ((c : Thread nD τ).loc main_arg1) (ix2 0 k) := by
  have e : V m c main_v4 = shapeCast S1x1024 (shapeCast S1024 (m ((c : Thread nD τ).loc main_arg1)) shapeCasts_S1x1024_S1024) shapeCasts_S1024_S1x1024 := by
    unfold V
    simp only [hostOps0]
    after_results_simp
    rfl
  rw [e]
  generalize m ((c : Thread nD τ).loc main_arg1) = z
  pointwise

/-- The matrix the kernel is given is that of its third argument, cast. -/
theorem V_w_eq (c : Dev nD) : V m c main_v3
    = (truncf .bf16 (shapeCast S1024x3456 (m ((c : Thread nD τ).loc main_arg2) : FVec Ideal S1x1024x3456 .f32) shapeCasts_S1x1024x3456_S1024x3456) bitsLt_bf16_f32 : FVec Ideal S1024x3456 .bf16) := by
  unfold V
  simp only [hostOps0]
  after_results_simp
  rfl

/-- The cast matrix, entry by entry. -/
theorem cast_w (z : FVec Ideal S1x1024x3456 .f32) (k : Fin 1024) (q : Fin 3456) :
    (truncf .bf16 (shapeCast S1024x3456 z shapeCasts_S1x1024x3456_S1024x3456) bitsLt_bf16_f32 : FVec Ideal S1024x3456 .bf16) (ix2 k q) = z (ix3 0 k q) := by
  pointwise

/-- The matrix the kernel is given is that of its third argument. -/
theorem V_w (c : Dev nD) (k : Fin 1024) (q : Fin 3456) : V m c main_v3 (ix2 k q) = m ((c : Thread nD τ).loc main_arg2) (ix3 0 k q) :=
  (congrFun (V_w_eq m c) _).trans (cast_w _ k q)

end Cert.InputProjection

end
-- ==== Proof.ProjectRef.lean ====
module

public import proofs.«01_k».proof.Proof.Project

@[expose] public section

set_option maxRecDepth 16384

noncomputable section

namespace Cert.InputProjection

open Cert.ProjectionRefIdeal Cert.ProjectionRefIdeal.Gen Cert.ProjectionRefIdeal.Read Idealize.ShloMosaic

variable (x0 : FVec Ideal S4x8192x1024 .f32) (x1 : FVec Ideal S1x1024 .f32) (x2 : FVec Ideal S1x1024x3456 .f32)

/-- The reference's normed rows. -/
theorem normed_apply (b : Fin 4) (s : Fin 8192) (k : Fin 1024) :
    val_main_v13 (F := Ideal) x0 x1 (ix3 b s k) = normed (fun k => x0 (ix3 b s k)) (fun k => x1 (ix2 0 k)) k := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1 normed
  pointwise

/-- The reference's product. -/
theorem product_apply (b : Fin 4) (s : Fin 8192) (q : Fin 3456) :
    val_main_v15 (F := Ideal) x0 x1 x2 (ix3 b s q) = projected (fun k => x0 (ix3 b s k)) (fun k => x1 (ix2 0 k)) (fun k => x2 (ix3 0 k q)) := by
  unfold val_main_v15 val_main_v14 projected
  generalize hy : val_main_v13 (F := Ideal) x0 x1 = y
  pointwise [dot_S4x8192x1024_S1024x3456_S4x8192x3456_2_0_01_1_n_n]
  subst hy
  simp only [normed_apply]

/-- The reference's product with the batch elements laid out one after the other. -/
theorem rows_product (r : Fin 32768) (q : Fin 3456) :
    val_main_v16 (F := Ideal) x0 x1 x2 (ix2 r q) = projected (fun k => x0 (ix3 ⟨r.val / 8192, by omega⟩ ⟨r.val % 8192, by omega⟩ k)) (fun k => x1 (ix2 0 k)) (fun k => x2 (ix3 0 k q)) := by
  rw [← product_apply]
  unfold val_main_v16
  refine shapeCast_apply _ shapeCasts_S4x8192x3456_S32768x3456 (ix2 r q) (ix3 ⟨r.val / 8192, by omega⟩ ⟨r.val % 8192, by omega⟩ q) ?_
  rewrite [Shape.rowMajor_val_three, Shape.rowMajor_val_two]
  show (r.val / 8192 * 8192 + r.val % 8192) * 3456 + q.val = r.val * 3456 + q.val
  omega

/-- The reference's first result. -/
theorem first_apply (r : Fin 32768) (q : Fin 1536) :
    val_main_v18 (F := Ideal) x0 x1 x2 (ix2 r q) = projected (fun k => x0 (ix3 ⟨r.val / 8192, by omega⟩ ⟨r.val % 8192, by omega⟩ k)) (fun k => x1 (ix2 0 k))
      (fun k => x2 (ix3 0 k ⟨q.val, by omega⟩)) := by
  rw [← rows_product]
  unfold val_main_v18 val_main_v17
  generalize val_main_v16 (F := Ideal) x0 x1 x2 = y
  pointwise

/-- The reference's second result. -/
theorem second_apply (r : Fin 32768) (q : Fin 1920) :
    val_main_v20 (F := Ideal) x0 x1 x2 (ix2 r q) = projected (fun k => x0 (ix3 ⟨r.val / 8192, by omega⟩ ⟨r.val % 8192, by omega⟩ k)) (fun k => x1 (ix2 0 k))
      (fun k => x2 (ix3 0 k ⟨1536 + q.val, by omega⟩)) := by
  rw [← rows_product]
  unfold val_main_v20 val_main_v19
  generalize val_main_v16 (F := Ideal) x0 x1 x2 = y
  pointwise

variable (m : (ℓ : Loc Cert.ProjectionIdeal.nD Cert.ProjectionIdeal.τ Cert.ProjectionIdeal.sig) → Buf (Elt Ideal) ℓ)

open Cert.ProjectionIdeal (cfg0 main_v0 main_v3 main_v4 main_arg0 main_arg1 main_arg2) in
/-- The kernel's first array is the reference's first result. -/
theorem first_eq (c : Dev Cert.ProjectionIdeal.nD) : (Cert.ProjectionIdeal.Gen.dats m 0 c).arrAt 3 cfg0.N
    = val_main_v18 (m ((c.tc : Thread Cert.ProjectionIdeal.nD Cert.ProjectionIdeal.τ).loc main_arg0)) (m ((c.tc : Thread Cert.ProjectionIdeal.nD Cert.ProjectionIdeal.τ).loc main_arg1))
      (m ((c.tc : Thread Cert.ProjectionIdeal.nD Cert.ProjectionIdeal.τ).loc main_arg2)) := by
  rw [array3_eq]
  funext y
  have ey : (y : S32768x1536.Idx) = ix2 (y 0) (y 1) := by funext a; fin_cases a <;> rfl
  refine Eq.trans ?_ ((congrArg _ ey).trans (first_apply _ _ _ (y 0) (y 1))).symm
  unfold first
  refine congr (congrArg₂ projected (funext fun k => ?_) (funext fun k => V_g m c k)) (funext fun k => V_w m c k _)
  exact V_x m c _ _ k (y 0) (by show (y 0).val = (y 0).val / 8192 * 8192 + (y 0).val % 8192; omega)

open Cert.ProjectionIdeal (cfg0 main_v0 main_v3 main_v4 main_arg0 main_arg1 main_arg2) in
/-- The kernel's second array is the reference's second result. -/
theorem second_eq (c : Dev Cert.ProjectionIdeal.nD) : (Cert.ProjectionIdeal.Gen.dats m 0 c).arrAt 4 cfg0.N
    = val_main_v20 (m ((c.tc : Thread Cert.ProjectionIdeal.nD Cert.ProjectionIdeal.τ).loc main_arg0)) (m ((c.tc : Thread Cert.ProjectionIdeal.nD Cert.ProjectionIdeal.τ).loc main_arg1))
      (m ((c.tc : Thread Cert.ProjectionIdeal.nD Cert.ProjectionIdeal.τ).loc main_arg2)) := by
  rw [array4_eq]
  funext y
  have ey : (y : S32768x1920.Idx) = ix2 (y 0) (y 1) := by funext a; fin_cases a <;> rfl
  refine Eq.trans ?_ ((congrArg _ ey).trans (second_apply _ _ _ (y 0) (y 1))).symm
  unfold second
  refine congr (congrArg₂ projected (funext fun k => ?_) (funext fun k => V_g m c k)) (funext fun k => V_w m c k _)
  exact V_x m c _ _ k (y 0) (by show (y 0).val = (y 0).val / 8192 * 8192 + (y 0).val % 8192; omega)

end Cert.InputProjection

end
-- ==== Proof.ExpertTables.lean ====
/- What the precondition `expert_tables` says of the two tables: every block's expert is one of the 32, and at least one
   block is used. -/
module

public import proofs.«01_k».proof.Pre_expert_tables
public import Idealize.ShloMosaic.Lib.ReduceAll
public import Idealize.ShloMosaic.Lib.Affine

@[expose] public section

noncomputable section

namespace Cert.ExpertTables

open Idealize.ShloMosaic Cert.Pre_expert_tables

/-- Every entry of the table is one of the 32 experts and the count is at least one, read as signed words. -/
def Ok (T : S288.Idx → BitVec 32) (N : S1.Idx → BitVec 32) : Prop :=
  (∀ i, 0 ≤ (T i).toInt ∧ (T i).toInt < 32) ∧ ∀ i, 1 ≤ (N i).toInt

/-- A bit is one where its condition holds. -/
theorem bit_iff : ∀ p : Bool, BitVec.ofBool p = 1#1 ↔ p = true := by decide

instance : Subsingleton S_.Idx := ⟨fun a b => funext fun k => k.elim0⟩

instance : Subsingleton S1.Idx := ⟨fun a b => funext fun k => match k with
  | ⟨0, _⟩ => Subsingleton.elim (α := Fin 1) _ _
  | ⟨_ + 1, h⟩ => absurd (show _ < 1 from h) (by omega)⟩

/-- An expert's word in range is its number. -/
theorem toNat_of_range (v : BitVec 32) (h0 : 0 ≤ v.toInt) (h1 : v.toInt < 32) : v.toNat < 32 := by
  rw [BitVec.toInt_eq_toNat_cond] at h0 h1
  have := v.isLt
  split at h0 <;> omega

/-- The smaller of a point's number and the last used block is a block, -/
theorem min_lt (n : ℕ) (hn : n < 288) (v : BitVec 32) (hv : 1 ≤ v.toInt) :
    (Scalar.minsi (BitVec.ofNat 32 n) (Scalar.subi v 1#32)).toNat < 288 := by
  have e1 : (BitVec.ofNat 32 n).toNat = n := by rw [BitVec.toNat_ofNat]; omega
  rw [BitVec.toInt_eq_toNat_cond] at hv
  have := v.isLt
  have e2 : (v - 1#32).toNat = v.toNat - 1 := by
    rw [BitVec.toNat_sub]; simp only [BitVec.toNat_ofNat]; split at hv <;> omega
  show (if (BitVec.ofNat 32 n).slt (v - 1#32) then BitVec.ofNat 32 n else v - 1#32).toNat < 288
  split_ifs with h
  · omega
  · rw [BitVec.slt_iff_toInt_lt, BitVec.toInt_eq_toNat_cond, BitVec.toInt_eq_toNat_cond, e1, e2] at h
    rw [e2]
    split at hv <;> split_ifs at h <;> omega

/-- and the point's own where the point is used. -/
theorem min_eq (n : ℕ) (hn : n < 288) (v : BitVec 32) (h : (BitVec.ofNat 32 n).slt v = true) :
    (Scalar.minsi (BitVec.ofNat 32 n) (Scalar.subi v 1#32)).toNat = n := by
  have e1 : (BitVec.ofNat 32 n).toNat = n := by rw [BitVec.toNat_ofNat]; omega
  rw [BitVec.slt_iff_toInt_lt, BitVec.toInt_eq_toNat_cond, BitVec.toInt_eq_toNat_cond, e1] at h
  have := v.isLt
  have e2 : (v - 1#32).toNat = v.toNat - 1 := by
    rw [BitVec.toNat_sub]; simp only [BitVec.toNat_ofNat]; split_ifs at h <;> omega
  show (if (BitVec.ofNat 32 n).slt (v - 1#32) then BitVec.ofNat 32 n else v - 1#32).toNat = n
  split_ifs with h'
  · exact e1
  · rw [BitVec.slt_iff_toInt_lt, BitVec.toInt_eq_toNat_cond, BitVec.toInt_eq_toNat_cond, e1, e2] at h'
    rw [e2]
    split_ifs at h h' <;> omega

variable {F : FTy → Type} [FloatOps F] [Cert.Pre_expert_tables.Facts]

/-- Under the precondition the tables are in range. -/
theorem ok_of_pre (x0 : FVec F S147456x1024 .f32) (T : IVec S288 32) (N : IVec S1 32) (x3 : FVec F S32x1024x2048 .f32)
    (x4 : FVec F S32x1x2048 .f32) (x5 : FVec F S32x1024x1024 .f32) (x6 : FVec F S32x1x1024 .f32)
    (h : Cert.Pre_expert_tables.fn (F := F) x0 T N x3 x4 x5 x6 = fun _ => 1#1) : Ok T N := by
  have e := congrFun h (fun k => k.elim0)
  dsimp only [Cert.Pre_expert_tables.fn] at e
  obtain ⟨e1, e2⟩ := IntOp.andi_eq_one.mp e
  refine ⟨fun i => ?_, ?_⟩
  · obtain ⟨h1, h2⟩ := IntOp.andi_eq_one.mp (Host.reduce_andi_all _ _ _ _ _ e1 i)
    exact ⟨BitVec.sle_iff_toInt_le.mp ((bit_iff _).mp h1), BitVec.slt_iff_toInt_lt.mp ((bit_iff _).mp h2)⟩
  · intro i
    exact BitVec.sle_iff_toInt_le.mp ((bit_iff _).mp (Eq.trans (congrArg (fun w => BitVec.ofBool (BitVec.sle 1#32 w)) (congrArg N (Subsingleton.elim _ _))) e2))

end Cert.ExpertTables

end
-- ==== Proof.ExpertsIdealBody.lean ====
/- What one run of the experts kernel's body does to the buffers it is handed. The body has two choices: whether the two
   scratch buffers are filled with the weights of the point's expert, and whether the point's block of rows is computed
   or set to zero. One theorem for each of the four combinations. -/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Claim
public import Idealize.ShloMosaic.Lib.Writes
public import Idealize.ShloMosaic.Lib.Ring
public import Idealize.ShloMosaic.Lib.Exec
public import Idealize.ShloMosaic.Lib.Tactic
public import Idealize.ShloMosaic.Lib.WordCmp

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of each block's expert, the table holding the number of used blocks, and the two weight buffers. -/
abbrev expertTab : Memref sig .tc .smem S288 .i32 := Memref.whole main_arg1
abbrev usedTab : Memref sig .tc .smem S1 .i32 := Memref.whole main_arg2
abbrev upBuf : Memref sig .tc .vmem S1024x2048 .bf16 := Memref.whole cc0_scratch0
abbrev downBuf : Memref sig .tc .vmem S1024x1024 .bf16 := Memref.whole cc0_scratch1

/-- The parts of the buffers the body reads and writes: the two halves of a block of rows, the whole block, the two weight
    buffers, the weights of one expert and its biases. -/
abbrev topRows : Rect S512x1024 := Rect.unit (s := S512x1024) ![0, 0] S256x1024.size inb_S512x1024_S256x1024_0_0
abbrev lowRows : Rect S512x1024 := Rect.unit (s := S512x1024) ![256, 0] S256x1024.size inb_S512x1024_S256x1024_256_0
abbrev allRows : Rect S512x1024 := Rect.unit (s := S512x1024) ![0, 0] S512x1024.size inb_S512x1024_S512x1024_0_0
abbrev allUp : Rect S1024x2048 := Rect.unit (s := S1024x2048) ![0, 0] S1024x2048.size inb_S1024x2048_S1024x2048_0_0
abbrev allDown : Rect S1024x1024 := Rect.unit (s := S1024x1024) ![0, 0] S1024x1024.size inb_S1024x1024_S1024x1024_0_0
abbrev oneUp : Rect S1x1024x2048 := Rect.unit (s := S1x1024x2048) ![0, 0, 0] S1x1024x2048.size inb_S1x1024x2048_S1x1024x2048_0_0_0
abbrev oneDown : Rect S1x1024x1024 := Rect.unit (s := S1x1024x1024) ![0, 0, 0] S1x1024x1024.size inb_S1x1024x1024_S1x1024x1024_0_0_0
abbrev upBias : Rect S1x1x2048 := Rect.unit (s := S1x1x2048) ![0, 0, 0] S1x1x2048.size inb_S1x1x2048_S1x1x2048_0_0_0
abbrev downBias : Rect S1x1x1024 := Rect.unit (s := S1x1x1024) ![0, 0, 0] S1x1x1024.size inb_S1x1x1024_S1x1x1024_0_0_0

/-- The up-projection weights as the body stores them. -/
def storedUp (wu : Vec F S1x1024x2048 .f32) : Vec F S1024x2048 .bf16 :=
  View.canon [⟨allUp, k0_pay1 (View.ld wu oneUp)⟩]

/-- The down-projection weights as the body stores them. -/
def storedDown (wd : Vec F S1x1024x1024 .f32) : Vec F S1024x1024 .bf16 :=
  View.canon [⟨allDown, k0_pay2 (View.ld wd oneDown)⟩]

/-- A computed block of rows: two halves, from the rows, the stored weights and the biases. -/
def computed (x : Vec F S512x1024 .f32) (su : Vec F S1024x2048 .bf16) (bu : Vec F S1x1x2048 .f32)
    (sd : Vec F S1024x1024 .bf16) (bd : Vec F S1x1x1024 .f32) : Vec F S512x1024 .f32 :=
  View.canon [⟨lowRows, k0_pay4 (k0_pay6 (View.ld x lowRows) (View.ld su allUp) (View.ld bu upBias)) (View.ld sd allDown) (View.ld bd downBias)⟩,
    ⟨topRows, k0_pay3 (k0_pay7 (View.ld x topRows) (View.ld su allUp) (View.ld bu upBias) (View.ld sd allDown)) (View.ld bd downBias)⟩]

/-- A block of rows that is not used. -/
def zeroRows : Vec F S512x1024 .f32 := View.canon [⟨allRows, k0_pay5 (F := F)⟩]

/-- The two halves cover a block of rows. -/
theorem halves_cover (p q : Vec F S256x1024 .f32) (y : S512x1024.Idx) :
    ∃ pc ∈ ([⟨lowRows, p⟩, ⟨topRows, q⟩] : List (View.Piece (Elt F) S512x1024 .f32)), y ∈ pc.1.set :=
  View.cover_of_tiled [⟨lowRows, p⟩, ⟨topRows, q⟩] S256x1024.size (by rfl) y

/-- The whole block covers it. -/
theorem rows_cover (p : Vec F S512x1024 .f32) (y : S512x1024.Idx) :
    ∃ pc ∈ ([⟨allRows, p⟩] : List (View.Piece (Elt F) S512x1024 .f32)), y ∈ pc.1.set :=
  View.cover_of_tiled [⟨allRows, p⟩] S512x1024.size (by rfl) y

/-- The store of the up-projection weights covers their buffer. -/
theorem up_cover (p : Vec F S1024x2048 .bf16) (y : S1024x2048.Idx) :
    ∃ pc ∈ ([⟨allUp, p⟩] : List (View.Piece (Elt F) S1024x2048 .bf16)), y ∈ pc.1.set :=
  View.cover_of_tiled [⟨allUp, p⟩] S1024x2048.size (by rfl) y

/-- The store of the down-projection weights covers their buffer. -/
theorem down_cover (p : Vec F S1024x1024 .bf16) (y : S1024x1024.Idx) :
    ∃ pc ∈ ([⟨allDown, p⟩] : List (View.Piece (Elt F) S1024x1024 .bf16)), y ∈ pc.1.set :=
  View.cover_of_tiled [⟨allDown, p⟩] S1024x1024.size (by rfl) y

/-- The word of the expert table at the point, and at the point before it. -/
abbrev expertAt (i : grid0.Coords) (T : S288.Idx → BitVec 32) : BitVec 32 :=
  View.readAt (Elt F) (expertTab).view (Rect.unit (s := S288) (k0_off1 i) S1.size (k0_off1_inb i)).toLoadRect T (Shape.Idx.first (numel1_S1.symm ▸ Nat.one_pos))
abbrev expertBefore (i : grid0.Coords) (T : S288.Idx → BitVec 32) : BitVec 32 :=
  View.readAt (Elt F) (expertTab).view (Rect.unit (s := S288) (k0_off2 i) S1.size (k0_off2_inb i)).toLoadRect T (Shape.Idx.first (numel1_S1.symm ▸ Nat.one_pos))
/-- The number of used blocks. -/
abbrev used (U : S1.Idx → BitVec 32) : BitVec 32 :=
  View.readAt (Elt F) (usedTab).view (Rect.unit (s := S1) ![0] S1.size inb_S1_S1_0).toLoadRect U (Shape.Idx.first (numel1_S1.symm ▸ Nat.one_pos))

/-- The body fills the weight buffers at the point: it is the first one, or its expert is not the one of the point before. -/
abbrev fills (i : grid0.Coords) (T : S288.Idx → BitVec 32) : Prop :=
  Scalar.cmpi .ne (Scalar.extui (Scalar.ori (Scalar.cmpi .eq (BitVec.ofNat 32 (i 0).val) 0#32)
    (Scalar.cmpi .ne (expertAt (F := F) i T) (expertBefore (F := F) i T)))) 0#32 = 1#1

/-- The buffers of one point, apart from the weight buffers and the block of results. -/
def held (c : Dev nD) (a3 : Memref sig .tc .vmem S512x1024 .f32) (a4 : Memref sig .tc .vmem S1x1024x2048 .f32) (a5 : Memref sig .tc .vmem S1x1x2048 .f32)
    (a6 : Memref sig .tc .vmem S1x1024x1024 .f32) (a7 : Memref sig .tc .vmem S1x1x1024 .f32) (T : S288.Idx → BitVec 32) (U : S1.Idx → BitVec 32)
    (x : Vec F S512x1024 .f32) (wu : Vec F S1x1024x2048 .f32) (bu : Vec F S1x1x2048 .f32) (wd : Vec F S1x1024x1024 .f32) (bd : Vec F S1x1x1024 .f32) : sProp 𝕄 :=
  iprop(owns (c : Thread nD τ) a3 fullShare x ∗ owns (c : Thread nD τ) a4 fullShare wu ∗ owns (c : Thread nD τ) a5 fullShare bu
    ∗ owns (c : Thread nD τ) a6 fullShare wd ∗ owns (c : Thread nD τ) a7 fullShare bd
    ∗ ((expertTab).view.loc (c : Thread nD τ) ↦{fullShare.right} T) ∗ ((usedTab).view.loc (c : Thread nD τ) ↦{fullShare.right} U))

set_option maxHeartbeats 1000000 in
/-- At a used point that fills the weight buffers, the body leaves the expert's weights in them and the computed rows. -/
theorem run_fill_compute (c : Dev nD) (i : grid0.Coords)
    (a3 : Memref sig .tc .vmem S512x1024 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S512x1024 .f32) (h8 : a8.IsWhole)
    (T : S288.Idx → BitVec 32) (U : S1.Idx → BitVec 32)
    (x : Vec F S512x1024 .f32) (wu : Vec F S1x1024x2048 .f32) (bu : Vec F S1x1x2048 .f32) (wd : Vec F S1x1024x1024 .f32) (bd : Vec F S1x1x1024 .f32)
    (hf : fills (F := F) i T) (hu : k0_cond2 i (used (F := F) U) = 1#1) (hz : ¬ k0_cond3 i (used (F := F) U) = 1#1) (K : PUnit → sProp 𝕄) :
    iprop(held c a3 a4 a5 a6 a7 T U x wu bu wd bd ∗ (∃ d, owns (c : Thread nD τ) a8 fullShare d) ∗ (∃ d, owns (c : Thread nD τ) upBuf fullShare d) ∗ (∃ d, owns (c : Thread nD τ) downBuf fullShare d)
        ∗ (iprop(held c a3 a4 a5 a6 a7 T U x wu bu wd bd ∗ owns (c : Thread nD τ) a8 fullShare (computed x (storedUp wu) bu (storedDown wd) bd)
            ∗ owns (c : Thread nD τ) upBuf fullShare (storedUp wu) ∗ owns (c : Thread nD τ) downBuf fullShare (storedDown wd)) -∗ K ⟨⟩))
      ⊢ wp frame (wpE (defs₀ (F := F)) Variants.none c none) Set.univ (cc0_experts i expertTab (Memref.isWhole_whole _) usedTab (Memref.isWhole_whole _) a3 h3 a4 h4 a5 h5 a6 h6 a7 h7 a8 h8 upBuf (Memref.isWhole_whole _) downBuf (Memref.isWhole_whole _)) K := by
  have hU : (upBuf).IsWhole := Memref.isWhole_whole _
  have hD : (downBuf).IsWhole := Memref.isWhole_whole _
  have hT : (expertTab).IsWhole := Memref.isWhole_whole _
  have hN : (usedTab).IsWhole := Memref.isWhole_whole _
  rw [cc0_experts_eq_skeleton]; unfold cc0_experts_skel
  unfold held owns
  iintro ⟨⟨⟨%f3, %e3, H3⟩, ⟨%f4, %e4, H4⟩, ⟨%f5, %e5, H5⟩, ⟨%f6, %e6, H6⟩, ⟨%f7, %e7, H7⟩, HT, HN⟩, ⟨%d8, %f8, -, H8⟩, ⟨%d9, %f9, -, H9⟩, ⟨%d10, %f10, -, H10⟩, Hk⟩
  subst e3 e4 e5 e6 e7
  sl_exec! (disch := first | (guard_target = Scalar.cmpi = _; exact hf) | (guard_target = k0_cond2 _ _ = _; exact hu) | (guard_target = ¬(k0_cond3 _ _ = _); exact hz))
  sl_step
  iapply Hk
  isplitl [H3 H4 H5 H6 H7 HT HN]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HT]; · iexact HT
    iexact HN
  isplitl [H8]
  · iexists _; isplitr
    swap; · iexact H8
    ipureintro
    have eu : run_fill_compute.sl.v21 c a4 f4 = View.ld (storedUp (View.read (Elt F) a4.view f4)) allUp := by
      unfold run_fill_compute.sl.v21 run_fill_compute.sl.H9_1; exact View.readCov_eq_canon' _ _ _
    have ed : run_fill_compute.sl.v51 c a6 f6 = View.ld (storedDown (View.read (Elt F) a6.view f6)) allDown := by
      unfold run_fill_compute.sl.v51 run_fill_compute.sl.H10_1; exact View.readCov_eq_canon' _ _ _
    unfold run_fill_compute.sl.H8_2 run_fill_compute.sl.r_3 run_fill_compute.sl.r_4
    rw [View.read_writes_junk_eq_canon, eu, ed]
    rfl
  isplitl [H9]
  · iexists _; isplitr
    swap; · iexact H9
    ipureintro
    unfold run_fill_compute.sl.H9_1
    exact View.read_writes_junk_eq_canon _ _
  iexists _; isplitr
  swap; · iexact H10
  ipureintro
  unfold run_fill_compute.sl.H10_1
  exact View.read_writes_junk_eq_canon _ _

set_option maxHeartbeats 1000000 in
/-- At a used point of the same expert as the one before, the body leaves the rows computed from the weights already there. -/
theorem run_keep_compute (c : Dev nD) (i : grid0.Coords)
    (a3 : Memref sig .tc .vmem S512x1024 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S512x1024 .f32) (h8 : a8.IsWhole)
    (T : S288.Idx → BitVec 32) (U : S1.Idx → BitVec 32)
    (x : Vec F S512x1024 .f32) (wu : Vec F S1x1024x2048 .f32) (bu : Vec F S1x1x2048 .f32) (wd : Vec F S1x1024x1024 .f32) (bd : Vec F S1x1x1024 .f32)
    (su : Vec F S1024x2048 .bf16) (sd : Vec F S1024x1024 .bf16)
    (hf : ¬ fills (F := F) i T) (hu : k0_cond2 i (used (F := F) U) = 1#1) (hz : ¬ k0_cond3 i (used (F := F) U) = 1#1) (K : PUnit → sProp 𝕄) :
    iprop(held c a3 a4 a5 a6 a7 T U x wu bu wd bd ∗ (∃ d, owns (c : Thread nD τ) a8 fullShare d) ∗ owns (c : Thread nD τ) upBuf fullShare su ∗ owns (c : Thread nD τ) downBuf fullShare sd
        ∗ (iprop(held c a3 a4 a5 a6 a7 T U x wu bu wd bd ∗ owns (c : Thread nD τ) a8 fullShare (computed x su bu sd bd)
            ∗ owns (c : Thread nD τ) upBuf fullShare su ∗ owns (c : Thread nD τ) downBuf fullShare sd) -∗ K ⟨⟩))
      ⊢ wp frame (wpE (defs₀ (F := F)) Variants.none c none) Set.univ (cc0_experts i expertTab (Memref.isWhole_whole _) usedTab (Memref.isWhole_whole _) a3 h3 a4 h4 a5 h5 a6 h6 a7 h7 a8 h8 upBuf (Memref.isWhole_whole _) downBuf (Memref.isWhole_whole _)) K := by
  have hU : (upBuf).IsWhole := Memref.isWhole_whole _
  have hD : (downBuf).IsWhole := Memref.isWhole_whole _
  have hT : (expertTab).IsWhole := Memref.isWhole_whole _
  have hN : (usedTab).IsWhole := Memref.isWhole_whole _
  rw [cc0_experts_eq_skeleton]; unfold cc0_experts_skel
  unfold held owns
  iintro ⟨⟨⟨%f3, %e3, H3⟩, ⟨%f4, %e4, H4⟩, ⟨%f5, %e5, H5⟩, ⟨%f6, %e6, H6⟩, ⟨%f7, %e7, H7⟩, HT, HN⟩, ⟨%d8, %f8, -, H8⟩, ⟨%f9, %e9, H9⟩, ⟨%f10, %e10, H10⟩, Hk⟩
  subst e3 e4 e5 e6 e7 e9 e10
  sl_exec! (disch := first | (guard_target = ¬(Scalar.cmpi = _); exact hf) | (guard_target = k0_cond2 _ _ = _; exact hu) | (guard_target = ¬(k0_cond3 _ _ = _); exact hz))
  sl_step
  iapply Hk
  isplitl [H3 H4 H5 H6 H7 HT HN]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HT]; · iexact HT
    iexact HN
  isplitl [H8]
  · iexists _; isplitr
    swap; · iexact H8
    ipureintro
    unfold run_keep_compute.sl.H8_2 run_keep_compute.sl.r_3 run_keep_compute.sl.r_4
    rw [View.read_writes_junk_eq_canon]
    rfl
  isplitl [H9]
  · iexists f9; isplitr; · ipureintro; rfl
    iexact H9
  iexists f10; isplitr; · ipureintro; rfl
  iexact H10

set_option maxHeartbeats 1000000 in
/-- At an unused point that fills the weight buffers, the body leaves the expert's weights in them and zero rows. -/
theorem run_fill_zero (c : Dev nD) (i : grid0.Coords)
    (a3 : Memref sig .tc .vmem S512x1024 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S512x1024 .f32) (h8 : a8.IsWhole)
    (T : S288.Idx → BitVec 32) (U : S1.Idx → BitVec 32)
    (x : Vec F S512x1024 .f32) (wu : Vec F S1x1024x2048 .f32) (bu : Vec F S1x1x2048 .f32) (wd : Vec F S1x1024x1024 .f32) (bd : Vec F S1x1x1024 .f32)
    (hf : fills (F := F) i T) (hu : ¬ k0_cond2 i (used (F := F) U) = 1#1) (hz : k0_cond3 i (used (F := F) U) = 1#1) (K : PUnit → sProp 𝕄) :
    iprop(held c a3 a4 a5 a6 a7 T U x wu bu wd bd ∗ (∃ d, owns (c : Thread nD τ) a8 fullShare d) ∗ (∃ d, owns (c : Thread nD τ) upBuf fullShare d) ∗ (∃ d, owns (c : Thread nD τ) downBuf fullShare d)
        ∗ (iprop(held c a3 a4 a5 a6 a7 T U x wu bu wd bd ∗ owns (c : Thread nD τ) a8 fullShare zeroRows
            ∗ owns (c : Thread nD τ) upBuf fullShare (storedUp wu) ∗ owns (c : Thread nD τ) downBuf fullShare (storedDown wd)) -∗ K ⟨⟩))
      ⊢ wp frame (wpE (defs₀ (F := F)) Variants.none c none) Set.univ (cc0_experts i expertTab (Memref.isWhole_whole _) usedTab (Memref.isWhole_whole _) a3 h3 a4 h4 a5 h5 a6 h6 a7 h7 a8 h8 upBuf (Memref.isWhole_whole _) downBuf (Memref.isWhole_whole _)) K := by
  have hU : (upBuf).IsWhole := Memref.isWhole_whole _
  have hD : (downBuf).IsWhole := Memref.isWhole_whole _
  have hT : (expertTab).IsWhole := Memref.isWhole_whole _
  have hN : (usedTab).IsWhole := Memref.isWhole_whole _
  rw [cc0_experts_eq_skeleton]; unfold cc0_experts_skel
  unfold held owns
  iintro ⟨⟨⟨%f3, %e3, H3⟩, ⟨%f4, %e4, H4⟩, ⟨%f5, %e5, H5⟩, ⟨%f6, %e6, H6⟩, ⟨%f7, %e7, H7⟩, HT, HN⟩, ⟨%d8, %f8, -, H8⟩, ⟨%d9, %f9, -, H9⟩, ⟨%d10, %f10, -, H10⟩, Hk⟩
  subst e3 e4 e5 e6 e7
  sl_exec! (disch := first | (guard_target = Scalar.cmpi = _; exact hf) | (guard_target = ¬(k0_cond2 _ _ = _); exact hu) | (guard_target = k0_cond3 _ _ = _; exact hz))
  sl_step
  iapply Hk
  isplitl [H3 H4 H5 H6 H7 HT HN]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HT]; · iexact HT
    iexact HN
  isplitl [H8]
  · iexists _; isplitr
    swap; · iexact H8
    ipureintro
    unfold run_fill_zero.sl.H8_1
    exact View.read_writes_junk_eq_canon _ _
  isplitl [H9]
  · iexists _; isplitr
    swap; · iexact H9
    ipureintro
    unfold run_fill_zero.sl.H9_1
    exact View.read_writes_junk_eq_canon _ _
  iexists _; isplitr
  swap; · iexact H10
  ipureintro
  unfold run_fill_zero.sl.H10_1
  exact View.read_writes_junk_eq_canon _ _

set_option maxHeartbeats 1000000 in
/-- At an unused point of the same expert as the one before, the body leaves zero rows. -/
theorem run_keep_zero (c : Dev nD) (i : grid0.Coords)
    (a3 : Memref sig .tc .vmem S512x1024 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S512x1024 .f32) (h8 : a8.IsWhole)
    (T : S288.Idx → BitVec 32) (U : S1.Idx → BitVec 32)
    (x : Vec F S512x1024 .f32) (wu : Vec F S1x1024x2048 .f32) (bu : Vec F S1x1x2048 .f32) (wd : Vec F S1x1024x1024 .f32) (bd : Vec F S1x1x1024 .f32)
    (su : Vec F S1024x2048 .bf16) (sd : Vec F S1024x1024 .bf16)
    (hf : ¬ fills (F := F) i T) (hu : ¬ k0_cond2 i (used (F := F) U) = 1#1) (hz : k0_cond3 i (used (F := F) U) = 1#1) (K : PUnit → sProp 𝕄) :
    iprop(held c a3 a4 a5 a6 a7 T U x wu bu wd bd ∗ (∃ d, owns (c : Thread nD τ) a8 fullShare d) ∗ owns (c : Thread nD τ) upBuf fullShare su ∗ owns (c : Thread nD τ) downBuf fullShare sd
        ∗ (iprop(held c a3 a4 a5 a6 a7 T U x wu bu wd bd ∗ owns (c : Thread nD τ) a8 fullShare zeroRows
            ∗ owns (c : Thread nD τ) upBuf fullShare su ∗ owns (c : Thread nD τ) downBuf fullShare sd) -∗ K ⟨⟩))
      ⊢ wp frame (wpE (defs₀ (F := F)) Variants.none c none) Set.univ (cc0_experts i expertTab (Memref.isWhole_whole _) usedTab (Memref.isWhole_whole _) a3 h3 a4 h4 a5 h5 a6 h6 a7 h7 a8 h8 upBuf (Memref.isWhole_whole _) downBuf (Memref.isWhole_whole _)) K := by
  have hU : (upBuf).IsWhole := Memref.isWhole_whole _
  have hD : (downBuf).IsWhole := Memref.isWhole_whole _
  have hT : (expertTab).IsWhole := Memref.isWhole_whole _
  have hN : (usedTab).IsWhole := Memref.isWhole_whole _
  rw [cc0_experts_eq_skeleton]; unfold cc0_experts_skel
  unfold held owns
  iintro ⟨⟨⟨%f3, %e3, H3⟩, ⟨%f4, %e4, H4⟩, ⟨%f5, %e5, H5⟩, ⟨%f6, %e6, H6⟩, ⟨%f7, %e7, H7⟩, HT, HN⟩, ⟨%d8, %f8, -, H8⟩, ⟨%f9, %e9, H9⟩, ⟨%f10, %e10, H10⟩, Hk⟩
  subst e3 e4 e5 e6 e7 e9 e10
  sl_exec! (disch := first | (guard_target = ¬(Scalar.cmpi = _); exact hf) | (guard_target = ¬(k0_cond2 _ _ = _); exact hu) | (guard_target = k0_cond3 _ _ = _; exact hz))
  sl_step
  iapply Hk
  isplitl [H3 H4 H5 H6 H7 HT HN]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [HT]; · iexact HT
    iexact HN
  isplitl [H8]
  · iexists _; isplitr
    swap; · iexact H8
    ipureintro
    unfold run_keep_zero.sl.H8_1
    exact View.read_writes_junk_eq_canon _ _
  isplitl [H9]
  · iexists f9; isplitr; · ipureintro; rfl
    iexact H9
  iexists f10; isplitr; · ipureintro; rfl
  iexact H10

end Cert.ExpertsIdeal.Hand

end
-- ==== Proof.ExpertsIdealFrame.lean ====
/- The experts kernel at any admissible contents of its two tables: what every point of its grid leaves, and that it runs to
   the end with its arguments unchanged. -/
module

public import proofs.«01_k».proof.Proof.ExpertsIdealBody
public import Idealize.ShloMosaic.Lib.Pipeline.Quiescent
public import Idealize.ShloMosaic.Lib.Pipeline.Kit
public import Idealize.ShloMosaic.Lib.Pipeline.TableIdle
public import Idealize.ShloMosaic.Lib.Pipeline.Frame
public import Idealize.ShloMosaic.Lib.Pipeline.FrameBody
public import Idealize.ShloMosaic.Adequacy
public import Idealize.ShloMosaic.Init

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## The points of the grid and the words of the tables -/

/-- The coordinate of a point is its number. -/
theorem coords_val : ∀ t : Fin grid0.N, (grid0.coords t 0).val = t.val := by decide +kernel

/-- The offset at which the body reads its expert is the coordinate. -/
theorem off1_val : ∀ n : Fin 288, (Scalar.indexCast (BitVec.ofNat 32 n.val)).toNat = n.val := by decide +kernel

/-- The offset at which the body reads the expert of the point before is one less, or zero. -/
theorem off2_val : ∀ n : Fin 288, (Scalar.indexCast (Scalar.maxsi (Scalar.subi (BitVec.ofNat 32 n.val) 1#32) 0#32)).toNat = n.val - 1 := by decide +kernel

/-- The index of a point in the table of experts. -/
def tabIdx (n : ℕ) (h : n < 288) : S288.Idx := fun | ⟨0, _⟩ => ⟨n, h⟩ | ⟨_ + 1, h⟩ => absurd h (by simp)

/-- The index depends on the point's number only. -/
theorem tabIdx_congr {n k : ℕ} (h : n = k) (hn : n < 288) (hk : k < 288) : tabIdx n hn = tabIdx k hk := by
  subst h; rfl

/-- The body reads the table at its own point, -/
theorem expertAt_eq (i : grid0.Coords) (T : S288.Idx → BitVec 32) : expertAt (F := F) i T = T (tabIdx (i 0).val (i 0).isLt) := by
  refine congrArg T (funext fun k => Fin.ext ?_)
  match k with
  | ⟨0, _⟩ => exact off1_val (i 0)
  | ⟨_ + 1, h⟩ => exact absurd (show _ < 1 from h) (by omega)

/-- and at the point before. -/
theorem expertBefore_eq (i : grid0.Coords) (T : S288.Idx → BitVec 32) :
    expertBefore (F := F) i T = T (tabIdx ((i 0).val - 1) (lt_of_le_of_lt (Nat.sub_le _ _) (i 0).isLt)) := by
  refine congrArg T (funext fun k => Fin.ext ?_)
  match k with
  | ⟨0, _⟩ => exact off2_val (i 0)
  | ⟨_ + 1, h⟩ => exact absurd (show _ < 1 from h) (by omega)

/-- A bit widened and compared with zero is the bit, -/
theorem bit_eq_one : ∀ p : Bool, Scalar.cmpi .ne (Scalar.extui (BitVec.ofBool p) : BitVec 32) 0#32 = 1#1 ↔ p = true := by decide

/-- and of two bits joined, one of the two. -/
theorem bits_eq_one : ∀ p q : Bool, Scalar.cmpi .ne (Scalar.extui (Scalar.ori (BitVec.ofBool p) (BitVec.ofBool q)) : BitVec 32) 0#32 = 1#1
    ↔ (p = true ∨ q = true) := by decide

/-- The point is computed where its number is below the number of used blocks, -/
theorem cond2_iff (i : grid0.Coords) (v : BitVec 32) : k0_cond2 i v = 1#1 ↔ (BitVec.ofNat 32 (i 0).val).slt v = true := bit_eq_one _

/-- and set to zero where it is not. -/
theorem cond3_iff (i : grid0.Coords) (v : BitVec 32) : k0_cond3 i v = 1#1 ↔ v.sle (BitVec.ofNat 32 (i 0).val) = true := bit_eq_one _

/-- A point is either computed or set to zero, -/
theorem compute_or_zero (i : grid0.Coords) (v : BitVec 32) :
    (k0_cond2 i v = 1#1 ∧ ¬ k0_cond3 i v = 1#1) ∨ (¬ k0_cond2 i v = 1#1 ∧ k0_cond3 i v = 1#1) := by
  rw [cond2_iff, cond3_iff, BitVec.slt_iff_toInt_lt, BitVec.sle_iff_toInt_le]
  omega

/-- so its block of results is never left alone. -/
theorem never_idle (i : grid0.Coords) (v : BitVec 32) :
    (!(k0_cond2 i v == 1#1) && !(k0_cond3 i v == 1#1)) = false := by
  rcases compute_or_zero i v with ⟨h, -⟩ | ⟨-, h⟩ <;> simp [h]

/-- A point that does not fill the weight buffers is not the first and has the expert of the point before. -/
theorem not_fills (i : grid0.Coords) (T : S288.Idx → BitVec 32) (h : ¬ fills (F := F) i T) :
    (i 0).val ≠ 0 ∧ expertAt (F := F) i T = expertBefore (F := F) i T := by
  have e := (not_congr (bits_eq_one (BitVec.ofNat 32 (i 0).val == 0#32) (expertAt (F := F) i T != expertBefore (F := F) i T))).mp h
  rw [not_or, beq_iff_eq, bne_iff_ne, not_not] at e
  exact ⟨fun h0 => e.1 (by rw [h0]), e.2⟩

/-! ## The pipeline at the admissible contents of the tables -/

variable (a : (pcfg0 (F := F)).Adm) (m : (ℓ : Loc nD τ sig) → Buf (Elt F) ℓ) (ρ : Dev nD → PrngReg)

/-- The pipeline at the tables. -/
abbrev cfgA : Cfg sig Λ₀ := cfg0 (F := F) a
abbrev pinned : Fin 1 → Cfg sig Λ₀ := Pipeline.pin (pcfgs (F := F)) fun _ => a

/-- The coordinates of a point. -/
abbrev crd (t : Fin (cfgA a).N) : grid0.Coords := (cfgA a).grid.coords t

/-- The block of array `w` that belongs to point `t`. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (m (((cfgA a).win w).arr.view.loc (c : Thread nD τ)))

/-- What a point leaves in its block of results: the computed rows if the point is used, zero rows if not. -/
def result (c : Dev nD) (t : Fin (cfgA a).N) : Vec F S512x1024 .f32 :=
  if k0_cond2 (crd a t) (used (F := F) (a.1 1)) = 1#1 then
    computed (iblk a m c (0 : Fin 6) t) (storedUp (iblk a m c (1 : Fin 6) t)) (iblk a m c (2 : Fin 6) t) (storedDown (iblk a m c (3 : Fin 6) t)) (iblk a m c (4 : Fin 6) t)
  else zeroRows

/-- Before a point other than the first the weight buffers hold the weights of the expert of the point before it; the body
    also holds the two tables and the generator register. -/
def Inv (c : Dev nD) (t : Fin ((cfgA a).N + 1)) : sProp 𝕄 :=
  iprop((∃ d, ⌜∀ s : Fin (cfgA a).N, s.val + 1 = t.val → d = storedUp (iblk a m c (1 : Fin 6) s)⌝ ∗ owns (c : Thread nD τ) upBuf fullShare d)
    ∗ (∃ d, ⌜∀ s : Fin (cfgA a).N, s.val + 1 = t.val → d = storedDown (iblk a m c (3 : Fin 6) s)⌝ ∗ owns (c : Thread nD τ) downBuf fullShare d)
    ∗ ((expertTab).view.loc (c : Thread nD τ) ↦{fullShare.right} a.1 0) ∗ ((usedTab).view.loc (c : Thread nD τ) ↦{fullShare.right} a.1 1)
    ∗ ∃ r, prngReg c r)

/-- What the pipeline holds on one core, point by point. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => result a m c t
  Φ t := Inv a m c t
  q _ := fullShare
  owed _ := 0

/-- Each input's buffer holds its block when the body runs. -/
theorem before_rows (c : Dev nD) (t : Fin (cfgA a).N) (d) : (dats a m 0 c).before (0 : Fin 6) t d = iblk a m c (0 : Fin 6) t :=
  (dats a m 0 c).before_in_eq_fetched (0 : Fin 6) rfl (fun _ => rfl) (fun _ _ _ => rfl) (fun _ => rfl) t d
theorem before_up (c : Dev nD) (t : Fin (cfgA a).N) (d) : (dats a m 0 c).before (1 : Fin 6) t d = iblk a m c (1 : Fin 6) t :=
  (dats a m 0 c).before_in_eq_fetched (1 : Fin 6) rfl (fun _ => rfl) (fun _ _ _ => rfl) (fun _ => rfl) t d
theorem before_upBias (c : Dev nD) (t : Fin (cfgA a).N) (d) : (dats a m 0 c).before (2 : Fin 6) t d = iblk a m c (2 : Fin 6) t :=
  (dats a m 0 c).before_in_eq_fetched (2 : Fin 6) rfl (fun _ => rfl) (fun _ _ _ => rfl) (fun _ => rfl) t d
theorem before_down (c : Dev nD) (t : Fin (cfgA a).N) (d) : (dats a m 0 c).before (3 : Fin 6) t d = iblk a m c (3 : Fin 6) t :=
  (dats a m 0 c).before_in_eq_fetched (3 : Fin 6) rfl (fun _ => rfl) (fun _ _ _ => rfl) (fun _ => rfl) t d
theorem before_downBias (c : Dev nD) (t : Fin (cfgA a).N) (d) : (dats a m 0 c).before (4 : Fin 6) t d = iblk a m c (4 : Fin 6) t :=
  (dats a m 0 c).before_in_eq_fetched (4 : Fin 6) rfl (fun _ => rfl) (fun _ _ _ => rfl) (fun _ => rfl) t d

/-- Two points of one expert have the same block of up-projection weights, -/
theorem up_congr (c : Dev nD) (s t : Fin (cfgA a).N) (h : expertAt (F := F) (crd a s) (a.1 0) = expertAt (F := F) (crd a t) (a.1 0)) :
    iblk a m c (1 : Fin 6) s = iblk a m c (1 : Fin 6) t :=
  (dats a m 0 c).fetched_congr (1 : Fin 6) (t := s) (t' := t) (congrArg (fun v : BitVec 32 => ![v.toNat, 0, 0]) h) rfl (iblk a m c (1 : Fin 6) s)

/-- and the same block of down-projection weights. -/
theorem down_congr (c : Dev nD) (s t : Fin (cfgA a).N) (h : expertAt (F := F) (crd a s) (a.1 0) = expertAt (F := F) (crd a t) (a.1 0)) :
    iblk a m c (3 : Fin 6) s = iblk a m c (3 : Fin 6) t :=
  (dats a m 0 c).fetched_congr (3 : Fin 6) (t := s) (t' := t) (congrArg (fun v : BitVec 32 => ![v.toNat, 0, 0]) h) rfl (iblk a m c (3 : Fin 6) s)

/-- A point that does not fill the weight buffers comes after one with its expert. -/
theorem same_expert (t : Fin (cfgA a).N) (T : S288.Idx → BitVec 32) (h : ¬ fills (F := F) (crd a t) T) :
    ∃ s : Fin (cfgA a).N, s.val + 1 = t.val ∧ expertAt (F := F) (crd a s) T = expertAt (F := F) (crd a t) T := by
  have ht : ((crd a t) 0).val = t.val := coords_val t
  obtain ⟨h0, e⟩ := not_fills (crd a t) T h
  rw [ht] at h0
  refine ⟨⟨t.val - 1, lt_of_le_of_lt (Nat.sub_le _ _) t.isLt⟩, Nat.succ_pred_eq_of_ne_zero h0, ?_⟩
  rw [e, expertBefore_eq, expertAt_eq]
  have hs : ((crd a ⟨t.val - 1, lt_of_le_of_lt (Nat.sub_le _ _) t.isLt⟩) 0).val = t.val - 1 := coords_val _
  exact congrArg T (tabIdx_congr (by omega) _ _)

/-! ## One point -/

/-- Each window's buffer at a point. -/
abbrev st0 (t : Fin (cfgA a).N) : Memref sig .tc .vmem S512x1024 .f32 := spec0_0.stage ((cfgA a).slots t (0 : Fin 6))
abbrev st1 (t : Fin (cfgA a).N) : Memref sig .tc .vmem S1x1024x2048 .f32 := spec0_1.stage ((cfgA a).slots t (1 : Fin 6))
abbrev st2 (t : Fin (cfgA a).N) : Memref sig .tc .vmem S1x1x2048 .f32 := spec0_2.stage ((cfgA a).slots t (2 : Fin 6))
abbrev st3 (t : Fin (cfgA a).N) : Memref sig .tc .vmem S1x1024x1024 .f32 := spec0_3.stage ((cfgA a).slots t (3 : Fin 6))
abbrev st4 (t : Fin (cfgA a).N) : Memref sig .tc .vmem S1x1x1024 .f32 := spec0_4.stage ((cfgA a).slots t (4 : Fin 6))
abbrev st5 (t : Fin (cfgA a).N) : Memref sig .tc .vmem S512x1024 .f32 := spec0_5.stage ((cfgA a).slots t (5 : Fin 6))

/-- The body at a point. -/
abbrev bodyAt (t : Fin (cfgA a).N) : Prog (TpuEff nD τ sig (Elt F) Λ₀ .tc) PUnit :=
  cc0_experts (crd a t) expertTab (Memref.isWhole_whole _) usedTab (Memref.isWhole_whole _)
    (st0 a t) (hstage0_0 (((cfgA a).slots t (0 : Fin 6)).cast nbuf0_0)) (st1 a t) (hstage0_1 (((cfgA a).slots t (1 : Fin 6)).cast nbuf0_1))
    (st2 a t) (hstage0_2 (((cfgA a).slots t (2 : Fin 6)).cast nbuf0_2)) (st3 a t) (hstage0_3 (((cfgA a).slots t (3 : Fin 6)).cast nbuf0_3))
    (st4 a t) (hstage0_4 (((cfgA a).slots t (4 : Fin 6)).cast nbuf0_4)) (st5 a t) (hstage0_5 (((cfgA a).slots t (5 : Fin 6)).cast nbuf0_5))
    upBuf (Memref.isWhole_whole _) downBuf (Memref.isWhole_whole _)

/-- What the weight buffers may hold before a point. -/
abbrev Before (c : Dev nD) (t : Fin (cfgA a).N) (su : Vec F S1024x2048 .bf16) (sd : Vec F S1024x1024 .bf16) : Prop :=
  (∀ s : Fin (cfgA a).N, s.val + 1 = t.val → su = storedUp (iblk a m c (1 : Fin 6) s))
    ∧ (∀ s : Fin (cfgA a).N, s.val + 1 = t.val → sd = storedDown (iblk a m c (3 : Fin 6) s))

/-- The body at any point, from the buffers' contents as the pipeline says, leaves the point's result and the point's weights. -/
theorem run_point (c : Dev nD) (t : Fin (cfgA a).N) (su : Vec F S1024x2048 .bf16) (sd : Vec F S1024x1024 .bf16) (hs : Before a m c t su sd)
    (K : PUnit → sProp 𝕄) :
    iprop(held c (st0 a t) (st1 a t) (st2 a t) (st3 a t) (st4 a t) (a.1 0) (a.1 1) (iblk a m c (0 : Fin 6) t) (iblk a m c (1 : Fin 6) t)
          (iblk a m c (2 : Fin 6) t) (iblk a m c (3 : Fin 6) t) (iblk a m c (4 : Fin 6) t)
        ∗ (∃ d, owns (c : Thread nD τ) (st5 a t) fullShare d) ∗ owns (c : Thread nD τ) upBuf fullShare su ∗ owns (c : Thread nD τ) downBuf fullShare sd
        ∗ (iprop(held c (st0 a t) (st1 a t) (st2 a t) (st3 a t) (st4 a t) (a.1 0) (a.1 1) (iblk a m c (0 : Fin 6) t) (iblk a m c (1 : Fin 6) t)
              (iblk a m c (2 : Fin 6) t) (iblk a m c (3 : Fin 6) t) (iblk a m c (4 : Fin 6) t)
            ∗ owns (c : Thread nD τ) (st5 a t) fullShare (result a m c t)
            ∗ owns (c : Thread nD τ) upBuf fullShare (storedUp (iblk a m c (1 : Fin 6) t))
            ∗ owns (c : Thread nD τ) downBuf fullShare (storedDown (iblk a m c (3 : Fin 6) t))) -∗ K ⟨⟩))
      ⊢ wp frame (wpE (defs₀ (F := F)) Variants.none c none) Set.univ (bodyAt a t) K := by
  by_cases hf : fills (F := F) (crd a t) (a.1 0)
  · rcases compute_or_zero (crd a t) (used (F := F) (a.1 1)) with ⟨hu, hz⟩ | ⟨hu, hz⟩
    · rw [show result a m c t = _ from if_pos hu]
      iintro ⟨Hh, H8, H9, H10, Hk⟩
      iapply (run_fill_compute c (crd a t) _ _ _ _ _ _ _ _ _ _ _ _ (a.1 0) (a.1 1) _ _ _ _ _ hf hu hz K)
      isplitl [Hh]; · iexact Hh
      isplitl [H8]; · iexact H8
      isplitl [H9]; · iexists su; iexact H9
      isplitl [H10]; · iexists sd; iexact H10
      iexact Hk
    · rw [show result a m c t = _ from if_neg hu]
      iintro ⟨Hh, H8, H9, H10, Hk⟩
      iapply (run_fill_zero c (crd a t) _ _ _ _ _ _ _ _ _ _ _ _ (a.1 0) (a.1 1) _ _ _ _ _ hf hu hz K)
      isplitl [Hh]; · iexact Hh
      isplitl [H8]; · iexact H8
      isplitl [H9]; · iexists su; iexact H9
      isplitl [H10]; · iexists sd; iexact H10
      iexact Hk
  · obtain ⟨s, hst, he⟩ := same_expert a t (a.1 0) hf
    obtain rfl : su = storedUp (iblk a m c (1 : Fin 6) t) := (hs.1 s hst).trans (congrArg storedUp (up_congr a m c s t he))
    obtain rfl : sd = storedDown (iblk a m c (3 : Fin 6) t) := (hs.2 s hst).trans (congrArg storedDown (down_congr a m c s t he))
    rcases compute_or_zero (crd a t) (used (F := F) (a.1 1)) with ⟨hu, hz⟩ | ⟨hu, hz⟩
    · rw [show result a m c t = _ from if_pos hu]
      exact run_keep_compute c (crd a t) _ _ _ _ _ _ _ _ _ _ _ _ (a.1 0) (a.1 1) _ _ _ _ _ _ _ hf hu hz K
    · rw [show result a m c t = _ from if_neg hu]
      exact run_keep_zero c (crd a t) _ _ _ _ _ _ _ _ _ _ _ _ (a.1 0) (a.1 1) _ _ _ _ _ _ _ hf hu hz K

/-- What the body is called with at a point, -/
def bodyPre (c : Dev nD) (t : Fin (cfgA a).N) : sProp 𝕄 :=
  iprop((dats a m 0 c).Φ t.castSucc ∗ (dats a m 0 c).owesAt () t.castSucc
    ∗ (∃ d, owns (c : Thread nD τ) (st0 a t) fullShare ((dats a m 0 c).before (0 : Fin 6) t d))
    ∗ (∃ d, owns (c : Thread nD τ) (st1 a t) fullShare ((dats a m 0 c).before (1 : Fin 6) t d))
    ∗ (∃ d, owns (c : Thread nD τ) (st2 a t) fullShare ((dats a m 0 c).before (2 : Fin 6) t d))
    ∗ (∃ d, owns (c : Thread nD τ) (st3 a t) fullShare ((dats a m 0 c).before (3 : Fin 6) t d))
    ∗ (∃ d, owns (c : Thread nD τ) (st4 a t) fullShare ((dats a m 0 c).before (4 : Fin 6) t d))
    ∗ (∃ d, owns (c : Thread nD τ) (st5 a t) fullShare ((dats a m 0 c).before (5 : Fin 6) t d)))

/-- and what it returns. -/
def bodyPost (c : Dev nD) (t : Fin (cfgA a).N) : sProp 𝕄 :=
  iprop((dats a m 0 c).Φ t.succ ∗ (dats a m 0 c).owesAt () t.succ
    ∗ owns (c : Thread nD τ) (st0 a t) fullShare (iblk a m c (0 : Fin 6) t)
    ∗ owns (c : Thread nD τ) (st1 a t) fullShare (iblk a m c (1 : Fin 6) t)
    ∗ owns (c : Thread nD τ) (st2 a t) fullShare (iblk a m c (2 : Fin 6) t)
    ∗ owns (c : Thread nD τ) (st3 a t) fullShare (iblk a m c (3 : Fin 6) t)
    ∗ owns (c : Thread nD τ) (st4 a t) fullShare (iblk a m c (4 : Fin 6) t)
    ∗ owns (c : Thread nD τ) (st5 a t) fullShare (result a m c t))

/-- The body at a point keeps what the pipeline says. -/
theorem sound_body (c : Dev nD) (t : Fin (cfgA a).N) :
    bodyPre a m c t ⊢ wp frame (wpE (defs₀ (F := F)) Variants.none c none) Set.univ (bodyAt a t) (fun _ => bodyPost a m c t) := by
  unfold bodyPre bodyPost
  simp only [before_rows, before_up, before_upBias, before_down, before_downBias]
  rw [show (dats a m 0 c).Φ t.succ = Inv a m c t.succ from rfl, show (dats a m 0 c).Φ t.castSucc = Inv a m c t.castSucc from rfl,
    show (dats a m 0 c).owesAt () t.succ = (dats a m 0 c).owesAt () t.castSucc from rfl]
  unfold Inv
  iintro ⟨⟨⟨%su, %hu, H9⟩, ⟨%sd, %hd, H10⟩, HT, HN, Hr⟩, Ho, ⟨%d0, H0⟩, ⟨%d1, H1⟩, ⟨%d2, H2⟩, ⟨%d3, H3⟩, ⟨%d4, H4⟩, ⟨%d5, H5⟩⟩
  iapply (run_point a m c t su sd ⟨hu, hd⟩)
  isplitl [H0 H1 H2 H3 H4 HT HN]
  · unfold held
    isplitl [H0]; · iexact H0
    isplitl [H1]; · iexact H1
    isplitl [H2]; · iexact H2
    isplitl [H3]; · iexact H3
    isplitl [H4]; · iexact H4
    isplitl [HT]; · iexact HT
    iexact HN
  isplitl [H5]; · iexists _; iexact H5
  isplitl [H9]; · iexact H9
  isplitl [H10]; · iexact H10
  unfold held
  iintro ⟨⟨H0, H1, H2, H3, H4, HT, HN⟩, H5, H9, H10⟩
  isplitl [H9 H10 HT HN Hr]
  · isplitl [H9]
    · iexists _; isplitr
      swap; · iexact H9
      ipureintro
      intro s hs
      rw [show s = t from Fin.ext (Nat.succ_injective hs)]
    isplitl [H10]
    · iexists _; isplitr
      swap; · iexact H10
      ipureintro
      intro s hs
      rw [show s = t from Fin.ext (Nat.succ_injective hs)]
    isplitl [HT]; · iexact HT
    isplitl [HN]; · iexact HN
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body keeps what the pipeline says at every point. -/
theorem body_obligation (c : Dev nD) : BodyObligation (dats a m 0 c) (defs₀ (F := F)) Variants.none () Set.univ := fun t => by
  rw [bigSep_W0, bigSep_W0]
  have hi : (cfgA a).idle (5 : Fin 6) ((cfgA a).grid.coords t) = false := never_idle _ _
  rw [hi]
  exact sound_body a m c t

/-! ## The launch -/

/-- The two tables, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- The expert's up weights are held whole, -/
theorem owns_up (c : Dev nD) (d : Vec F S1024x2048 .bf16) :
    (owns (c : Thread nD τ) upBuf fullShare d : sProp 𝕄) = ((c : Thread nD τ).loc cc0_scratch0) ↦{fullShare} d :=
  owns_whole (c : Thread nD τ) cc0_scratch0 fullShare d

/-- and so are its down weights. -/
theorem owns_down (c : Dev nD) (d : Vec F S1024x1024 .bf16) :
    (owns (c : Thread nD τ) downBuf fullShare d : sProp 𝕄) = ((c : Thread nD τ).loc cc0_scratch1) ↦{fullShare} d :=
  owns_whole (c : Thread nD τ) cc0_scratch1 fullShare d

/-- The buffers beside the windows: the two scratches. -/
theorem scratches_eq (c : Dev nD) :
    (Pipeline.scopedRest (Ix := Unit) (Name := ℕ) (U := UR sig nD τ) (Lvl := ℕ) (Val := Elt F) (cfgA a).spec c : sProp 𝕄)
      = iprop((∃ d : Vec F S1024x2048 .bf16, owns (c : Thread nD τ) upBuf fullShare d) ∗ (∃ d : Vec F S1024x1024 .bf16, owns (c : Thread nD τ) downBuf fullShare d)) := by
  simp only [owns_up, owns_down]
  exact scopedRest0_eq c

/-- What the launch hands over gives what the body holds at the first point, -/
theorem first_point (c : Dev nD) :
    iprop(Pipeline.ΦA (U := UR sig nD τ) (cfgA a).spec c ∗ Pipeline.ΦT pre0 a.1 c) ⊢ (dats a m 0 c).Φ 0 := by
  unfold Pipeline.ΦA Pipeline.ΦT
  rw [tables_eq, scratches_eq, show (dats a m 0 c).Φ 0 = Inv a m c 0 from rfl]
  unfold Inv
  iintro ⟨⟨⟨⟨%f, H⟩, ⟨%g, G⟩⟩, Hr⟩, HT, HN⟩
  isplitl [H]
  · iexists f; isplitr; swap
    · iexact H
    ipureintro; intro s hs; exact absurd hs (Nat.succ_ne_zero _)
  isplitl [G]
  · iexists g; isplitr; swap
    · iexact G
    ipureintro; intro s hs; exact absurd hs (Nat.succ_ne_zero _)
  isplitl [HT]; · iexact HT
  isplitl [HN]; · iexact HN
  iexact Hr

/-- and at the last point the body gives it back. -/
theorem last_point (c : Dev nD) : (dats a m 0 c).Φ (Fin.last (cfgA a).N) ⊢ Pipeline.ΦA (U := UR sig nD τ) (cfgA a).spec c := by
  unfold Pipeline.ΦA
  rw [scratches_eq, show (dats a m 0 c).Φ (Fin.last (cfgA a).N) = Inv a m c (Fin.last _) from rfl]
  unfold Inv
  iintro ⟨⟨%d, -, H⟩, ⟨%e, -, G⟩, -, -, Hr⟩
  isplitl [H G]
  · isplitl [H]
    · iexists d; iexact H
    iexists e; iexact G
  iexact Hr

/-- The tables are no window's array: the table of experts -/
theorem experts_rest : main_arg1 ∈ Pipeline.restRefs sig spec0 := Pipeline.mem_restRefs_of main_arg1 (by decide) (by decide)

/-- and the count of blocks. -/
theorem count_rest : main_arg2 ∈ Pipeline.restRefs sig spec0 := Pipeline.mem_restRefs_of main_arg2 (by decide) (by decide)

set_option backward.isDefEq.respectTransparency.types false in
set_option maxHeartbeats 1000000 in
/-- From any memory whose tables are the admissible contents `a`, the program runs to the end, leaves every array at what the
    points wrote back, every other buffer as it was, and every counter at zero. -/
theorem run_main (ha : ∀ (c : Dev nD) (k : Fin 2), m ((c : Thread nD τ).loc (pre0.ref k)) = a.1 k) :
    θ_run (defs (F := F)) (onTc (τ := τ) (main (F := F))) (s₀ m ρ)
      (fun r => Pipeline.FramePost (pinned a) (dats a m) 0 (fun c b => m ((c : Thread nD τ).loc b)) r ∧ r.2.sem = fun _ => 0) :=
  Pipeline.θ_run_frameP_track (Q' := _) (pcfgs (F := F)) (fun _ => a) (dats a m) (0 : Fin 1) launch0 defs₀ Variants.none m ρ main
    (hbody := fun c => (body_obligation a m c).loose) (hshare := fun c => (dats a m 0 c).share_full fun _ => rfl)
    (howed := fun _ _ => rfl) (V := fun c b => m ((c : Thread nD τ).loc b))
    (hmain := Pipeline.hmainP_region _ _ _ _ m main fun _ => rfl) (hA := fun _ _ => rfl)
    (hpf := ha) (hin := first_point a m) (hout := last_point a m) (hQ' := fun _ h => h)

/-- The argument arrays end as they were, and every counter at zero. -/
theorem frame (ha : ∀ (c : Dev nD) (k : Fin 2), m ((c : Thread nD τ).loc (pre0.ref k)) = a.1 k) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).1 (0 : Fin 6)).trans ((dats a m 0 c).arrAt_in (0 : Fin 6) rfl _),
     (h.1 c).2 main_arg1 experts_rest,
     (h.1 c).2 main_arg2 count_rest,
     ((h.1 c).1 (1 : Fin 6)).trans ((dats a m 0 c).arrAt_in (1 : Fin 6) rfl _),
     ((h.1 c).1 (2 : Fin 6)).trans ((dats a m 0 c).arrAt_in (2 : Fin 6) rfl _),
     ((h.1 c).1 (3 : Fin 6)).trans ((dats a m 0 c).arrAt_in (3 : Fin 6) rfl _),
     ((h.1 c).1 (4 : Fin 6)).trans ((dats a m 0 c).arrAt_in (4 : Fin 6) rfl _)⟩, h.2⟩) (run_main a m ρ ha)

end Cert.ExpertsIdeal.Hand

end
-- ==== Proof.ExpertsIdealTables.lean ====
/- The experts kernel's frame: under the precondition the tables are admissible, so the program runs to the end and leaves its
   arguments unchanged. -/
module

public import proofs.«01_k».proof.Proof.ExpertsIdealFrame
public import proofs.«01_k».proof.Proof.ExpertTables

@[expose] public section

set_option maxRecDepth 16384

noncomputable section

namespace Cert.ExpertsIdeal.Hand

open Cert.ExpertsIdeal Cert.ExpertsIdeal.Gen
open Idealize.ShloMosaic
open Idealize.ShloMosaic.TcCoe
open Idealize.SL.Sem

variable {F : FTy → Type} [FloatOps F]

/-- Tables in range are admissible: every block the windows name is inside its array. -/
theorem admissible (pf : pre0.Contents (Elt F)) (h : Cert.ExpertTables.Ok (pf 0) (pf 1)) : ok0 pf := by
  have hw : ∀ v : BitVec 32, 0 ≤ v.toInt ∧ v.toInt < 32 → v.toNat < 32 := fun v hv => Cert.ExpertTables.toNat_of_range v hv.1 hv.2
  refine ⟨fun i => ⟨fun k => ?_, .inl rfl⟩, fun i => ⟨fun k => ?_, .inl rfl⟩, fun i => ⟨fun k => ?_, .inl rfl⟩,
    fun i => ⟨fun k => ?_, .inl rfl⟩, fun i => ⟨fun k => ?_, .inl rfl⟩⟩
  · match k with
    | ⟨0, _⟩ =>
      refine (by omega : ∀ n : ℕ, n < 288 → (n + 1) * 512 ≤ 147456) _ (Cert.ExpertTables.min_lt (i 0).val (i 0).isLt _ ?_)
      exact h.2 _
    | ⟨1, _⟩ => exact Nat.le_refl _
  all_goals
    have e := hw _ (h.1 (tabIdx (i 0).val (i 0).isLt))
    rw [← expertAt_eq (F := F) i (pf 0)] at e
    match k with
    | ⟨0, _⟩ => exact (by omega : ∀ n : ℕ, n < 32 → (n + 1) * 1 ≤ 32) _ e
    | ⟨1, _⟩ => exact Nat.le_refl _
    | ⟨2, _⟩ => exact Nat.le_refl _

variable (m : (ℓ : Loc nD τ sig) → Buf (Elt F) ℓ)

/-- The tables a memory holds. -/
def tables : pre0.Contents (Elt F) := fun k => m (((0 : Dev nD) : Thread nD τ).loc (pre0.ref k))

/-- The one device has them. -/
theorem tables_of (c : Dev nD) (k : Fin 2) : m ((c : Thread nD τ).loc (pre0.ref k)) = tables m k := by
  obtain rfl : c = 0 := Subsingleton.elim (α := Fin 1) _ _
  rfl

/-- The admissible tables of a memory in range. -/
def adm (h : Cert.ExpertTables.Ok (tables m 0) (tables m 1)) : (pcfg0 (F := F)).Adm := ⟨tables m, admissible _ h⟩

end Cert.ExpertsIdeal.Hand

end
-- ==== Proof.ExpertsMath.lean ====
/- One entry of one expert's result, and that the kernel's body computes it. -/
module

public import proofs.«01_k».proof.Proof.ExpertsIdealBody
public import Idealize.ShloMosaic.Lib.Pointwise
public import Idealize.ShloMosaic.Lib.Pipeline.Value
public import Idealize.ShloMosaic.Lib.Pipeline.ValueKit

@[expose] public section

set_option maxRecDepth 16384

noncomputable section

namespace Cert.ExpertLayer

open Cert.ExpertsIdeal Cert.ExpertsIdeal.Gen Cert.ExpertsIdeal.Hand Idealize.ShloMosaic

/-- The up projection of a row: its product with the matrix, plus the bias. -/
def hidden (x : Fin 1024 → EReal) (w : Fin 1024 → Fin 2048 → EReal) (b : Fin 2048 → EReal) (j : Fin 2048) : EReal :=
  (∑ k, x k * w k j) + b j

/-- The gate of a hidden row: its first half, at most seven. -/
def gate (h : Fin 2048 → EReal) (j : Fin 1024) : EReal := min (h ⟨j.val, by omega⟩) (Ideal.ofBits FTy.f32 0x40E00000#32)

/-- The linear part of a hidden row: its second half, between minus seven and seven. -/
def linear (h : Fin 2048 → EReal) (j : Fin 1024) : EReal :=
  min (Ideal.ofBits FTy.f32 0x40E00000#32) (max (Ideal.ofBits FTy.f32 0xC0E00000#32) (h ⟨1024 + j.val, by omega⟩))

/-- The activated row: the linear part plus one, times the gate times its logistic. -/
def activated (h : Fin 2048 → EReal) (j : Fin 1024) : EReal :=
  (linear h j + Ideal.ofBits FTy.f32 0x3F800000#32) * (gate h j * Ideal.logistic (Ideal.ofBits FTy.f32 0x3FD9DB23#32 * gate h j))

/-- One entry of an expert's result: the activated row times the down projection, plus the bias. -/
def entry (x : Fin 1024 → EReal) (w : Fin 1024 → Fin 2048 → EReal) (b : Fin 2048 → EReal) (v : Fin 1024 → EReal) (d : EReal) : EReal :=
  (∑ k, activated (hidden x w b) k * v k) + d

/-- An entry depends on the values of its row, matrix, column and biases only. -/
theorem entry_congr {x x' : Fin 1024 → EReal} {w w' : Fin 1024 → Fin 2048 → EReal} {b b' : Fin 2048 → EReal} {v v' : Fin 1024 → EReal} {d d' : EReal}
    (hx : ∀ k, x k = x' k) (hw : ∀ k j, w k j = w' k j) (hb : ∀ j, b j = b' j) (hv : ∀ k, v k = v' k) (hd : d = d') :
    entry x w b v d = entry x' w' b' v' d' := by
  rw [funext hx, funext fun k => funext (hw k), funext hb, funext hv, hd]

/-- The kernel's hidden rows. -/
theorem pay6_apply (x : Vec Ideal S256x1024 .f32) (w : Vec Ideal S1024x2048 .bf16) (b : Vec Ideal S1x1x2048 .f32) (p : Fin 256) (j : Fin 2048) :
    k0_pay6 x w b (ix2 p j) = hidden (fun k => x (ix2 p k)) (fun k j => w (ix2 k j)) (fun j => b (ix3 0 0 j)) j := by
  unfold k0_pay6 hidden
  pointwise [dot_S256x1024_S1024x2048_S256x2048_1_0_0_1_n_n]

/-- The kernel's results from its hidden rows. -/
theorem pay4_apply (h : FVec Ideal S256x2048 .f32) (v : Vec Ideal S1024x1024 .bf16) (d : Vec Ideal S1x1x1024 .f32) (p : Fin 256) (q : Fin 1024) :
    k0_pay4 h v d (ix2 p q) = (∑ k, activated (fun j => h (ix2 p j)) k * v (ix2 k q)) + d (ix3 0 0 q) := by
  unfold k0_pay4 activated gate linear
  pointwise [dot_S256x1024_S1024x1024_S256x1024_1_0_0_1_n_n]

/-- The kernel's product of its activated rows with the down projection, as it makes it for the upper rows. -/
theorem pay7_apply (x : Vec Ideal S256x1024 .f32) (w : Vec Ideal S1024x2048 .bf16) (b : Vec Ideal S1x1x2048 .f32) (v : Vec Ideal S1024x1024 .bf16)
    (d : Vec Ideal S1x1x1024 .f32) : k0_pay3 (k0_pay7 x w b v) d = k0_pay4 (k0_pay6 x w b) v d := rfl

/-- The kernel's results, from the rows, the matrices and the biases. -/
theorem half_apply (x : Vec Ideal S256x1024 .f32) (w : Vec Ideal S1024x2048 .bf16) (b : Vec Ideal S1x1x2048 .f32) (v : Vec Ideal S1024x1024 .bf16)
    (d : Vec Ideal S1x1x1024 .f32) (p : Fin 256) (q : Fin 1024) : k0_pay4 (k0_pay6 x w b) v d (ix2 p q)
      = entry (fun k => x (ix2 p k)) (fun k j => w (ix2 k j)) (fun j => b (ix3 0 0 j)) (fun k => v (ix2 k q)) (d (ix3 0 0 q)) := by
  rw [pay4_apply]
  unfold entry
  simp only [pay6_apply]

/-- The stored up projection is the expert's. -/
theorem pay1_apply (w : Vec Ideal S1x1024x2048 .f32) (k : Fin 1024) (j : Fin 2048) : k0_pay1 w (ix2 k j) = w (ix3 0 k j) := by
  unfold k0_pay1
  pointwise

/-- The stored down projection is the expert's. -/
theorem pay2_apply (w : Vec Ideal S1x1024x1024 .f32) (k : Fin 1024) (j : Fin 1024) : k0_pay2 w (ix2 k j) = w (ix3 0 k j) := by
  unfold k0_pay2
  pointwise

/-- An unused row is zero. -/
theorem pay5_apply (y : S512x1024.Idx) : k0_pay5 (F := Ideal) y = 0 := Ideal.ofBits_zero_f32

/-- Reading a buffer whole gives its contents: of the stored up projection, -/
theorem ld_up (su : Vec Ideal S1024x2048 .bf16) (k : Fin 1024) (j : Fin 2048) : View.ld su allUp (ix2 k j) = su (ix2 k j) := by
  rw [View.ld_apply]
  refine congrArg su (funext fun a => Fin.ext ?_)
  fin_cases a <;> simp [Rect.emb_apply]

/-- of the stored down projection, -/
theorem ld_down (sd : Vec Ideal S1024x1024 .bf16) (k : Fin 1024) (j : Fin 1024) : View.ld sd allDown (ix2 k j) = sd (ix2 k j) := by
  rw [View.ld_apply]
  refine congrArg sd (funext fun a => Fin.ext ?_)
  fin_cases a <;> simp [Rect.emb_apply]

/-- of an expert's up projection, -/
theorem ld_oneUp (wu : Vec Ideal S1x1024x2048 .f32) (k : Fin 1024) (j : Fin 2048) : View.ld wu oneUp (ix3 0 k j) = wu (ix3 0 k j) := by
  rw [View.ld_apply]
  refine congrArg wu (funext fun a => Fin.ext ?_)
  fin_cases a <;> simp [Rect.emb_apply]

/-- of an expert's down projection, -/
theorem ld_oneDown (wd : Vec Ideal S1x1024x1024 .f32) (k : Fin 1024) (j : Fin 1024) : View.ld wd oneDown (ix3 0 k j) = wd (ix3 0 k j) := by
  rw [View.ld_apply]
  refine congrArg wd (funext fun a => Fin.ext ?_)
  fin_cases a <;> simp [Rect.emb_apply]

/-- of an expert's first bias, -/
theorem ld_upBias (bu : Vec Ideal S1x1x2048 .f32) (j : Fin 2048) : View.ld bu upBias (ix3 0 0 j) = bu (ix3 0 0 j) := by
  rw [View.ld_apply]
  refine congrArg bu (funext fun a => Fin.ext ?_)
  fin_cases a <;> simp [Rect.emb_apply]

/-- and of its second. -/
theorem ld_downBias (bd : Vec Ideal S1x1x1024 .f32) (j : Fin 1024) : View.ld bd downBias (ix3 0 0 j) = bd (ix3 0 0 j) := by
  rw [View.ld_apply]
  refine congrArg bd (funext fun a => Fin.ext ?_)
  fin_cases a <;> simp [Rect.emb_apply]

/-- What the buffer of the up projection holds. -/
theorem storedUp_apply (wu : Vec Ideal S1x1024x2048 .f32) (k : Fin 1024) (j : Fin 2048) : storedUp wu (ix2 k j) = wu (ix3 0 k j) := by
  have e : storedUp wu = k0_pay1 (View.ld wu oneUp) := by
    funext y
    unfold storedUp
    refine View.canon_apply_of_pieces _ _ ?_ y (up_cover _ y)
    simp only [List.forall_mem_cons]
    refine ⟨fun x => congrArg _ (funext fun a => Fin.ext ?_), fun p hp => absurd hp List.not_mem_nil⟩
    fin_cases a <;> simp [Rect.emb_apply]
  rw [e, pay1_apply, ld_oneUp]

/-- What the buffer of the down projection holds. -/
theorem storedDown_apply (wd : Vec Ideal S1x1024x1024 .f32) (k : Fin 1024) (j : Fin 1024) : storedDown wd (ix2 k j) = wd (ix3 0 k j) := by
  have e : storedDown wd = k0_pay2 (View.ld wd oneDown) := by
    funext y
    unfold storedDown
    refine View.canon_apply_of_pieces _ _ ?_ y (down_cover _ y)
    simp only [List.forall_mem_cons]
    refine ⟨fun x => congrArg _ (funext fun a => Fin.ext ?_), fun p hp => absurd hp List.not_mem_nil⟩
    fin_cases a <;> simp [Rect.emb_apply]
  rw [e, pay2_apply, ld_oneDown]

/-- Zero rows are zero. -/
theorem zeroRows_apply (y : S512x1024.Idx) : zeroRows (F := Ideal) y = 0 := by
  unfold zeroRows
  refine View.canon_apply_of_pieces (Val := Elt Ideal) (fun _ => (0 : EReal)) _ ?_ y (rows_cover _ y)
  simp only [List.forall_mem_cons]
  exact ⟨fun x => pay5_apply x, fun p hp => absurd hp List.not_mem_nil⟩

/-- The block of results whose row `p` has the entries of row `p` of the block of rows. -/
def block (x : Vec Ideal S512x1024 .f32) (wu : Vec Ideal S1x1024x2048 .f32) (bu : Vec Ideal S1x1x2048 .f32)
    (wd : Vec Ideal S1x1024x1024 .f32) (bd : Vec Ideal S1x1x1024 .f32) : Vec Ideal S512x1024 .f32 := fun y =>
  entry (fun k => x (ix2 (y 0) k)) (fun k j => wu (ix3 0 k j)) (fun j => bu (ix3 0 0 j)) (fun k => wd (ix3 0 k (y 1))) (bd (ix3 0 0 (y 1)))

/-- One half of the block, read at the rows `R` of it. -/
theorem half_eq (x : Vec Ideal S512x1024 .f32) (wu : Vec Ideal S1x1024x2048 .f32) (bu : Vec Ideal S1x1x2048 .f32)
    (wd : Vec Ideal S1x1024x1024 .f32) (bd : Vec Ideal S1x1x1024 .f32) (z : Vec Ideal S256x1024 .f32) (o : Fin 256 → Fin 512)
    (hz : ∀ p k, z (ix2 p k) = x (ix2 (o p) k)) (p : Fin 256) (q : Fin 1024) :
    k0_pay4 (k0_pay6 z (View.ld (storedUp wu) allUp) (View.ld bu upBias)) (View.ld (storedDown wd) allDown) (View.ld bd downBias) (ix2 p q)
      = block x wu bu wd bd (ix2 (o p) q) := by
  rw [half_apply]
  exact entry_congr (fun k => hz p k) (fun k j => (ld_up _ k j).trans (storedUp_apply wu k j)) (fun j => ld_upBias bu j)
    (fun k => (ld_down _ k q).trans (storedDown_apply wd k q)) (ld_downBias bd q)

/-- What the body computes at a used point. -/
theorem computed_eq (x : Vec Ideal S512x1024 .f32) (wu : Vec Ideal S1x1024x2048 .f32) (bu : Vec Ideal S1x1x2048 .f32)
    (wd : Vec Ideal S1x1024x1024 .f32) (bd : Vec Ideal S1x1x1024 .f32) :
    computed x (storedUp wu) bu (storedDown wd) bd = block x wu bu wd bd := by
  funext y
  unfold computed
  refine View.canon_apply_of_pieces _ _ ?_ y (halves_cover _ _ y)
  simp only [List.forall_mem_cons]
  refine ⟨fun u => ?_, fun u => ?_, fun p hp => absurd hp List.not_mem_nil⟩
  · have eu : (u : S256x1024.Idx) = ix2 (u 0) (u 1) := by funext a; fin_cases a <;> rfl
    refine (congrArg _ eu).trans ((half_eq x wu bu wd bd _ (fun p => ⟨256 + p.val, by omega⟩) (fun p k => ?_) (u 0) (u 1)).trans
      (congrArg _ (funext fun a => Fin.ext ?_)))
    · rw [View.ld_apply]
      refine congrArg x (funext fun a => Fin.ext ?_)
      fin_cases a <;> simp [Rect.emb_apply]
    · fin_cases a <;> simp [Rect.emb_apply]
  · have eu : (u : S256x1024.Idx) = ix2 (u 0) (u 1) := by funext a; fin_cases a <;> rfl
    refine (congrArg _ eu).trans ((congrFun (pay7_apply _ _ _ _ _) _).trans ((half_eq x wu bu wd bd _ (fun p => ⟨p.val, by omega⟩) (fun p k => ?_) (u 0) (u 1)).trans
      (congrArg _ (funext fun a => Fin.ext ?_))))
    · rw [View.ld_apply]
      refine congrArg x (funext fun a => Fin.ext ?_)
      fin_cases a <;> simp [Rect.emb_apply]
    · fin_cases a <;> simp [Rect.emb_apply]

end Cert.ExpertLayer

end
-- ==== Proof.ExpertsIdealValue.lean ====
/- The array the experts kernel returns, entry by entry, from the arrays it is given. -/
module

public import proofs.«01_k».proof.Proof.ExpertsIdealFrame
public import proofs.«01_k».proof.Proof.ExpertTables
public import proofs.«01_k».proof.Proof.ExpertsMath

@[expose] public section

set_option maxRecDepth 16384

noncomputable section

namespace Cert.ExpertLayer

open Cert.ExpertsIdeal Cert.ExpertsIdeal.Gen Cert.ExpertsIdeal.Hand Idealize.ShloMosaic Idealize.ShloMosaic.TcCoe

variable (a : (pcfg0 (F := Ideal)).Adm) (m : (ℓ : Loc nD τ sig) → Buf (Elt Ideal) ℓ)

/-- The expert of a block. -/
def expertOf (T : S288.Idx → BitVec 32) (n : Fin 288) : Fin 32 := ⟨(T (ix1 n)).toNat % 32, Nat.mod_lt _ (by decide)⟩

/-- The word of the expert table at a point. -/
abbrev word (t : Fin (cfgA a).N) : BitVec 32 := a.1 0 (tabIdx t.val t.isLt)

/-- The word the windows read is the table's at the point. -/
theorem word_eq (t : Fin (cfgA a).N) : expertAt (F := Ideal) (crd a t) (a.1 0) = word a t :=
  (expertAt_eq (crd a t) (a.1 0)).trans (congrArg (a.1 0) (tabIdx_congr (coords_val t) _ _))

/-- The number of used blocks. -/
abbrev count : BitVec 32 := a.1 1 (ix1 (0 : Fin 1))

/-- The body reads the number of used blocks. -/
theorem count_eq : used (F := Ideal) (a.1 1) = count a := congrArg (a.1 1) (Subsingleton.elim (α := S1.Idx) _ _)

/-- The block of rows a point is given. -/
theorem index0 (t : Fin (cfgA a).N) :
    ((cfgA a).win (0 : Fin 6)).index t = ![(Scalar.minsi (BitVec.ofNat 32 t.val) (Scalar.subi (count a) 1#32)).toNat, 0] :=
  congrArg₂ (fun (n : ℕ) (v : BitVec 32) => ![(Scalar.minsi (BitVec.ofNat 32 n) (Scalar.subi v 1#32)).toNat, 0]) (coords_val t) (count_eq a)

/-- The block of up-projection weights a point is given. -/
theorem index1 (t : Fin (cfgA a).N) : ((cfgA a).win (1 : Fin 6)).index t = ![(word a t).toNat, 0, 0] :=
  congrArg (fun v : BitVec 32 => ![v.toNat, 0, 0]) (word_eq a t)

/-- The first bias a point is given. -/
theorem index2 (t : Fin (cfgA a).N) : ((cfgA a).win (2 : Fin 6)).index t = ![(word a t).toNat, 0, 0] :=
  congrArg (fun v : BitVec 32 => ![v.toNat, 0, 0]) (word_eq a t)

/-- The block of down-projection weights a point is given. -/
theorem index3 (t : Fin (cfgA a).N) : ((cfgA a).win (3 : Fin 6)).index t = ![(word a t).toNat, 0, 0] :=
  congrArg (fun v : BitVec 32 => ![v.toNat, 0, 0]) (word_eq a t)

/-- The second bias a point is given. -/
theorem index4 (t : Fin (cfgA a).N) : ((cfgA a).win (4 : Fin 6)).index t = ![(word a t).toNat, 0, 0] :=
  congrArg (fun v : BitVec 32 => ![v.toNat, 0, 0]) (word_eq a t)

/-- The block of results of a point. -/
theorem index5 (t : Fin (cfgA a).N) : ((cfgA a).win (5 : Fin 6)).index t = ![t.val, 0] := by
  refine (show ((cfgA a).win (5 : Fin 6)).index t = ![(BitVec.ofNat 32 ((crd a t) 0).val).toNat, 0] from rfl).trans ?_
  rw [show ((crd a t) 0).val = t.val from coords_val t, BitVec.toNat_ofNat, Nat.mod_eq_of_lt (lt_trans (show t.val < 288 from t.isLt) (by decide))]

/-- The rows of its number are what a used point is given. -/
theorem read_rows (c : Dev nD) (t : Fin (cfgA a).N) (hu : (BitVec.ofNat 32 t.val).slt (count a) = true) (p : Fin 512) (k : Fin 1024)
    (r : Fin 147456) (hr : r.val = t.val * 512 + p.val) :
    iblk a m c (0 : Fin 6) t (ix2 p k) = m ((c : Thread nD τ).loc main_arg0) (ix2 r k) := by
  have e := Cert.ExpertTables.min_eq t.val t.isLt (count a) hu
  blk_ext [iblk, index0 a t, e, hr]

/-- An expert's up-projection weights, as a point is given them. -/
theorem read_up (c : Dev nD) (t : Fin (cfgA a).N) (e : Fin 32) (he : (word a t).toNat = e.val) (k : Fin 1024) (j : Fin 2048) :
    iblk a m c (1 : Fin 6) t (ix3 (n0 := 1) 0 k j) = m ((c : Thread nD τ).loc main_arg3) (ix3 e k j) := by
  blk_ext [iblk, index1 a t, he]

/-- An expert's first bias, as a point is given it. -/
theorem read_upBias (c : Dev nD) (t : Fin (cfgA a).N) (e : Fin 32) (he : (word a t).toNat = e.val) (j : Fin 2048) :
    iblk a m c (2 : Fin 6) t (ix3 (n0 := 1) (n1 := 1) 0 0 j) = m ((c : Thread nD τ).loc main_arg4) (ix3 e (0 : Fin 1) j) := by
  blk_ext [iblk, index2 a t, he]

/-- An expert's down-projection weights, as a point is given them. -/
theorem read_down (c : Dev nD) (t : Fin (cfgA a).N) (e : Fin 32) (he : (word a t).toNat = e.val) (k : Fin 1024) (j : Fin 1024) :
    iblk a m c (3 : Fin 6) t (ix3 (n0 := 1) 0 k j) = m ((c : Thread nD τ).loc main_arg5) (ix3 e k j) := by
  blk_ext [iblk, index3 a t, he]

/-- An expert's second bias, as a point is given it. -/
theorem read_downBias (c : Dev nD) (t : Fin (cfgA a).N) (e : Fin 32) (he : (word a t).toNat = e.val) (j : Fin 1024) :
    iblk a m c (4 : Fin 6) t (ix3 (n0 := 1) (n1 := 1) 0 0 j) = m ((c : Thread nD τ).loc main_arg6) (ix3 e (0 : Fin 1) j) := by
  blk_ext [iblk, index4 a t, he]

/-- The window of results does not depend on the tables. -/
abbrev results : Pipeline.Window sig grid0 :=
  Pipeline.Window.ofSpec (Memref.whole main_v0) S512x1024.size cc0_transform_5 reads0_5 true false 2 stage0_5 sem0_5 hrank0 hreads0_5 hinb0_5 nbuf0_5
    (Memref.isWhole_whole _) hwx0_5 hstage0_5

/-- It is the one of the pipeline at any tables. -/
theorem results_eq : (cfgA a).win (5 : Fin 6) = results := rfl

/-- Its blocks cover the array. -/
theorem results_cover : results.Covers := by decide +kernel

/-- The layer's result: a row of a used block is its expert's result, a row of an unused one is zero. -/
def routed (x : FVec Ideal S147456x1024 .f32) (T : S288.Idx → BitVec 32) (N : S1.Idx → BitVec 32) (wu : FVec Ideal S32x1024x2048 .f32)
    (bu : FVec Ideal S32x1x2048 .f32) (wd : FVec Ideal S32x1024x1024 .f32) (bd : FVec Ideal S32x1x1024 .f32) (r : Fin 147456) (q : Fin 1024) : EReal :=
  if (BitVec.ofNat 32 (r.val / 512)).slt (N (ix1 (0 : Fin 1))) = true then
    entry (fun k => x (ix2 r k)) (fun k j => wu (ix3 (expertOf T ⟨r.val / 512, by omega⟩) k j)) (fun j => bu (ix3 (expertOf T ⟨r.val / 512, by omega⟩) 0 j))
      (fun k => wd (ix3 (expertOf T ⟨r.val / 512, by omega⟩) k q)) (bd (ix3 (expertOf T ⟨r.val / 512, by omega⟩) 0 q))
  else 0

/-- The index of a point in the table, by its number. -/
theorem tabIdx_eq {t : ℕ} (h : t < 288) (n : Fin 288) (e : n.val = t) : tabIdx t h = ix1 n := by
  subst e
  funext k
  match k with
  | ⟨0, _⟩ => rfl
  | ⟨_ + 1, h⟩ => exact absurd (show _ < 1 from h) (by omega)

/-- What a point leaves in its block of results. -/
theorem after_apply (c : Dev nD) (t : Fin (cfgA a).N) (y : S512x1024.Idx) : (dats a m 0 c).after (5 : Fin 6) t y
    = if (BitVec.ofNat 32 t.val).slt (count a) = true then
        block (iblk a m c (0 : Fin 6) t) (iblk a m c (1 : Fin 6) t) (iblk a m c (2 : Fin 6) t) (iblk a m c (3 : Fin 6) t) (iblk a m c (4 : Fin 6) t) y
      else 0 := by
  have hc : k0_cond2 (crd a t) (used (F := Ideal) (a.1 1)) = 1#1 ↔ (BitVec.ofNat 32 t.val).slt (count a) = true := by
    rw [cond2_iff, show ((crd a t) 0).val = t.val from coords_val t, count_eq a]
  refine (show (dats a m 0 c).after (5 : Fin 6) t y = result a m c t y from rfl).trans ?_
  unfold result
  by_cases hu : k0_cond2 (crd a t) (used (F := Ideal) (a.1 1)) = 1#1
  · rw [if_pos hu, if_pos (hc.mp hu), computed_eq]
  · rw [if_neg hu, if_neg (fun h => hu (hc.mpr h)), zeroRows_apply]

/-- The array the kernel returns, from the arrays it is given. -/
theorem array_eq (c : Dev nD) (ha : Cert.ExpertTables.Ok (a.1 0) (a.1 1)) : (dats a m 0 c).arrAt (5 : Fin 6) (cfgA a).N = fun y : S147456x1024.Idx =>
    routed (m ((c : Thread nD τ).loc main_arg0)) (a.1 0) (a.1 1) (m ((c : Thread nD τ).loc main_arg3)) (m ((c : Thread nD τ).loc main_arg4))
      (m ((c : Thread nD τ).loc main_arg5)) (m ((c : Thread nD τ).loc main_arg6)) (y 0) (y 1) := by
  refine (dats a m 0 c).arrAt_eq_of_covers (5 : Fin 6) _ (show ((cfgA a).win (5 : Fin 6)).Covers from results_cover) fun t hf y => ?_
  have e0 : ((((cfgA a).win (5 : Fin 6)).blk t).view.emb y 0).val = t.val * 512 + (y 0).val := by blk_simp [index5 a t]
  have e1 : ((((cfgA a).win (5 : Fin 6)).blk t).view.emb y 1).val = (y 1).val := by blk_simp [index5 a t]
  blk_simp
  have ht : t.val < 288 := t.isLt
  have hy0 : (y 0).val < 512 := (y 0).isLt
  have er : ((((cfgA a).win (5 : Fin 6)).blk t).view.emb y 0).val / 512 = t.val := by rw [e0]; omega
  have hw : word a t = a.1 0 (ix1 (⟨((((cfgA a).win (5 : Fin 6)).blk t).view.emb y 0).val / 512, by rw [er]; exact ht⟩ : Fin 288)) :=
    congrArg (a.1 0) (tabIdx_eq _ _ er)
  have he : (word a t).toNat = (expertOf (a.1 0) ⟨((((cfgA a).win (5 : Fin 6)).blk t).view.emb y 0).val / 512, by rw [er]; exact ht⟩).val := by
    have h32 := Cert.ExpertTables.toNat_of_range (word a t) (ha.1 _).1 (ha.1 _).2
    rw [hw] at h32 ⊢
    exact (Nat.mod_eq_of_lt h32).symm
  refine (after_apply a m c t y).trans ?_
  unfold routed
  by_cases hu : (BitVec.ofNat 32 t.val).slt (count a) = true
  · rw [if_pos hu, if_pos ((congrArg (fun n => (BitVec.ofNat 32 n).slt (count a)) er).trans hu)]
    exact entry_congr (fun k => read_rows a m c t hu (y 0) k _ e0) (fun k j => read_up a m c t _ he k j) (fun j => read_upBias a m c t _ he j)
      (fun k => (read_down a m c t _ he k (y 1)).trans (congrArg (fun r => m ((c : Thread nD τ).loc main_arg5) (ix3 _ k r)) (Fin.ext e1.symm)))
      ((read_downBias a m c t _ he (y 1)).trans (congrArg (fun r => m ((c : Thread nD τ).loc main_arg6) (ix3 _ (0 : Fin 1) r)) (Fin.ext e1.symm)))
  · rw [if_neg hu, if_neg (fun h => hu ((congrArg (fun n => (BitVec.ofNat 32 n).slt (count a)) er).symm.trans h))]

end Cert.ExpertLayer

end
-- ==== Proof.ExpertsRef.lean ====
/- The reference of the experts layer, entry by entry, and that the kernel's array is its result. -/
module

public import proofs.«01_k».proof.Proof.ExpertsIdealTables
public import proofs.«01_k».proof.Proof.ExpertsIdealValue
public import proofs.«01_k».proof.Proof.Gen.ExpertsRefIdeal.Read
public import Idealize.ShloMosaic.Lib.Routing.Ops

@[expose] public section

set_option maxRecDepth 16384

noncomputable section

namespace Cert.ExpertLayer

open Idealize.ShloMosaic

/-- Taking whole matrices of a stack by number: the entry of the one taken is the entry of the matrix of that number. -/
theorem take_matrix {α : Type} {n B C c : ℕ} (d : GatherDims ⟨3, ![n, B, C]⟩ ⟨2, ![c, 1]⟩ ⟨3, ![c, B, C]⟩) (ho : d.offsetDims = [1, 2])
    (hc : d.collapsedSliceDims = [0]) (hb : d.operandBatchingDims = []) (hs : d.startIndexMap = [0]) (hv : d.indexVectorDim = 1)
    (x : (⟨3, ![n, B, C]⟩ : Shape).Idx → α) (idx : IVec ⟨2, ![c, 1]⟩ 32) (i : Fin c) (y : Fin B) (z : Fin C) (e : Fin n)
    (he : (idx (ix2 i (0 : Fin 1))).toInt = (e.val : ℤ)) : Host.gather d x idx (ix3 i y z) = x (ix3 e y z) := by
  have h1 : d.sliceSizes 0 = 1 := d.slice_collapsed 0 (by rw [hc]; exact List.mem_singleton.2 rfl)
  obtain ⟨od, cd, bd, sd, sm, iv, sl, wf⟩ := d
  dsimp only at ho hc hb hs hv h1
  subst ho hc hb hs hv
  unfold Host.gather
  refine congrArg x (funext fun a => Fin.ext ?_)
  match a with
  | ⟨0, _⟩ =>
    refine (show _ = min (idx (ix2 i (0 : Fin 1))).toInt.toNat (n - sl 0) + 0 + 0 from ?_).trans ?_
    · refine congrArg (fun j => min (idx j).toInt.toNat (n - sl 0) + 0 + 0) (funext fun k => Fin.ext ?_)
      match k with
      | ⟨0, _⟩ => rfl
      | ⟨1, _⟩ => rfl
    · have := e.isLt
      rw [he, h1]
      show min ((e.val : ℤ)).toNat (n - 1) + 0 + 0 = e.val
      omega
  | ⟨1, _⟩ => exact (show _ = 0 + 0 + y.val from rfl).trans (by show 0 + 0 + y.val = y.val; omega)
  | ⟨2, _⟩ => exact (show _ = 0 + 0 + z.val from rfl).trans (by show 0 + 0 + z.val = z.val; omega)

/-- Taking whole rows of a matrix by number: the entry of the one taken is the entry of the row of that number. -/
theorem take_row {α : Type} {n B c : ℕ} (d : GatherDims ⟨2, ![n, B]⟩ ⟨2, ![c, 1]⟩ ⟨2, ![c, B]⟩) (ho : d.offsetDims = [1])
    (hc : d.collapsedSliceDims = [0]) (hb : d.operandBatchingDims = []) (hs : d.startIndexMap = [0]) (hv : d.indexVectorDim = 1)
    (x : (⟨2, ![n, B]⟩ : Shape).Idx → α) (idx : IVec ⟨2, ![c, 1]⟩ 32) (i : Fin c) (y : Fin B) (e : Fin n)
    (he : (idx (ix2 i (0 : Fin 1))).toInt = (e.val : ℤ)) : Host.gather d x idx (ix2 i y) = x (ix2 e y) := by
  have h1 : d.sliceSizes 0 = 1 := d.slice_collapsed 0 (by rw [hc]; exact List.mem_singleton.2 rfl)
  obtain ⟨od, cd, bd, sd, sm, iv, sl, wf⟩ := d
  dsimp only at ho hc hb hs hv h1
  subst ho hc hb hs hv
  unfold Host.gather
  refine congrArg x (funext fun a => Fin.ext ?_)
  match a with
  | ⟨0, _⟩ =>
    refine (show _ = min (idx (ix2 i (0 : Fin 1))).toInt.toNat (n - sl 0) + 0 + 0 from ?_).trans ?_
    · refine congrArg (fun j => min (idx j).toInt.toNat (n - sl 0) + 0 + 0) (funext fun k => Fin.ext ?_)
      match k with
      | ⟨0, _⟩ => rfl
      | ⟨1, _⟩ => rfl
    · have := e.isLt
      rw [he, h1]
      show min ((e.val : ℤ)).toNat (n - 1) + 0 + 0 = e.val
      omega
  | ⟨1, _⟩ => exact (show _ = 0 + 0 + y.val from rfl).trans (by show 0 + 0 + y.val = y.val; omega)

open Cert.ExpertsRefIdeal Cert.ExpertsRefIdeal.Gen Cert.ExpertsRefIdeal.Read

/-- A number of the table in range is not wrapped. -/
theorem wrap_eq (v w : BitVec 32) (h : 0 ≤ v.toInt) : Scalar.select (IntOp.cmpi .slt v 0#32) w v = v := by
  have : IntOp.cmpi .slt v 0#32 = 0#1 := by
    show BitVec.ofBool (v.slt 0#32) = 0#1
    rw [BitVec.slt_eq_decide, decide_eq_false (by simpa using h)]; rfl
  rw [this]; rfl

/-- A choice by a bit that is set. -/
theorem select_true {α : Type} (v w : α) : Scalar.select (BitVec.ofBool true) v w = v := rfl

variable (x0 : FVec Ideal S147456x1024 .f32) (x1 : S288.Idx → BitVec 32) (x2 : S1.Idx → BitVec 32) (x3 : FVec Ideal S32x1024x2048 .f32)
  (x4 : FVec Ideal S32x1x2048 .f32) (x5 : FVec Ideal S32x1024x1024 .f32) (x6 : FVec Ideal S32x1x1024 .f32)

section

variable (h : ∀ i, 0 ≤ (x1 i).toInt ∧ (x1 i).toInt < 32)

include h in
/-- A number of the table in range is its expert. -/
theorem expertOf_toInt (n : Fin 288) : (x1 (ix1 n)).toInt = ((expertOf x1 n).val : ℤ) := by
  have e := Cert.ExpertTables.toNat_of_range _ (h (ix1 n)).1 (h (ix1 n)).2
  have e' : (expertOf x1 n).val = (x1 (ix1 n)).toNat := Nat.mod_eq_of_lt e
  rw [e', BitVec.toInt_eq_toNat_cond, if_pos (by omega)]

include h

/-- The numbers the reference takes the up projections by are those of the table, -/
theorem number8 (n : Fin 288) : (val_main_v8 (F := Ideal) x1 (ix2 n (0 : Fin 1))).toInt = ((expertOf x1 n).val : ℤ) := by
  have e : idx_main_v8 (ix2 n (0 : Fin 1)) = ix1 n := by funext a; fin_cases a; rfl
  rw [← expertOf_toInt x1 h, val_main_v8_apply, e, val_main_v7_apply, val_main_v4_apply, val_main_v3_apply]
  exact congrArg BitVec.toInt (wrap_eq _ _ (h _).1)

/-- so are those it takes the first biases by, -/
theorem number16 (n : Fin 288) : (val_main_v16 (F := Ideal) x1 (ix2 n (0 : Fin 1))).toInt = ((expertOf x1 n).val : ℤ) := by
  have e : idx_main_v16 (ix2 n (0 : Fin 1)) = ix1 n := by funext a; fin_cases a; rfl
  rw [← expertOf_toInt x1 h, val_main_v16_apply, e, val_main_v15_apply, val_main_v12_apply, val_main_v11_apply]
  exact congrArg BitVec.toInt (wrap_eq _ _ (h _).1)

/-- those it takes the down projections by, -/
theorem number43 (n : Fin 288) : (val_main_v43 (F := Ideal) x1 (ix2 n (0 : Fin 1))).toInt = ((expertOf x1 n).val : ℤ) := by
  have e : idx_main_v43 (ix2 n (0 : Fin 1)) = ix1 n := by funext a; fin_cases a; rfl
  rw [← expertOf_toInt x1 h, val_main_v43_apply, e, val_main_v42_apply, val_main_v39_apply, val_main_v38_apply]
  exact congrArg BitVec.toInt (wrap_eq _ _ (h _).1)

/-- and those it takes the second biases by. -/
theorem number51 (n : Fin 288) : (val_main_v51 (F := Ideal) x1 (ix2 n (0 : Fin 1))).toInt = ((expertOf x1 n).val : ℤ) := by
  have e : idx_main_v51 (ix2 n (0 : Fin 1)) = ix1 n := by funext a; fin_cases a; rfl
  rw [← expertOf_toInt x1 h, val_main_v51_apply, e, val_main_v50_apply, val_main_v47_apply, val_main_v46_apply]
  exact congrArg BitVec.toInt (wrap_eq _ _ (h _).1)

/-- The up projection of a block. -/
theorem taken_up (n : Fin 288) (k : Fin 1024) (j : Fin 2048) : val_main_v9 (F := Ideal) x1 x3 (ix3 n k j) = x3 (ix3 (expertOf x1 n) k j) := by
  unfold val_main_v9
  exact take_matrix _ rfl rfl rfl rfl rfl _ _ n k j _ (number8 x1 h n)

/-- The first bias of a block. -/
theorem taken_upBias (n : Fin 288) (j : Fin 2048) : val_main_v17 (F := Ideal) x1 x4 (ix2 n j) = x4 (ix3 (expertOf x1 n) (0 : Fin 1) j) := by
  unfold val_main_v17
  refine (take_row _ rfl rfl rfl rfl rfl _ _ n j _ (number16 x1 h n)).trans ((val_main_v0_apply _ _).trans (congrArg x4 (funext fun a => Fin.ext ?_)))
  match a with
  | ⟨0, _⟩ => show ((expertOf x1 n).val * 2048 + j.val) / 2048 = (expertOf x1 n).val; omega
  | ⟨1, _⟩ => rfl
  | ⟨2, _⟩ => show ((expertOf x1 n).val * 2048 + j.val) % 2048 = j.val; omega

/-- The down projection of a block. -/
theorem taken_down (n : Fin 288) (k : Fin 1024) (j : Fin 1024) : val_main_v44 (F := Ideal) x1 x5 (ix3 n k j) = x5 (ix3 (expertOf x1 n) k j) := by
  unfold val_main_v44
  exact take_matrix _ rfl rfl rfl rfl rfl _ _ n k j _ (number43 x1 h n)

/-- The second bias of a block. -/
theorem taken_downBias (n : Fin 288) (j : Fin 1024) : val_main_v52 (F := Ideal) x1 x6 (ix2 n j) = x6 (ix3 (expertOf x1 n) (0 : Fin 1) j) := by
  unfold val_main_v52
  refine (take_row _ rfl rfl rfl rfl rfl _ _ n j _ (number51 x1 h n)).trans ((val_main_v1_apply _ _).trans (congrArg x6 (funext fun a => Fin.ext ?_)))
  match a with
  | ⟨0, _⟩ => show ((expertOf x1 n).val * 1024 + j.val) / 1024 = (expertOf x1 n).val; omega
  | ⟨1, _⟩ => rfl
  | ⟨2, _⟩ => show ((expertOf x1 n).val * 1024 + j.val) % 1024 = j.val; omega

omit h in
/-- The rows of a block. -/
theorem rows_of_block (n : Fin 288) (p : Fin 512) (k : Fin 1024) :
    val_main_v2 (F := Ideal) x0 (ix3 n p k) = x0 (ix2 ⟨n.val * 512 + p.val, by omega⟩ k) := by
  refine (val_main_v2_apply _ _).trans (congrArg x0 (funext fun a => Fin.ext ?_))
  match a with
  | ⟨0, _⟩ => show ((n.val * 512 + p.val) * 1024 + k.val) / 1024 = n.val * 512 + p.val; omega
  | ⟨1, _⟩ => show ((n.val * 512 + p.val) * 1024 + k.val) % 1024 = k.val; omega

/-- The reference's hidden rows. -/
theorem hidden_apply (n : Fin 288) (p : Fin 512) (j : Fin 2048) : val_main_v20 (F := Ideal) x0 x1 x3 x4 (ix3 n p j)
    = hidden (fun k => x0 (ix2 ⟨n.val * 512 + p.val, by omega⟩ k)) (fun k j => x3 (ix3 (expertOf x1 n) k j)) (fun j => x4 (ix3 (expertOf x1 n) 0 j)) j := by
  unfold val_main_v20 val_main_v19 val_main_v18 val_main_v10 hidden
  generalize hx : val_main_v2 (F := Ideal) x0 = x
  generalize hw : val_main_v9 (F := Ideal) x1 x3 = w
  generalize hb : val_main_v17 (F := Ideal) x1 x4 = b
  pointwise [dot_S288x512x1024_S288x1024x2048_S288x512x2048_2_1_1_2_0_0]
  subst hx hw hb
  simp only [rows_of_block, taken_up x1 x3 h, taken_upBias x1 x4 h]

omit h in
/-- The reference's activated rows. -/
theorem activated_apply (n : Fin 288) (p : Fin 512) (j : Fin 1024) : val_main_v37 (F := Ideal) x0 x1 x3 x4 (ix3 n p j)
    = activated (fun j => val_main_v20 (F := Ideal) x0 x1 x3 x4 (ix3 n p j)) j := by
  unfold val_main_v37 val_main_v36 val_main_v35 val_main_v34 val_main_cst_8 val_main_v33 val_main_v32 val_main_cst_7 val_main_v31 val_main_v30 val_main_v29
    val_main_v28 val_main_cst_6 val_main_v27 val_main_v26 val_main_cst_5 val_main_v25 val_main_call0_v4 val_main_call0_v3 val_main_call0_v2 val_main_call0_v1
    val_main_call0_v0 val_main_cst_4 val_main_cst_3 val_main_v24 val_main_v23 val_main_cst val_main_v22 val_main_v21 activated gate linear Ideal.logistic
  generalize val_main_v20 (F := Ideal) x0 x1 x3 x4 = y
  pointwise
  rfl

/-- The reference's results of a block, were it used. -/
theorem entry_apply (n : Fin 288) (p : Fin 512) (q : Fin 1024) : val_main_v55 (F := Ideal) x0 x1 x3 x4 x5 x6 (ix3 n p q)
    = entry (fun k => x0 (ix2 ⟨n.val * 512 + p.val, by omega⟩ k)) (fun k j => x3 (ix3 (expertOf x1 n) k j)) (fun j => x4 (ix3 (expertOf x1 n) 0 j))
        (fun k => x5 (ix3 (expertOf x1 n) k q)) (x6 (ix3 (expertOf x1 n) 0 q)) := by
  unfold val_main_v55 val_main_v54 val_main_v53 val_main_v45 entry
  generalize hx : val_main_v37 (F := Ideal) x0 x1 x3 x4 = x
  generalize hw : val_main_v44 (F := Ideal) x1 x5 = w
  generalize hb : val_main_v52 (F := Ideal) x1 x6 = b
  pointwise [dot_S288x512x1024_S288x1024x1024_S288x512x1024_2_1_1_2_0_0]
  subst hx hw hb
  simp only [activated_apply, taken_down x1 x5 h, taken_downBias x1 x6 h, hidden_apply x0 x1 x3 x4 h]

omit h in
/-- The bit saying that a block is used. -/
theorem used_apply (n : Fin 288) (p : Fin 512) (q : Fin 1024) : val_main_call1_v1 (F := Ideal) x2 (ix3 n p q)
    = BitVec.ofBool ((BitVec.ofNat 32 n.val).slt (x2 (ix1 (0 : Fin 1)))) := by
  rw [val_main_call1_v1_apply, val_main_v60_apply, val_main_v57_apply, val_main_v56_apply, val_main_v59_apply]
  have e : val_main_v58 (F := Ideal) x2 (idx_main_v59 (idx_main_call1_v1 (ix3 n p q))) = x2 (ix1 (0 : Fin 1)) :=
    congrArg x2 (Subsingleton.elim (α := S1.Idx) _ _)
  rw [e]
  rfl

/-- The reference's result: a row of a used block is its expert's result, a row of an unused one is zero. -/
theorem routed_apply (r : Fin 147456) (q : Fin 1024) :
    val_main_v62 (F := Ideal) x0 x1 x2 x3 x4 x5 x6 (ix2 r q) = routed x0 x1 x2 x3 x4 x5 x6 r q := by
  have e : idx_main_v62 (ix2 r q) = ix3 (⟨r.val / 512, by omega⟩ : Fin 288) (⟨r.val % 512, by omega⟩ : Fin 512) q := by
    funext a
    apply Fin.ext
    match a with
    | ⟨0, _⟩ => show (r.val * 1024 + q.val) / 524288 = r.val / 512; omega
    | ⟨1, _⟩ => show (r.val * 1024 + q.val) / 1024 % 512 = r.val % 512; omega
    | ⟨2, _⟩ => show (r.val * 1024 + q.val) % 1024 = q.val; omega
  have er : (⟨r.val / 512 * 512 + r.val % 512, by omega⟩ : Fin 147456) = r := Fin.ext (by show r.val / 512 * 512 + r.val % 512 = r.val; omega)
  rw [val_main_v62_apply, e, val_main_v61_apply, used_apply, entry_apply x0 x1 x3 x4 x5 x6 h]
  unfold routed
  by_cases hu : (BitVec.ofNat 32 (r.val / 512)).slt (x2 (ix1 (0 : Fin 1))) = true
  · rw [if_pos hu, hu]
    exact (select_true _ _).trans (entry_congr (fun k => congrArg (fun r' => x0 (ix2 r' k)) er) (fun _ _ => rfl) (fun _ => rfl) (fun _ => rfl) rfl)
  · rw [if_neg hu, Bool.eq_false_iff.mpr hu]
    exact Ideal.ofBits_zero_f32

end

variable (m : (ℓ : Loc Cert.ExpertsIdeal.nD Cert.ExpertsIdeal.τ Cert.ExpertsIdeal.sig) → Buf (Elt Ideal) ℓ)

open Cert.ExpertsIdeal (main_arg0 main_arg1 main_arg2 main_arg3 main_arg4 main_arg5 main_arg6) in
open Cert.ExpertsIdeal.Hand in
/-- The kernel's array is the reference's result. -/
theorem array_is_result (h : Cert.ExpertTables.Ok (tables m 0) (tables m 1)) (c : Dev Cert.ExpertsIdeal.nD) :
    (dats (adm m h) m 0 c).arrAt (5 : Fin 6) (cfgA (adm m h)).N
      = val_main_v62 (F := Ideal) (m ((c.tc : Thread Cert.ExpertsIdeal.nD Cert.ExpertsIdeal.τ).loc main_arg0))
          (m ((c.tc : Thread Cert.ExpertsIdeal.nD Cert.ExpertsIdeal.τ).loc main_arg1)) (m ((c.tc : Thread Cert.ExpertsIdeal.nD Cert.ExpertsIdeal.τ).loc main_arg2))
          (m ((c.tc : Thread Cert.ExpertsIdeal.nD Cert.ExpertsIdeal.τ).loc main_arg3)) (m ((c.tc : Thread Cert.ExpertsIdeal.nD Cert.ExpertsIdeal.τ).loc main_arg4))
          (m ((c.tc : Thread Cert.ExpertsIdeal.nD Cert.ExpertsIdeal.τ).loc main_arg5)) (m ((c.tc : Thread Cert.ExpertsIdeal.nD Cert.ExpertsIdeal.τ).loc main_arg6)) := by
  obtain rfl : c = 0 := Subsingleton.elim (α := Fin 1) _ _
  refine (array_eq (adm m h) m 0 h).trans (funext fun y => ?_)
  have ey : (y : S147456x1024.Idx) = ix2 (y 0) (y 1) := by funext a; fin_cases a <;> rfl
  exact ((congrArg _ ey).trans (routed_apply _ _ _ _ _ _ _ h.1 (y 0) (y 1))).symm

end Cert.ExpertLayer

end
-- ==== Proof.MixingRows.lean ====
/- One row of the mixing layer as the kernel computes it, in plain formulas, and the kernel's block computations read entry by entry. -/
module

public import proofs.«01_k».proof.Proof.Gen.MixingIdeal.Skeleton
public import Idealize.ShloMosaic.Lib.Pointwise

@[expose] public section

set_option maxRecDepth 16384

noncomputable section

namespace Cert.MixingLayer

open Cert.MixingIdeal Cert.MixingIdeal.Gen Idealize.ShloMosaic

/-- A row times a matrix as the kernel takes it: the product of the row, and the product of what the cast left of it. -/
def dotted (y : Fin 512 → EReal) (bd : Fin 512 → Fin 512 → EReal) (j : Fin 512) : EReal :=
  (∑ k, y k * bd k j) + ∑ k, (y k - y k) * bd k j

/-- An entry of a row less a sixty-fourth of its product with a column of the matrix. -/
def centered (y : Fin 512 → EReal) (bd : Fin 512 → Fin 512 → EReal) (j : Fin 512) : EReal :=
  y j - dotted y bd j * Ideal.ofBits FTy.f32 0x3C800000#32

/-- A sixty-fourth of the squares' product with a column of the matrix. -/
def spread (z : Fin 512 → EReal) (bd : Fin 512 → Fin 512 → EReal) (j : Fin 512) : EReal :=
  dotted (fun k => z k * z k) bd j * Ideal.ofBits FTy.f32 0x3C800000#32

/-- A row of attention outputs divided by the root of its mean square, times the weights. -/
def normedAtt (a w : Fin 512 → EReal) (k : Fin 512) : EReal :=
  a k * Ideal.rsqrt (Ideal.div (∑ j, a j * a j) (Ideal.ofBits FTy.f32 0x44000000#32) + Ideal.ofBits FTy.f32 0x3727C5AC#32) * w k

/-- A row of recurrence outputs `z` divided by the root of `v`, scaled, shifted, with the bonus added, and gated. -/
def gated (z v lw lb b g : Fin 512 → EReal) (k : Fin 512) : EReal :=
  (z k * Ideal.rsqrt (v k + Ideal.ofBits FTy.f32 0x3A27C5AC#32) * lw k + lb k + b k) * g k

/-- One entry of the output projection of the two rows side by side. -/
def mixed (a r wa wr : Fin 512 → EReal) : EReal := (∑ k, a k * wa k) + ∑ k, r k * wr k

/-- A row divided by the root of its mean square, times the weights. -/
def normedRow (h w : Fin 1024 → EReal) (q : Fin 1024) : EReal :=
  h q * Ideal.rsqrt (Ideal.div (∑ j, h j * h j) (Ideal.ofBits FTy.f32 0x44800000#32) + Ideal.ofBits FTy.f32 0x3727C5AC#32) * w q

/-- The kernel's sum of the two directions. -/
theorem sum_apply (a b : Vec Ideal S256x512 .bf16) (p : Fin 256) (k : Fin 512) :
    k0_pay6 a b (ix2 p k) = a (ix2 p k) + b (ix2 p k) := by
  unfold k0_pay6
  pointwise

/-- The matrix as the kernel takes it is the one it is given. -/
theorem taken_apply (bd : Vec Ideal S512x512 .bf16) (k j : Fin 512) : k0_pay3 bd (ix2 k j) = bd (ix2 k j) := by
  unfold k0_pay3
  exact congrFun (shapeCast_self bd _) (ix2 k j)

/-- The kernel's centered rows. -/
theorem centered_apply (bd : Vec Ideal S512x512 .bf16) (y : FVec Ideal S256x512 .f32) (p : Fin 256) (j : Fin 512) :
    k0_pay11 bd y (ix2 p j) = centered (fun k => y (ix2 p k)) (fun k j => bd (ix2 k j)) j := by
  unfold k0_pay11 centered dotted
  pointwise [dot_S256x512_S512x512_S256x512_1_0_0_1_n_n]

/-- The kernel's variances. -/
theorem spread_apply (bd : Vec Ideal S512x512 .bf16) (z : FVec Ideal S256x512 .f32) (p : Fin 256) (j : Fin 512) :
    k0_pay18 bd z (ix2 p j) = spread (fun k => z (ix2 p k)) (fun k j => bd (ix2 k j)) j := by
  unfold k0_pay18 spread dotted
  pointwise [dot_S256x512_S512x512_S256x512_1_0_0_1_n_n]

/-- The kernel's attention rows, -/
theorem att_apply (a : Vec Ideal S256x512 .bf16) (p : Fin 256) (k : Fin 512) : k0_pay25 a (ix2 p k) = a (ix2 p k) := by
  unfold k0_pay25
  pointwise

/-- and what it divides them by. -/
theorem scale_apply (a : Vec Ideal S256x512 .bf16) (p : Fin 256) : k0_pay26 a (ix2 p 0)
    = Ideal.rsqrt (Ideal.div (∑ j, a (ix2 p j) * a (ix2 p j)) (Ideal.ofBits FTy.f32 0x44000000#32) + Ideal.ofBits FTy.f32 0x3727C5AC#32) := by
  unfold k0_pay26
  generalize hy : k0_pay25 a = y
  pointwise
  subst hy
  simp only [att_apply]

/-- The kernel's output projection. -/
theorem mixed_apply (z v a : FVec Ideal S256x512 .f32) (s : FVec Ideal S256x1 .f32) (aw lw lb : Vec Ideal S1x512 .f32) (b g : Vec Ideal S256x512 .bf16)
    (wa wr : Vec Ideal S512x1024 .bf16) (p : Fin 256) (q : Fin 1024) : k0_pay27 z v a s aw lw lb b g wa wr (ix2 p q)
      = mixed (fun k => a (ix2 p k) * s (ix2 p 0) * aw (ix2 0 k))
          (gated (fun k => z (ix2 p k)) (fun k => v (ix2 p k)) (fun k => lw (ix2 0 k)) (fun k => lb (ix2 0 k)) (fun k => b (ix2 p k)) (fun k => g (ix2 p k)))
          (fun k => wa (ix2 k q)) (fun k => wr (ix2 k q)) := by
  unfold k0_pay27 mixed gated
  pointwise [dot_S256x512_S512x1024_S256x1024_1_0_0_1_n_n]

/-- The kernel's residual sum. -/
theorem residual_apply (z : FVec Ideal S256x1024 .f32) (x : Vec Ideal S256x1024 .f32) (p : Fin 256) (q : Fin 1024) :
    k0_pay39 z x (ix2 p q) = x (ix2 p q) + z (ix2 p q) := by
  unfold k0_pay39
  pointwise

/-- The kernel's normed residual sum. -/
theorem normed_apply (z : FVec Ideal S256x1024 .f32) (x : Vec Ideal S256x1024 .f32) (w : Vec Ideal S1x1024 .f32) (p : Fin 256) (q : Fin 1024) :
    k0_pay40 z x w (ix2 p q) = normedRow (fun j => x (ix2 p j) + z (ix2 p j)) (fun j => w (ix2 0 j)) q := by
  unfold k0_pay40 normedRow
  generalize hy : k0_pay39 z x = y
  pointwise
  subst hy
  simp only [residual_apply]

/-- The block of 256 rows of the output projection, as the kernel computes it. -/
def mixBlock (bd : Vec Ideal S512x512 .bf16) (yf yb att : Vec Ideal S256x512 .bf16) (aw lw lb : Vec Ideal S1x512 .f32) (b g : Vec Ideal S256x512 .bf16)
    (wa wr : Vec Ideal S512x1024 .bf16) : FVec Ideal S256x1024 .f32 :=
  k0_pay27 (k0_pay11 (k0_pay3 bd) (k0_pay6 yf yb)) (k0_pay18 (k0_pay3 bd) (k0_pay11 (k0_pay3 bd) (k0_pay6 yf yb))) (k0_pay25 att) (k0_pay26 att) aw lw lb b g wa wr

/-- One row of the output projection, from one row of each array the kernel is given. -/
def mixRow (bd : Fin 512 → Fin 512 → EReal) (yf yb att aw lw lb b g : Fin 512 → EReal) (wa wr : Fin 512 → Fin 1024 → EReal) (q : Fin 1024) : EReal :=
  mixed (normedAtt att aw)
    (gated (centered (fun k => yf k + yb k) bd) (spread (centered (fun k => yf k + yb k) bd) bd) lw lb b g)
    (fun k => wa k q) (fun k => wr k q)

/-- The block, entry by entry. -/
theorem mixBlock_apply (bd : Vec Ideal S512x512 .bf16) (yf yb att : Vec Ideal S256x512 .bf16) (aw lw lb : Vec Ideal S1x512 .f32) (b g : Vec Ideal S256x512 .bf16)
    (wa wr : Vec Ideal S512x1024 .bf16) (p : Fin 256) (q : Fin 1024) : mixBlock bd yf yb att aw lw lb b g wa wr (ix2 p q)
      = mixRow (fun k j => bd (ix2 k j)) (fun k => yf (ix2 p k)) (fun k => yb (ix2 p k)) (fun k => att (ix2 p k)) (fun k => aw (ix2 0 k))
          (fun k => lw (ix2 0 k)) (fun k => lb (ix2 0 k)) (fun k => b (ix2 p k)) (fun k => g (ix2 p k)) (fun k q => wa (ix2 k q)) (fun k q => wr (ix2 k q)) q := by
  unfold mixBlock mixRow normedAtt
  rw [mixed_apply]
  simp only [centered_apply, spread_apply, att_apply, scale_apply, sum_apply, taken_apply]

end Cert.MixingLayer

end
-- ==== Proof.MixingBlock.lean ====
/- What the mixing kernel leaves in its two blocks of results at a grid point: the residual sum and its normed rows, row by row. -/
module

public import proofs.«01_k».proof.Proof.Gen.MixingIdeal.Frame
public import proofs.«01_k».proof.Proof.MixingRows
public import Idealize.ShloMosaic.Lib.Pipeline.Value
public import Idealize.ShloMosaic.Lib.Pipeline.ValueKit

@[expose] public section

set_option maxRecDepth 16384

noncomputable section

namespace Cert.MixingLayer

open Cert.MixingIdeal Cert.MixingIdeal.Gen Idealize.ShloMosaic Idealize.ShloMosaic.TcCoe Idealize.SL.Sem

/-- A piece of an array of two axes, taken whole along the second, read at a place. -/
theorem piece_apply {N W n : ℕ} {e : EltTy} (X : Vec Ideal ⟨2, ![N, W]⟩ e) (o : ℕ)
    (h : ∀ a, (![o, 0] : Fin 2 → ℕ) a + (![n, W] : Fin 2 → ℕ) a ≤ (⟨2, ![N, W]⟩ : Shape).size a) (p : Fin n) (k : Fin W) (r : Fin N) (hr : r.val = o + p.val) :
    View.ld X (Rect.unit ![o, 0] ![n, W] h) (ix2 p k) = X (ix2 r k) :=
  View.ld_unit_apply_of X _ _ _ _ _ fun a => match a with
    | ⟨0, _⟩ => hr
    | ⟨1, _⟩ => (Nat.zero_add _).symm

/-- The block of residual sums, from the blocks the body is given. -/
def hBlock (x0 : Vec Ideal S1024x1024 .f32) (x1 x2 x3 x4 x5 : Vec Ideal S1024x512 .bf16) (x6 x7 x8 : Vec Ideal S1x512 .f32)
    (x9 : Vec Ideal S512x512 .bf16) (x10 : Vec Ideal S1024x1024 .bf16) (r : Fin 1024) (q : Fin 1024) : EReal :=
  x0 (ix2 r q) + mixRow (fun k j => x9 (ix2 k j)) (fun k => x2 (ix2 r k)) (fun k => x3 (ix2 r k)) (fun k => x1 (ix2 r k)) (fun k => x6 (ix2 0 k))
    (fun k => x7 (ix2 0 k)) (fun k => x8 (ix2 0 k)) (fun k => x4 (ix2 r k)) (fun k => x5 (ix2 r k))
    (fun k q => x10 (ix2 ⟨k.val, by omega⟩ q)) (fun k q => x10 (ix2 ⟨512 + k.val, by omega⟩ q)) q

/-- The body's 256 rows of the output projection from row `o` on, as it loads what they need. -/
def pieceMix (x1 x2 x3 x4 x5 : Vec Ideal S1024x512 .bf16) (x6 x7 x8 : Vec Ideal S1x512 .f32)
    (x9 : Vec Ideal S512x512 .bf16) (x10 : Vec Ideal S1024x1024 .bf16) (o : ℕ)
    (h5 : ∀ a, (![o, 0] : Fin 2 → ℕ) a + S256x512.size a ≤ S1024x512.size a) : FVec Ideal S256x1024 .f32 :=
  mixBlock (View.ld x9 (Rect.unit (s := S512x512) ![0, 0] S512x512.size Facts₀.inb_S512x512_S512x512_0_0))
    (View.ld x2 (Rect.unit (s := S1024x512) ![o, 0] S256x512.size h5)) (View.ld x3 (Rect.unit (s := S1024x512) ![o, 0] S256x512.size h5))
    (View.ld x1 (Rect.unit (s := S1024x512) ![o, 0] S256x512.size h5)) (View.ld x6 (Rect.unit (s := S1x512) ![0, 0] S1x512.size Facts₀.inb_S1x512_S1x512_0_0))
    (View.ld x7 (Rect.unit (s := S1x512) ![0, 0] S1x512.size Facts₀.inb_S1x512_S1x512_0_0))
    (View.ld x8 (Rect.unit (s := S1x512) ![0, 0] S1x512.size Facts₀.inb_S1x512_S1x512_0_0))
    (View.ld x4 (Rect.unit (s := S1024x512) ![o, 0] S256x512.size h5)) (View.ld x5 (Rect.unit (s := S1024x512) ![o, 0] S256x512.size h5))
    (View.ld x10 (Rect.unit (s := S1024x1024) ![0, 0] S512x1024.size Facts₀.inb_S1024x1024_S512x1024_0_0))
    (View.ld x10 (Rect.unit (s := S1024x1024) ![512, 0] S512x1024.size Facts₀.inb_S1024x1024_S512x1024_512_0))

/-- Those rows with the residual added. -/
theorem pieceSum_apply (x0 : Vec Ideal S1024x1024 .f32) (x1 x2 x3 x4 x5 : Vec Ideal S1024x512 .bf16) (x6 x7 x8 : Vec Ideal S1x512 .f32)
    (x9 : Vec Ideal S512x512 .bf16) (x10 : Vec Ideal S1024x1024 .bf16) (o : ℕ)
    (h5 : ∀ a, (![o, 0] : Fin 2 → ℕ) a + S256x512.size a ≤ S1024x512.size a)
    (h6 : ∀ a, (![o, 0] : Fin 2 → ℕ) a + S256x1024.size a ≤ S1024x1024.size a) (p : Fin 256) (q : Fin 1024) (r : Fin 1024) (hr : r.val = o + p.val) :
    View.ld x0 (Rect.unit (s := S1024x1024) ![o, 0] S256x1024.size h6) (ix2 p q) + pieceMix x1 x2 x3 x4 x5 x6 x7 x8 x9 x10 o h5 (ix2 p q)
      = hBlock x0 x1 x2 x3 x4 x5 x6 x7 x8 x9 x10 r q := by
  unfold hBlock pieceMix
  rw [mixBlock_apply, piece_apply x0 o h6 p q r hr]
  simp only [piece_apply x1 o h5 p _ r hr, piece_apply x2 o h5 p _ r hr, piece_apply x3 o h5 p _ r hr, piece_apply x4 o h5 p _ r hr, piece_apply x5 o h5 p _ r hr,
    fun k => piece_apply x6 0 Facts₀.inb_S1x512_S1x512_0_0 0 k 0 rfl, fun k => piece_apply x7 0 Facts₀.inb_S1x512_S1x512_0_0 0 k 0 rfl,
    fun k => piece_apply x8 0 Facts₀.inb_S1x512_S1x512_0_0 0 k 0 rfl,
    fun k j => piece_apply x9 0 Facts₀.inb_S512x512_S512x512_0_0 k j k (Nat.zero_add _).symm,
    fun k q => piece_apply x10 0 Facts₀.inb_S1024x1024_S512x1024_0_0 k q ⟨k.val, by omega⟩ (Nat.zero_add _).symm,
    fun k q => piece_apply x10 512 Facts₀.inb_S1024x1024_S512x1024_512_0 k q ⟨512 + k.val, by omega⟩ rfl]

variable (m : (ℓ : Loc nD τ sig) → Buf (Elt Ideal) ℓ)

/-- The residual sums of a grid point's block. -/
def hPoint (c : Dev nD) (t : Fin cfg0.N) (r q : Fin 1024) : EReal :=
  hBlock (iblk m c 0 t) (iblk m c 1 t) (iblk m c 2 t) (iblk m c 3 t) (iblk m c 4 t) (iblk m c 5 t) (iblk m c 6 t) (iblk m c 7 t) (iblk m c 8 t) (iblk m c 9 t) (iblk m c 10 t) r q

/-- The normed residual sums of a grid point's block. -/
def hnPoint (c : Dev nD) (t : Fin cfg0.N) (r q : Fin 1024) : EReal :=
  normedRow (hPoint m c t r) (fun j => (iblk m c 11 t : Vec Ideal S1x1024 .f32) (ix2 0 j)) q

/-- The residual sums, as the array the block holds. -/
def hPoints (c : Dev nD) (t : Fin cfg0.N) : Vec Ideal S1024x1024 .f32 := fun y => hPoint m c t (y 0) (y 1)

/-- The normed residual sums, as the array the block holds. -/
def hnPoints (c : Dev nD) (t : Fin cfg0.N) : Vec Ideal S1024x1024 .f32 := fun y => hnPoint m c t (y 0) (y 1)

/-- One piece of the block of residual sums. -/
theorem hPiece (c : Dev nD) (t : Fin cfg0.N) (o : ℕ) (h5 : ∀ a, (![o, 0] : Fin 2 → ℕ) a + S256x512.size a ≤ S1024x512.size a)
    (h6 : ∀ a, (![o, 0] : Fin 2 → ℕ) a + S256x1024.size a ≤ S1024x1024.size a) (x : S256x1024.Idx) :
    k0_pay39 (pieceMix (iblk m c 1 t) (iblk m c 2 t) (iblk m c 3 t) (iblk m c 4 t) (iblk m c 5 t) (iblk m c 6 t) (iblk m c 7 t) (iblk m c 8 t) (iblk m c 9 t) (iblk m c 10 t) o h5)
        (View.ld (iblk m c 0 t) (Rect.unit (s := S1024x1024) ![o, 0] S256x1024.size h6)) x
      = hPoint m c t ((Rect.unit (s := S1024x1024) ![o, 0] S256x1024.size h6).emb x 0) ((Rect.unit (s := S1024x1024) ![o, 0] S256x1024.size h6).emb x 1) := by
  have ex : x = ix2 (x 0) (x 1) := by funext a; fin_cases a <;> rfl
  have e1 : (Rect.unit (s := S1024x1024) ![o, 0] S256x1024.size h6).emb x 1 = x 1 := Fin.ext (by simp [Rect.emb_apply])
  rw [e1]
  refine (congrArg _ ex).trans ((residual_apply _ _ _ _).trans ?_)
  exact pieceSum_apply _ _ _ _ _ _ _ _ _ _ _ o h5 h6 (x 0) (x 1) _ (by simp [Rect.emb_apply])

/-- One piece of the block of normed residual sums. -/
theorem hnPiece (c : Dev nD) (t : Fin cfg0.N) (o : ℕ) (h5 : ∀ a, (![o, 0] : Fin 2 → ℕ) a + S256x512.size a ≤ S1024x512.size a)
    (h6 : ∀ a, (![o, 0] : Fin 2 → ℕ) a + S256x1024.size a ≤ S1024x1024.size a) (x : S256x1024.Idx) :
    k0_pay40 (pieceMix (iblk m c 1 t) (iblk m c 2 t) (iblk m c 3 t) (iblk m c 4 t) (iblk m c 5 t) (iblk m c 6 t) (iblk m c 7 t) (iblk m c 8 t) (iblk m c 9 t) (iblk m c 10 t) o h5)
        (View.ld (iblk m c 0 t) (Rect.unit (s := S1024x1024) ![o, 0] S256x1024.size h6))
        (View.ld (iblk m c 11 t) (Rect.unit (s := S1x1024) ![0, 0] S1x1024.size Facts₀.inb_S1x1024_S1x1024_0_0)) x
      = hnPoint m c t ((Rect.unit (s := S1024x1024) ![o, 0] S256x1024.size h6).emb x 0) ((Rect.unit (s := S1024x1024) ![o, 0] S256x1024.size h6).emb x 1) := by
  have ex : x = ix2 (x 0) (x 1) := by funext a; fin_cases a <;> rfl
  have e1 : (Rect.unit (s := S1024x1024) ![o, 0] S256x1024.size h6).emb x 1 = x 1 := Fin.ext (by simp [Rect.emb_apply])
  rw [e1]
  refine (congrArg _ ex).trans ((normed_apply _ _ _ _ _).trans ?_)
  unfold hnPoint
  refine congrArg₂ (fun a b => normedRow a b (x 1)) (funext fun q => ?_) (funext fun q => ?_)
  · exact pieceSum_apply _ _ _ _ _ _ _ _ _ _ _ o h5 h6 (x 0) q _ (by simp [Rect.emb_apply])
  · exact piece_apply (iblk m c 11 t) 0 Facts₀.inb_S1x1024_S1x1024_0_0 0 q 0 rfl

/-- What a grid point of the first step leaves in its block of residual sums. -/
theorem hPointA (c : Dev nD) (t : Fin cfg0.N) (h0 : t.val % 32 = 0) (y : S1024x1024.Idx) :
    (outsAt0 m c t.val t.isLt).1 y = hPoints m c t y := by
  rw [outsAt0_A m c t h0]
  dsimp only
  unfold out0_A_15
  rw [View.read_writes_junk_eq_canon]
  refine View.canon_apply_of_pieces (hPoints m c t) _ ?_ y (cover0_A_15 ..)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  simp only [List.forall_mem_cons]
  exact ⟨hPiece m c t 768 Facts₀.inb_S1024x512_S256x512_768_0 Facts₀.inb_S1024x1024_S256x1024_768_0, hPiece m c t 512 Facts₀.inb_S1024x512_S256x512_512_0 Facts₀.inb_S1024x1024_S256x1024_512_0, hPiece m c t 256 Facts₀.inb_S1024x512_S256x512_256_0 Facts₀.inb_S1024x1024_S256x1024_256_0, hPiece m c t 0 Facts₀.inb_S1024x512_S256x512_0_0 Facts₀.inb_S1024x1024_S256x1024_0_0, fun p hp => absurd hp List.not_mem_nil⟩

/-- What a grid point of the first step leaves in its block of normed residual sums. -/
theorem hnPointA (c : Dev nD) (t : Fin cfg0.N) (h0 : t.val % 32 = 0) (y : S1024x1024.Idx) :
    (outsAt0 m c t.val t.isLt).2.1 y = hnPoints m c t y := by
  rw [outsAt0_A m c t h0]
  dsimp only
  unfold out0_A_16
  rw [View.read_writes_junk_eq_canon]
  refine View.canon_apply_of_pieces (hnPoints m c t) _ ?_ y (cover0_A_16 ..)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  simp only [List.forall_mem_cons]
  exact ⟨hnPiece m c t 768 Facts₀.inb_S1024x512_S256x512_768_0 Facts₀.inb_S1024x1024_S256x1024_768_0, hnPiece m c t 512 Facts₀.inb_S1024x512_S256x512_512_0 Facts₀.inb_S1024x1024_S256x1024_512_0, hnPiece m c t 256 Facts₀.inb_S1024x512_S256x512_256_0 Facts₀.inb_S1024x1024_S256x1024_256_0, hnPiece m c t 0 Facts₀.inb_S1024x512_S256x512_0_0 Facts₀.inb_S1024x1024_S256x1024_0_0, fun p hp => absurd hp List.not_mem_nil⟩

/-- What a grid point of a later step leaves in its block of residual sums. -/
theorem hPointB (c : Dev nD) (t : Fin cfg0.N) (h0 : ¬t.val % 32 = 0) (y : S1024x1024.Idx) :
    (outsAt0 m c t.val t.isLt).1 y = hPoints m c t y := by
  rw [outsAt0_B m c t h0]
  dsimp only
  unfold out0_B_15
  rw [View.read_writes_junk_eq_canon]
  refine View.canon_apply_of_pieces (hPoints m c t) _ ?_ y (cover0_B_15 ..)
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  simp only [List.forall_mem_cons]
  exact ⟨hPiece m c t 768 Facts₀.inb_S1024x512_S256x512_768_0 Facts₀.inb_S1024x1024_S256x1024_768_0, hPiece m c t 512 Facts₀.inb_S1024x512_S256x512_512_0 Facts₀.inb_S1024x1024_S256x1024_512_0, hPiece m c t 256 Facts₀.inb_S1024x512_S256x512_256_0 Facts₀.inb_S1024x1024_S256x1024_256_0, hPiece m c t 0 Facts₀.inb_S1024x512_S256x512_0_0 Facts₀.inb_S1024x1024_S256x1024_0_0, fun p hp => absurd hp List.not_mem_nil⟩

/-- What a grid point of a later step leaves in its block of normed residual sums. -/
theorem hnPointB (c : Dev nD) (t : Fin cfg0.N) (h0 : ¬t.val % 32 = 0) (y : S1024x1024.Idx) :
    (outsAt0 m c t.val t.isLt).2.1 y = hnPoints m c t y := by
  rw [outsAt0_B m c t h0]
  dsimp only
  unfold out0_B_16
  rw [View.read_writes_junk_eq_canon]
  refine View.canon_apply_of_pieces (hnPoints m c t) _ ?_ y (cover0_B_16 ..)
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  simp only [List.forall_mem_cons]
  exact ⟨hnPiece m c t 768 Facts₀.inb_S1024x512_S256x512_768_0 Facts₀.inb_S1024x1024_S256x1024_768_0, hnPiece m c t 512 Facts₀.inb_S1024x512_S256x512_512_0 Facts₀.inb_S1024x1024_S256x1024_512_0, hnPiece m c t 256 Facts₀.inb_S1024x512_S256x512_256_0 Facts₀.inb_S1024x1024_S256x1024_256_0, hnPiece m c t 0 Facts₀.inb_S1024x512_S256x512_0_0 Facts₀.inb_S1024x1024_S256x1024_0_0, fun p hp => absurd hp List.not_mem_nil⟩

end Cert.MixingLayer

end
-- ==== Proof.MixingMath.lean ====
/- The kernel's products with the mask of the heads are the means over a head's 64 channels. -/
module

public import proofs.«01_k».proof.Proof.MixingRows
public import Idealize.ShloMosaic.Lib.IdealHost

@[expose] public section

noncomputable section

namespace Cert.MixingLayer

open Idealize.ShloMosaic

/-- The 64 channels of the head that a channel belongs to. -/
def head (j : Fin 512) (d : Fin 64) : Fin 512 := ⟨j.val / 64 * 64 + d.val, by omega⟩

/-- The mean of a row over the head of a channel. -/
def mean (y : Fin 512 → EReal) (j : Fin 512) : EReal := Ideal.div (∑ d, y (head j d)) (Ideal.ofBits FTy.f32 0x42800000#32)

/-- The mean over the head of a channel of the squares of a row. -/
def meanSquare (z : Fin 512 → EReal) (j : Fin 512) : EReal := Ideal.div (∑ d, z (head j d) * z (head j d)) (Ideal.ofBits FTy.f32 0x42800000#32)

/-- The kernel's constant is a sixty-fourth, -/
theorem ofBits_inv64 : Ideal.ofBits FTy.f32 0x3C800000#32 = ((1 / 64 : ℝ) : EReal) := by
  simp [Ideal.ofBits, Ideal.ieee, -EReal.coe_mul]; norm_num

/-- and the reference's is sixty-four. -/
theorem ofBits_64 : Ideal.ofBits FTy.f32 0x42800000#32 = ((64 : ℝ) : EReal) := by
  simp [Ideal.ofBits, Ideal.ieee, -EReal.coe_mul]; norm_num

/-- Dividing by sixty-four is multiplying by a sixty-fourth, whatever the number. -/
theorem div64 (x : EReal) : Ideal.div x (Ideal.ofBits FTy.f32 0x42800000#32) = x * Ideal.ofBits FTy.f32 0x3C800000#32 := by
  rw [ofBits_64, ofBits_inv64]
  unfold Ideal.div
  rw [if_neg (by exact_mod_cast (by norm_num : (64 : ℝ) ≠ 0)), ← EReal.coe_inv, one_div]

/-- A product with the mask's column is the sum over the column's head, where the row holds numbers: the cast leaves
    nothing behind. -/
theorem dotted_mask (y : Fin 512 → EReal) (hy : ∀ k, ∃ r : ℝ, y k = r) (bd : Fin 512 → Fin 512 → EReal)
    (hbd : ∀ k j : Fin 512, bd k j = if k.val / 64 = j.val / 64 then 1 else 0) (j : Fin 512) : dotted y bd j = ∑ d, y (head j d) := by
  have h0 : ∀ k, y k - y k = 0 := fun k => by
    obtain ⟨r, hr⟩ := hy k
    rw [hr, ← EReal.coe_sub, sub_self, EReal.coe_zero]
  unfold dotted
  simp only [h0, zero_mul, Finset.sum_const_zero, add_zero, hbd]
  rw [← Fintype.sum_equiv (finProdFinEquiv (m := 8) (n := 64)) (fun q => y (finProdFinEquiv q) * if q.1.val = j.val / 64 then 1 else 0) _ fun q => by
    have e : (finProdFinEquiv q).val / 64 = q.1.val := by show (q.2.val + 64 * q.1.val) / 64 = q.1.val; omega
    rw [e]]
  rw [Fintype.sum_prod_type, Finset.sum_eq_single (⟨j.val / 64, by omega⟩ : Fin 8)]
  · refine Finset.sum_congr rfl fun d _ => ?_
    rw [if_pos rfl, mul_one]
    exact congrArg y (Fin.ext (by show d.val + 64 * (j.val / 64) = j.val / 64 * 64 + d.val; omega))
  · intro g _ hg
    refine Finset.sum_eq_zero fun d _ => ?_
    rw [if_neg fun h => hg (Fin.ext h), mul_zero]
  · exact fun h => absurd (Finset.mem_univ _) h

/-- The mean over a head of numbers is a number. -/
theorem mean_real (y : Fin 512 → EReal) (hy : ∀ k, ∃ r : ℝ, y k = r) (j : Fin 512) : ∃ r : ℝ, mean y j = r := by
  choose g hg using hy
  unfold mean
  have e : (∑ d, ((g (head j d) : ℝ) : EReal)) = ((∑ d, g (head j d) : ℝ) : EReal) :=
    (map_sum (⟨⟨fun x : ℝ => (x : EReal), rfl⟩, fun _ _ => rfl⟩ : ℝ →+ EReal) (fun d => g (head j d)) Finset.univ).symm
  rw [div64, ofBits_inv64, Finset.sum_congr rfl fun d _ => hg (head j d), e]
  exact ⟨_, (EReal.coe_mul _ _).symm⟩

/-- What the kernel centers is centered at the mean over the head, -/
theorem centered_mask (y : Fin 512 → EReal) (hy : ∀ k, ∃ r : ℝ, y k = r) (bd : Fin 512 → Fin 512 → EReal)
    (hbd : ∀ k j : Fin 512, bd k j = if k.val / 64 = j.val / 64 then 1 else 0) : centered y bd = fun j => y j - mean y j := by
  funext j
  unfold centered mean
  rw [dotted_mask y hy bd hbd, div64]

/-- and what it takes for the variance is the mean over the head of the squares of what it centered. -/
theorem spread_mask (y : Fin 512 → EReal) (hy : ∀ k, ∃ r : ℝ, y k = r) (bd : Fin 512 → Fin 512 → EReal)
    (hbd : ∀ k j : Fin 512, bd k j = if k.val / 64 = j.val / 64 then 1 else 0) :
    spread (centered y bd) bd = meanSquare fun j => y j - mean y j := by
  funext j
  rw [centered_mask y hy bd hbd]
  unfold spread meanSquare
  rw [dotted_mask _ (fun k => ?_) bd hbd, div64]
  obtain ⟨r, hr⟩ := hy k
  obtain ⟨s, hs⟩ := mean_real y hy k
  exact ⟨(r - s) * (r - s), by beta_reduce; rw [hr, hs, ← EReal.coe_sub, ← EReal.coe_mul]⟩

/-- One row of the output projection with means over the heads: what the mixing layer is to compute. -/
def plainRow (yf yb att aw lw lb b g : Fin 512 → EReal) (wa wr : Fin 512 → Fin 1024 → EReal) (q : Fin 1024) : EReal :=
  mixed (normedAtt att aw)
    (gated (fun j => yf j + yb j - mean (fun k => yf k + yb k) j) (meanSquare fun j => yf j + yb j - mean (fun k => yf k + yb k) j) lw lb b g)
    (fun k => wa k q) (fun k => wr k q)

/-- The kernel computes it, where the two directions of the recurrence hold numbers. -/
theorem mixRow_mask (yf yb att aw lw lb b g : Fin 512 → EReal) (wa wr : Fin 512 → Fin 1024 → EReal) (q : Fin 1024)
    (hf : ∀ k, ∃ r : ℝ, yf k = r) (hb : ∀ k, ∃ r : ℝ, yb k = r) (bd : Fin 512 → Fin 512 → EReal)
    (hbd : ∀ k j : Fin 512, bd k j = if k.val / 64 = j.val / 64 then 1 else 0) :
    mixRow bd yf yb att aw lw lb b g wa wr q = plainRow yf yb att aw lw lb b g wa wr q := by
  have hy : ∀ k, ∃ r : ℝ, yf k + yb k = r := fun k => by
    obtain ⟨r, hr⟩ := hf k
    obtain ⟨s, hs⟩ := hb k
    exact ⟨r + s, by rw [hr, hs, ← EReal.coe_add]⟩
  unfold mixRow plainRow
  rw [spread_mask _ hy bd hbd, centered_mask _ hy bd hbd]

end Cert.MixingLayer

end
-- ==== Proof.MixingMask.lean ====
/- The heads of the 512 channels: the constant array that holds the number of each channel's head. -/
module

public import proofs.«01_k».proof.MixingIdeal.P02

@[expose] public section

set_option maxRecDepth 16384

namespace Cert.MixingLayer

open Cert.MixingIdeal

/-- The array holds at each channel the channel's number by 64. -/
theorem head_table : ∀ k : Fin 512, lit0 k = BitVec.ofNat 32 (k.val / 64) := by decide +kernel

/-- Two channels have the same number in the array exactly if they are of one head. -/
theorem head_table_eq (k j : Fin 512) : lit0 k = lit0 j ↔ k.val / 64 = j.val / 64 := by
  rw [head_table, head_table, ← BitVec.toNat_inj, BitVec.toNat_ofNat, BitVec.toNat_ofNat]
  omega

end Cert.MixingLayer
-- ==== Proof.MixingArray.lean ====
/- The two arrays of results the mixing kernel leaves: each entry from the arrays the kernel is given. -/
module

public import proofs.«01_k».proof.Proof.MixingBlock
public import proofs.«01_k».proof.Proof.MixingMath
public import proofs.«01_k».proof.Proof.MixingMask
public import Idealize.ShloMosaic.Lib.Pointwise

@[expose] public section

set_option maxRecDepth 16384

noncomputable section

namespace Cert.MixingLayer

open Cert.MixingIdeal Cert.MixingIdeal.Gen Idealize.ShloMosaic Idealize.ShloMosaic.TcCoe Idealize.SL.Sem

variable (m : (ℓ : Loc nD τ sig) → Buf (Elt Ideal) ℓ)

/-- The row of the whole array that is a row of a grid point's block. -/
def row (t : Fin grid0.N) (p : Fin 1024) : Fin 32768 :=
  ⟨(grid0.coords t 0).val * 1024 + p.val, by have : (grid0.coords t 0).val < 32 := (grid0.coords t 0).isLt; have := p.isLt; omega⟩

/-- The block of the rows of the residual that a grid point is given. -/
theorem index0 : ∀ t : Fin grid0.N, win0_0.index t = ![(grid0.coords t 0).val, 0] := by decide +kernel

/-- The block of the attention rows that a grid point is given. -/
theorem index1 : ∀ t : Fin grid0.N, win0_1.index t = ![(grid0.coords t 0).val, 0] := by decide +kernel

/-- The block of the forward recurrence rows that a grid point is given. -/
theorem index2 : ∀ t : Fin grid0.N, win0_2.index t = ![(grid0.coords t 0).val, 0] := by decide +kernel

/-- The block of the backward recurrence rows that a grid point is given. -/
theorem index3 : ∀ t : Fin grid0.N, win0_3.index t = ![(grid0.coords t 0).val, 0] := by decide +kernel

/-- The block of the bonus rows that a grid point is given. -/
theorem index4 : ∀ t : Fin grid0.N, win0_4.index t = ![(grid0.coords t 0).val, 0] := by decide +kernel

/-- The block of the gate rows that a grid point is given. -/
theorem index5 : ∀ t : Fin grid0.N, win0_5.index t = ![(grid0.coords t 0).val, 0] := by decide +kernel

/-- The block of the attention weights that a grid point is given. -/
theorem index6 : ∀ t : Fin grid0.N, win0_6.index t = ![0, 0] := by decide +kernel

/-- The block of the scales that a grid point is given. -/
theorem index7 : ∀ t : Fin grid0.N, win0_7.index t = ![0, 0] := by decide +kernel

/-- The block of the shifts that a grid point is given. -/
theorem index8 : ∀ t : Fin grid0.N, win0_8.index t = ![0, 0] := by decide +kernel

/-- The block of the mask that a grid point is given. -/
theorem index9 : ∀ t : Fin grid0.N, win0_9.index t = ![0, 0] := by decide +kernel

/-- The block of the output matrix that a grid point is given. -/
theorem index10 : ∀ t : Fin grid0.N, win0_10.index t = ![0, 0] := by decide +kernel

/-- The block of the second weights that a grid point is given. -/
theorem index11 : ∀ t : Fin grid0.N, win0_11.index t = ![0, 0] := by decide +kernel

/-- The block of the first results that a grid point fills. -/
theorem index15 : ∀ t : Fin grid0.N, win0_15.index t = ![(grid0.coords t 0).val, 0] := by decide +kernel

/-- The block of the second results that a grid point fills. -/
theorem index16 : ∀ t : Fin grid0.N, win0_16.index t = ![(grid0.coords t 0).val, 0] := by decide +kernel

/-- The rows of the residual of a grid point's block. -/
theorem read_x (c : Dev nD) (t : Fin cfg0.N) (p : Fin 1024) (k : Fin 1024) :
    (iblk m c 0 t : Vec Ideal S1024x1024 .f32) (ix2 p k) = V m c main_arg0 (ix2 (row t p) k) := by
  blk_ext [iblk, index0 t]
  rfl

/-- The attention rows of a grid point's block. -/
theorem read_att (c : Dev nD) (t : Fin cfg0.N) (p : Fin 1024) (k : Fin 512) :
    (iblk m c 1 t : Vec Ideal S1024x512 .bf16) (ix2 p k) = V m c main_arg1 (ix2 (row t p) k) := by
  blk_ext [iblk, index1 t]
  rfl

/-- The forward recurrence rows of a grid point's block. -/
theorem read_yf (c : Dev nD) (t : Fin cfg0.N) (p : Fin 1024) (k : Fin 512) :
    (iblk m c 2 t : Vec Ideal S1024x512 .bf16) (ix2 p k) = V m c main_arg2 (ix2 (row t p) k) := by
  blk_ext [iblk, index2 t]
  rfl

/-- The backward recurrence rows of a grid point's block. -/
theorem read_yb (c : Dev nD) (t : Fin cfg0.N) (p : Fin 1024) (k : Fin 512) :
    (iblk m c 3 t : Vec Ideal S1024x512 .bf16) (ix2 p k) = V m c main_arg3 (ix2 (row t p) k) := by
  blk_ext [iblk, index3 t]
  rfl

/-- The bonus rows of a grid point's block. -/
theorem read_bonus (c : Dev nD) (t : Fin cfg0.N) (p : Fin 1024) (k : Fin 512) :
    (iblk m c 4 t : Vec Ideal S1024x512 .bf16) (ix2 p k) = V m c main_arg4 (ix2 (row t p) k) := by
  blk_ext [iblk, index4 t]
  rfl

/-- The gate rows of a grid point's block. -/
theorem read_gate (c : Dev nD) (t : Fin cfg0.N) (p : Fin 1024) (k : Fin 512) :
    (iblk m c 5 t : Vec Ideal S1024x512 .bf16) (ix2 p k) = V m c main_arg5 (ix2 (row t p) k) := by
  blk_ext [iblk, index5 t]
  rfl

/-- The attention weights of a grid point's block. -/
theorem read_aw (c : Dev nD) (t : Fin cfg0.N) (k : Fin 512) :
    (iblk m c 6 t : Vec Ideal S1x512 .f32) (ix2 0 k) = V m c main_v22 (ix2 0 k) := by
  blk_ext [iblk, index6 t]

/-- The scales of a grid point's block. -/
theorem read_lw (c : Dev nD) (t : Fin cfg0.N) (k : Fin 512) :
    (iblk m c 7 t : Vec Ideal S1x512 .f32) (ix2 0 k) = V m c main_v23 (ix2 0 k) := by
  blk_ext [iblk, index7 t]

/-- The shifts of a grid point's block. -/
theorem read_lb (c : Dev nD) (t : Fin cfg0.N) (k : Fin 512) :
    (iblk m c 8 t : Vec Ideal S1x512 .f32) (ix2 0 k) = V m c main_v24 (ix2 0 k) := by
  blk_ext [iblk, index8 t]

/-- The mask of a grid point's block. -/
theorem read_bd (c : Dev nD) (t : Fin cfg0.N) (p : Fin 512) (k : Fin 512) :
    (iblk m c 9 t : Vec Ideal S512x512 .bf16) (ix2 p k) = V m c main_v6 (ix2 p k) := by
  blk_ext [iblk, index9 t]

/-- The output matrix of a grid point's block. -/
theorem read_wo (c : Dev nD) (t : Fin cfg0.N) (p : Fin 1024) (k : Fin 1024) :
    (iblk m c 10 t : Vec Ideal S1024x1024 .bf16) (ix2 p k) = V m c main_v25 (ix2 p k) := by
  blk_ext [iblk, index10 t]

/-- The second weights of a grid point's block. -/
theorem read_n2 (c : Dev nD) (t : Fin cfg0.N) (k : Fin 1024) :
    (iblk m c 11 t : Vec Ideal S1x1024 .f32) (ix2 0 k) = V m c main_v26 (ix2 0 k) := by
  blk_ext [iblk, index11 t]

/-- The attention weights the kernel is given are those of its argument. -/
theorem V_aw (c : Dev nD) (k : Fin 512) : V m c main_v22 (ix2 0 k) = m ((c : Thread nD τ).loc main_arg6) (ix1 k) := by
  have e : V m c main_v22 = shapeCast S1x512 (m ((c : Thread nD τ).loc main_arg6)) shapeCasts_S512_S1x512 := by
    unfold V
    simp only [hostOps0]
    after_results_simp
    rfl
  rw [e]
  generalize m ((c : Thread nD τ).loc main_arg6) = z
  pointwise

/-- The scales the kernel is given are those of its argument. -/
theorem V_lw (c : Dev nD) (k : Fin 512) : V m c main_v23 (ix2 0 k) = m ((c : Thread nD τ).loc main_arg7) (ix1 k) := by
  have e : V m c main_v23 = shapeCast S1x512 (m ((c : Thread nD τ).loc main_arg7)) shapeCasts_S512_S1x512 := by
    unfold V
    simp only [hostOps0]
    after_results_simp
    rfl
  rw [e]
  generalize m ((c : Thread nD τ).loc main_arg7) = z
  pointwise

/-- The shifts the kernel is given are those of its argument. -/
theorem V_lb (c : Dev nD) (k : Fin 512) : V m c main_v24 (ix2 0 k) = m ((c : Thread nD τ).loc main_arg8) (ix1 k) := by
  have e : V m c main_v24 = shapeCast S1x512 (m ((c : Thread nD τ).loc main_arg8)) shapeCasts_S512_S1x512 := by
    unfold V
    simp only [hostOps0]
    after_results_simp
    rfl
  rw [e]
  generalize m ((c : Thread nD τ).loc main_arg8) = z
  pointwise

/-- The second weights the kernel is given are those of its argument. -/
theorem V_n2 (c : Dev nD) (k : Fin 1024) : V m c main_v26 (ix2 0 k) = m ((c : Thread nD τ).loc main_arg10) (ix1 k) := by
  have e : V m c main_v26 = shapeCast S1x1024 (m ((c : Thread nD τ).loc main_arg10)) shapeCasts_S1024_S1x1024 := by
    unfold V
    simp only [hostOps0]
    after_results_simp
    rfl
  rw [e]
  generalize m ((c : Thread nD τ).loc main_arg10) = z
  pointwise

/-- The output matrix the kernel is given is its argument's, cast. -/
theorem V_wo (c : Dev nD) (k q : Fin 1024) : V m c main_v25 (ix2 k q) = m ((c : Thread nD τ).loc main_arg9) (ix2 k q) := by
  have e : V m c main_v25 = (truncf .bf16 (m ((c : Thread nD τ).loc main_arg9) : FVec Ideal S1024x1024 .f32) bitsLt_bf16_f32 : FVec Ideal S1024x1024 .bf16) := by
    unfold V
    simp only [hostOps0]
    after_results_simp
  rw [e]
  rfl

/-- The heads of the channels, as the program writes them. -/
def heads : IVec S512 32 := fun i => lit0 (S512.rowMajor i)

/-- The mask as the program makes it: one where the heads of row and column are equal. -/
def mask : FVec Ideal S512x512 .bf16 :=
  truncf .bf16 (uitofp .f32 (cmpi .eq
    (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads))) : FVec Ideal S512x512 .f32) bitsLt_bf16_f32

/-- The head of one channel. -/
theorem heads_entry (k : Fin 512) : heads (ix1 k) = lit0 k :=
  congrArg lit0 (Fin.ext (Shape.rowMajor_val_one _))

/-- The mask, entry by entry, as a number. -/
theorem mask_entry (k j : Fin 512) : (mask (ix2 k j) : EReal) = if k.val / 64 = j.val / 64 then 1 else 0 := by
  have hk := heads_entry k
  have hj := heads_entry j
  unfold mask
  generalize heads = w at hk hj ⊢
  pointwise
  rw [hk, hj]
  have h := head_table_eq k j
  generalize lit0 k = a at h ⊢
  generalize lit0 j = b at h ⊢
  by_cases e : k.val / 64 = j.val / 64
  · rw [if_pos e, h.mpr e]
    show (((IntOp.cmpi .eq b b).toNat : ℝ) : EReal) = 1
    simp [IntOp.cmpi]
  · have e' : a ≠ b := fun q => e (h.mp q)
    rw [if_neg e]
    show (((IntOp.cmpi .eq a b).toNat : ℝ) : EReal) = 0
    simp [IntOp.cmpi, e']

/-- The mask the kernel is given is that one. -/
theorem V_bd (c : Dev nD) : V m c main_v6 = mask := by
  unfold V
  simp only [hostOps0]
  after_results_simp
  rfl

/-- One row of the arrays the layer is given, through the output projection, with the residual added. -/
def sumEntry (x : Vec Ideal S32768x1024 .f32) (att yf yb b g : Vec Ideal S32768x512 .bf16) (aw lw lb : Vec Ideal S512 .f32) (wo : Vec Ideal S1024x1024 .f32)
    (r : Fin 32768) (q : Fin 1024) : EReal :=
  x (ix2 r q) + plainRow (fun k => yf (ix2 r k)) (fun k => yb (ix2 r k)) (fun k => att (ix2 r k)) (fun k => aw (ix1 k)) (fun k => lw (ix1 k)) (fun k => lb (ix1 k))
    (fun k => b (ix2 r k)) (fun k => g (ix2 r k)) (fun k q => wo (ix2 ⟨k.val, by omega⟩ q)) (fun k q => wo (ix2 ⟨512 + k.val, by omega⟩ q)) q

/-- That row, normed. -/
def normEntry (x : Vec Ideal S32768x1024 .f32) (att yf yb b g : Vec Ideal S32768x512 .bf16) (aw lw lb : Vec Ideal S512 .f32) (wo : Vec Ideal S1024x1024 .f32)
    (n2 : Vec Ideal S1024 .f32) (r : Fin 32768) (q : Fin 1024) : EReal :=
  normedRow (sumEntry x att yf yb b g aw lw lb wo r) (fun j => n2 (ix1 j)) q

/-- A grid point's residual sums, where the two directions of the recurrence hold numbers. -/
theorem hPoint_eq (c : Dev nD) (t : Fin cfg0.N) (p q : Fin 1024)
    (hf : ∀ r k, ∃ a : ℝ, (m ((c : Thread nD τ).loc main_arg2) : Vec Ideal S32768x512 .bf16) (ix2 r k) = (a : EReal))
    (hb : ∀ r k, ∃ a : ℝ, (m ((c : Thread nD τ).loc main_arg3) : Vec Ideal S32768x512 .bf16) (ix2 r k) = (a : EReal)) :
    hPoint m c t p q = sumEntry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (row t p) q := by
  unfold hPoint hBlock sumEntry
  have r0 : ∀ k : Fin 1024, (iblk m c 0 t : Vec Ideal S1024x1024 .f32) (ix2 p k) = (m ((c : Thread nD τ).loc main_arg0) : Vec Ideal S32768x1024 .f32) (ix2 (row t p) k) :=
    fun k => (read_x m c t p k).trans (congrFun (V_main_arg0 m c) _)
  have r1 : ∀ k : Fin 512, (iblk m c 1 t : Vec Ideal S1024x512 .bf16) (ix2 p k) = (m ((c : Thread nD τ).loc main_arg1) : Vec Ideal S32768x512 .bf16) (ix2 (row t p) k) :=
    fun k => (read_att m c t p k).trans (congrFun (V_main_arg1 m c) _)
  have r2 : ∀ k : Fin 512, (iblk m c 2 t : Vec Ideal S1024x512 .bf16) (ix2 p k) = (m ((c : Thread nD τ).loc main_arg2) : Vec Ideal S32768x512 .bf16) (ix2 (row t p) k) :=
    fun k => (read_yf m c t p k).trans (congrFun (V_main_arg2 m c) _)
  have r3 : ∀ k : Fin 512, (iblk m c 3 t : Vec Ideal S1024x512 .bf16) (ix2 p k) = (m ((c : Thread nD τ).loc main_arg3) : Vec Ideal S32768x512 .bf16) (ix2 (row t p) k) :=
    fun k => (read_yb m c t p k).trans (congrFun (V_main_arg3 m c) _)
  have r4 : ∀ k : Fin 512, (iblk m c 4 t : Vec Ideal S1024x512 .bf16) (ix2 p k) = (m ((c : Thread nD τ).loc main_arg4) : Vec Ideal S32768x512 .bf16) (ix2 (row t p) k) :=
    fun k => (read_bonus m c t p k).trans (congrFun (V_main_arg4 m c) _)
  have r5 : ∀ k : Fin 512, (iblk m c 5 t : Vec Ideal S1024x512 .bf16) (ix2 p k) = (m ((c : Thread nD τ).loc main_arg5) : Vec Ideal S32768x512 .bf16) (ix2 (row t p) k) :=
    fun k => (read_gate m c t p k).trans (congrFun (V_main_arg5 m c) _)
  have r6 : ∀ k : Fin 512, (iblk m c 6 t : Vec Ideal S1x512 .f32) (ix2 0 k) = (m ((c : Thread nD τ).loc main_arg6) : Vec Ideal S512 .f32) (ix1 k) :=
    fun k => (read_aw m c t k).trans (V_aw m c k)
  have r7 : ∀ k : Fin 512, (iblk m c 7 t : Vec Ideal S1x512 .f32) (ix2 0 k) = (m ((c : Thread nD τ).loc main_arg7) : Vec Ideal S512 .f32) (ix1 k) :=
    fun k => (read_lw m c t k).trans (V_lw m c k)
  have r8 : ∀ k : Fin 512, (iblk m c 8 t : Vec Ideal S1x512 .f32) (ix2 0 k) = (m ((c : Thread nD τ).loc main_arg8) : Vec Ideal S512 .f32) (ix1 k) :=
    fun k => (read_lb m c t k).trans (V_lb m c k)
  have r9 : ∀ k j : Fin 512, (iblk m c 9 t : Vec Ideal S512x512 .bf16) (ix2 k j) = mask (ix2 k j) :=
    fun k j => (read_bd m c t k j).trans (congrFun (V_bd m c) _)
  have r10 : ∀ k q : Fin 1024, (iblk m c 10 t : Vec Ideal S1024x1024 .bf16) (ix2 k q) = (m ((c : Thread nD τ).loc main_arg9) : Vec Ideal S1024x1024 .f32) (ix2 k q) :=
    fun k q => (read_wo m c t k q).trans (V_wo m c k q)
  simp only [r0, r1, r2, r3, r4, r5, r6, r7, r8, r9, r10]
  exact congrArg _ (mixRow_mask _ _ _ _ _ _ _ _ _ _ _ (fun k => hf _ k) (fun k => hb _ k) _ mask_entry)

/-- A grid point's normed residual sums, likewise. -/
theorem hnPoint_eq (c : Dev nD) (t : Fin cfg0.N) (p q : Fin 1024)
    (hf : ∀ r k, ∃ a : ℝ, (m ((c : Thread nD τ).loc main_arg2) : Vec Ideal S32768x512 .bf16) (ix2 r k) = (a : EReal))
    (hb : ∀ r k, ∃ a : ℝ, (m ((c : Thread nD τ).loc main_arg3) : Vec Ideal S32768x512 .bf16) (ix2 r k) = (a : EReal)) :
    hnPoint m c t p q = normEntry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) (row t p) q := by
  unfold hnPoint normEntry
  refine congrArg₂ (fun a b => normedRow a b q) (funext fun q => hPoint_eq m c t p q hf hb) (funext fun j => ?_)
  exact (read_n2 m c t j).trans (V_n2 m c j)

/-- The first array the kernel returns, where the two directions of the recurrence hold numbers. -/
theorem array15_eq (c : Dev nD)
    (hf : ∀ r k, ∃ a : ℝ, (m ((c : Thread nD τ).loc main_arg2) : Vec Ideal S32768x512 .bf16) (ix2 r k) = (a : EReal))
    (hb : ∀ r k, ∃ a : ℝ, (m ((c : Thread nD τ).loc main_arg3) : Vec Ideal S32768x512 .bf16) (ix2 r k) = (a : EReal)) :
    (dats m 0 c).arrAt 15 cfg0.N = (fun y => sumEntry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (y 0) (y 1) : Vec Ideal S32768x1024 .f32) := by
  refine (dats m 0 c).arrAt_eq_of_covers 15 _ (by decide +kernel) fun t hf' y => ?_
  blk_simp
  rw [after0_15]
  have e0 : ((win0_15.blk t).view.emb y 0).val = (grid0.coords t 0).val * 1024 + (y 0).val := by blk_simp [index15 t]
  have e1 : ((win0_15.blk t).view.emb y 1).val = (y 1).val := by blk_simp [index15 t]
  have er : row t (y 0) = (win0_15.blk t).view.emb y 0 := Fin.ext e0.symm
  have eq : (y 1 : Fin 1024) = (win0_15.blk t).view.emb y 1 := Fin.ext e1.symm
  have h : (outsAt0 m c t.val t.isLt).1 y = hPoints m c t y := by
    by_cases h0 : t.val % 32 = 0
    · exact hPointA m c t h0 y
    · exact hPointB m c t h0 y
  refine h.trans ((hPoint_eq m c t (y 0) (y 1) hf hb).trans ?_)
  rw [er, eq]

/-- The second array the kernel returns, where the two directions of the recurrence hold numbers. -/
theorem array16_eq (c : Dev nD)
    (hf : ∀ r k, ∃ a : ℝ, (m ((c : Thread nD τ).loc main_arg2) : Vec Ideal S32768x512 .bf16) (ix2 r k) = (a : EReal))
    (hb : ∀ r k, ∃ a : ℝ, (m ((c : Thread nD τ).loc main_arg3) : Vec Ideal S32768x512 .bf16) (ix2 r k) = (a : EReal)) :
    (dats m 0 c).arrAt 16 cfg0.N = (fun y => normEntry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) (y 0) (y 1) : Vec Ideal S32768x1024 .f32) := by
  refine (dats m 0 c).arrAt_eq_of_covers 16 _ (by decide +kernel) fun t hf' y => ?_
  blk_simp
  rw [after0_16]
  have e0 : ((win0_16.blk t).view.emb y 0).val = (grid0.coords t 0).val * 1024 + (y 0).val := by blk_simp [index16 t]
  have e1 : ((win0_16.blk t).view.emb y 1).val = (y 1).val := by blk_simp [index16 t]
  have er : row t (y 0) = (win0_16.blk t).view.emb y 0 := Fin.ext e0.symm
  have eq : (y 1 : Fin 1024) = (win0_16.blk t).view.emb y 1 := Fin.ext e1.symm
  have h : (outsAt0 m c t.val t.isLt).2.1 y = hnPoints m c t y := by
    by_cases h0 : t.val % 32 = 0
    · exact hnPointA m c t h0 y
    · exact hnPointB m c t h0 y
  refine h.trans ((hnPoint_eq m c t (y 0) (y 1) hf hb).trans ?_)
  rw [er, eq]

end Cert.MixingLayer

end
-- ==== Proof.MixingRef.lean ====
/- The mixing layer's reference, entry by entry, and its agreement with what the kernel leaves. -/
module

public import proofs.«01_k».proof.Proof.Gen.MixingRefIdeal.Read
public import proofs.«01_k».proof.Proof.MixingArray
public import proofs.«01_k».proof.Pre_finite_recurrence
public import proofs.«01_k».proof.Proof.Finite

@[expose] public section

set_option maxRecDepth 16384

noncomputable section

namespace Cert.MixingLayer

open Cert.MixingRefIdeal Cert.MixingRefIdeal.Gen Cert.MixingRefIdeal.Read Idealize.ShloMosaic

variable (x0 : FVec Ideal S32768x1024 .f32) (x1 x2 x3 x4 x5 : FVec Ideal S32768x512 .bf16) (x6 x7 x8 : FVec Ideal S512 .f32)
  (x9 : FVec Ideal S1024x1024 .f32) (x10 : FVec Ideal S1024 .f32)

/-- The reference's normed attention rows. -/
theorem ref_att (r : Fin 32768) (k : Fin 512) :
    val_main_v13 (F := Ideal) x1 x6 (ix2 r k) = normedAtt (fun k => x1 (ix2 r k)) (fun k => x6 (ix1 k)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1 normedAtt
  pointwise

/-- The reference's sum of the two directions, head by head. -/
theorem ref_sum (r : Fin 32768) (h : Fin 8) (d : Fin 64) :
    val_main_v17 (F := Ideal) x2 x3 (ix3 r h d) = x2 (ix2 r ⟨h.val * 64 + d.val, by omega⟩) + x3 (ix2 r ⟨h.val * 64 + d.val, by omega⟩) := by
  unfold val_main_v17
  refine (shapeCast_apply _ shapeCasts_S32768x512_S32768x8x64 (ix3 r h d) (ix2 r ⟨h.val * 64 + d.val, by omega⟩) ?_).trans ?_
  · rewrite [Shape.rowMajor_val_three, Shape.rowMajor_val_two]
    show r.val * 512 + (h.val * 64 + d.val) = (r.val * 8 + h.val) * 64 + d.val
    omega
  · unfold val_main_v16 val_main_v15 val_main_v14
    pointwise

/-- The reference's normed heads, from its sum. -/
theorem ref_head (r : Fin 32768) (h : Fin 8) (d : Fin 64) (y : Fin 64 → EReal) (hy : ∀ d, val_main_v17 (F := Ideal) x2 x3 (ix3 r h d) = y d) :
    val_main_v35 (F := Ideal) x2 x3 (ix3 r h d)
      = (y d - Ideal.div (∑ d, y d) (Ideal.ofBits FTy.f32 0x42800000#32))
        * Ideal.rsqrt (Ideal.div (∑ e, (y e - Ideal.div (∑ d, y d) (Ideal.ofBits FTy.f32 0x42800000#32)) * (y e - Ideal.div (∑ d, y d) (Ideal.ofBits FTy.f32 0x42800000#32)))
          (Ideal.ofBits FTy.f32 0x42800000#32) + Ideal.ofBits FTy.f32 0x3A27C5AC#32) := by
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_cst_2 val_main_cst_3 val_main_cst_4 val_main_cst_5 val_main_cst_6
  generalize val_main_v17 (F := Ideal) x2 x3 = w at hy ⊢
  pointwise
  simp only [hy]

/-- The reference's gated rows. -/
theorem ref_gated (r : Fin 32768) (k : Fin 512) : val_main_v46 (F := Ideal) x2 x3 x4 x5 x7 x8 (ix2 r k)
    = gated (fun j => x2 (ix2 r j) + x3 (ix2 r j) - mean (fun k => x2 (ix2 r k) + x3 (ix2 r k)) j)
        (meanSquare fun j => x2 (ix2 r j) + x3 (ix2 r j) - mean (fun k => x2 (ix2 r k) + x3 (ix2 r k)) j)
        (fun k => x7 (ix1 k)) (fun k => x8 (ix1 k)) (fun k => x4 (ix2 r k)) (fun k => x5 (ix2 r k)) k := by
  have e36 : val_main_v36 (F := Ideal) x2 x3 (ix2 r k) = val_main_v35 (F := Ideal) x2 x3 (ix3 r ⟨k.val / 64, by omega⟩ ⟨k.val % 64, by omega⟩) := by
    unfold val_main_v36
    refine shapeCast_apply _ shapeCasts_S32768x8x64_S32768x512 (ix2 r k) (ix3 r ⟨k.val / 64, by omega⟩ ⟨k.val % 64, by omega⟩) ?_
    rewrite [Shape.rowMajor_val_three, Shape.rowMajor_val_two]
    show (r.val * 8 + k.val / 64) * 64 + k.val % 64 = r.val * 512 + k.val
    omega
  rw [ref_head x2 x3 r _ _ _ fun d => ref_sum x2 x3 r _ d] at e36
  unfold val_main_v46 val_main_v45 val_main_v44 val_main_v43 val_main_v42 val_main_v41 val_main_v40 val_main_v39 val_main_v38 val_main_v37 gated meanSquare mean
  generalize val_main_v36 (F := Ideal) x2 x3 = w at e36 ⊢
  pointwise
  rw [e36]
  have ek : (⟨k.val / 64 * 64 + k.val % 64, by omega⟩ : Fin 512) = k := Fin.ext (by show k.val / 64 * 64 + k.val % 64 = k.val; omega)
  have eh : ∀ e d : Fin 64, head (head k e) d = head k d := fun e d =>
    Fin.ext (by show (k.val / 64 * 64 + e.val) / 64 * 64 + d.val = k.val / 64 * 64 + d.val; omega)
  simp only [ek, eh]
  rfl

/-- The reference's product with the output matrix. -/
theorem ref_product (r : Fin 32768) (q : Fin 1024) : val_main_v48 (F := Ideal) x1 x2 x3 x4 x5 x6 x7 x8 x9 (ix2 r q)
    = plainRow (fun k => x2 (ix2 r k)) (fun k => x3 (ix2 r k)) (fun k => x1 (ix2 r k)) (fun k => x6 (ix1 k)) (fun k => x7 (ix1 k)) (fun k => x8 (ix1 k))
        (fun k => x4 (ix2 r k)) (fun k => x5 (ix2 r k)) (fun k q => x9 (ix2 ⟨k.val, by omega⟩ q)) (fun k q => x9 (ix2 ⟨512 + k.val, by omega⟩ q)) q := by
  have e : val_main_v48 (F := Ideal) x1 x2 x3 x4 x5 x6 x7 x8 x9 (ix2 r q)
      = ∑ k : Fin 1024, val_main_v47 (F := Ideal) x1 x2 x3 x4 x5 x6 x7 x8 (ix2 r k) * x9 (ix2 k q) := by
    unfold val_main_v48
    generalize val_main_v47 (F := Ideal) x1 x2 x3 x4 x5 x6 x7 x8 = y
    pointwise [dot_S32768x1024_S1024x1024_S32768x1024_1_0_0_1_n_n]
  have hl : ∀ k : Fin 512, val_main_v47 (F := Ideal) x1 x2 x3 x4 x5 x6 x7 x8 (ix2 r ⟨k.val, by omega⟩) = val_main_v13 (F := Ideal) x1 x6 (ix2 r k) := fun k => by
    unfold val_main_v47
    generalize val_main_v13 (F := Ideal) x1 x6 = a
    generalize val_main_v46 (F := Ideal) x2 x3 x4 x5 x7 x8 = b
    refine concatenate_pair_apply_left (t := S32768x1024) 1 a b concatenates_S32768x512_S32768x512_S32768x1024_d1 _ rfl (ix2 r k) fun b => ?_
    match b with
    | 0 => rfl
    | 1 => rfl
  have hr : ∀ k : Fin 512, val_main_v47 (F := Ideal) x1 x2 x3 x4 x5 x6 x7 x8 (ix2 r ⟨512 + k.val, by omega⟩) = val_main_v46 (F := Ideal) x2 x3 x4 x5 x7 x8 (ix2 r k) := fun k => by
    unfold val_main_v47
    generalize val_main_v13 (F := Ideal) x1 x6 = a
    generalize val_main_v46 (F := Ideal) x2 x3 x4 x5 x7 x8 = b
    refine concatenate_pair_apply_right (t := S32768x1024) 1 a b concatenates_S32768x512_S32768x512_S32768x1024_d1 _ rfl rfl (ix2 r k) (fun b hb => ?_) ?_
    · match b with
      | 0 => rfl
      | 1 => exact absurd rfl hb
    · show k.val + 512 = 512 + k.val
      omega
  rw [e]
  refine (Fin.sum_univ_add (a := 512) (b := 512) _).trans ?_
  unfold plainRow mixed
  refine congrArg₂ (· + ·) (Finset.sum_congr rfl fun k _ => ?_) (Finset.sum_congr rfl fun k _ => ?_)
  · exact congrArg₂ (· * ·) ((hl k).trans (ref_att x1 x6 r k)) rfl
  · exact congrArg₂ (· * ·) ((hr k).trans (ref_gated x2 x3 x4 x5 x7 x8 r k)) rfl

/-- The reference's first result. -/
theorem ref_first (r : Fin 32768) (q : Fin 1024) :
    val_main_v49 (F := Ideal) x0 x1 x2 x3 x4 x5 x6 x7 x8 x9 (ix2 r q) = sumEntry x0 x1 x2 x3 x4 x5 x6 x7 x8 x9 r q := by
  unfold val_main_v49 sumEntry
  rw [← ref_product]
  rfl

/-- The reference's second result. -/
theorem ref_second (r : Fin 32768) (q : Fin 1024) :
    val_main_v62 (F := Ideal) x0 x1 x2 x3 x4 x5 x6 x7 x8 x9 x10 (ix2 r q) = normEntry x0 x1 x2 x3 x4 x5 x6 x7 x8 x9 x10 r q := by
  have h := ref_first x0 x1 x2 x3 x4 x5 x6 x7 x8 x9 r
  unfold val_main_v62 val_main_v61 val_main_v60 val_main_v59 val_main_v58 val_main_v57 val_main_v56 val_main_v55 val_main_v54 val_main_v53 val_main_v52 val_main_v51 val_main_v50 val_main_cst_7 val_main_cst_8 val_main_cst_9 normEntry normedRow
  generalize val_main_v49 (F := Ideal) x0 x1 x2 x3 x4 x5 x6 x7 x8 x9 = w at h ⊢
  pointwise
  simp only [h]

section Arrays

variable (m : (ℓ : Loc Cert.MixingIdeal.nD Cert.MixingIdeal.τ Cert.MixingIdeal.sig) → Buf (Elt Ideal) ℓ)

/-- The kernel's first array is the reference's first result, where the two directions hold numbers. -/
theorem first_eq (c : Dev Cert.MixingIdeal.nD)
    (hf : ∀ r k, ∃ a : ℝ, (m ((c.tc : Thread Cert.MixingIdeal.nD Cert.MixingIdeal.τ).loc Cert.MixingIdeal.main_arg2) : FVec Ideal S32768x512 .bf16) (ix2 r k) = (a : EReal))
    (hb : ∀ r k, ∃ a : ℝ, (m ((c.tc : Thread Cert.MixingIdeal.nD Cert.MixingIdeal.τ).loc Cert.MixingIdeal.main_arg3) : FVec Ideal S32768x512 .bf16) (ix2 r k) = (a : EReal)) :
    (Cert.MixingIdeal.Gen.dats m 0 c).arrAt 15 Cert.MixingIdeal.cfg0.N = val_main_v49 (F := Ideal) (m ((c.tc : Thread Cert.MixingIdeal.nD Cert.MixingIdeal.τ).loc Cert.MixingIdeal.main_arg0)) (m ((c.tc : Thread Cert.MixingIdeal.nD Cert.MixingIdeal.τ).loc Cert.MixingIdeal.main_arg1))
      (m ((c.tc : Thread Cert.MixingIdeal.nD Cert.MixingIdeal.τ).loc Cert.MixingIdeal.main_arg2)) (m ((c.tc : Thread Cert.MixingIdeal.nD Cert.MixingIdeal.τ).loc Cert.MixingIdeal.main_arg3))
      (m ((c.tc : Thread Cert.MixingIdeal.nD Cert.MixingIdeal.τ).loc Cert.MixingIdeal.main_arg4)) (m ((c.tc : Thread Cert.MixingIdeal.nD Cert.MixingIdeal.τ).loc Cert.MixingIdeal.main_arg5))
      (m ((c.tc : Thread Cert.MixingIdeal.nD Cert.MixingIdeal.τ).loc Cert.MixingIdeal.main_arg6)) (m ((c.tc : Thread Cert.MixingIdeal.nD Cert.MixingIdeal.τ).loc Cert.MixingIdeal.main_arg7))
      (m ((c.tc : Thread Cert.MixingIdeal.nD Cert.MixingIdeal.τ).loc Cert.MixingIdeal.main_arg8)) (m ((c.tc : Thread Cert.MixingIdeal.nD Cert.MixingIdeal.τ).loc Cert.MixingIdeal.main_arg9)) := by
  refine (array15_eq m c hf hb).trans (funext fun y => ?_)
  have ey : (y : S32768x1024.Idx) = ix2 (y 0) (y 1) := by funext a; fin_cases a <;> rfl
  exact ((congrArg _ ey).trans (ref_first _ _ _ _ _ _ _ _ _ _ (y 0) (y 1))).symm

/-- The kernel's second array is the reference's second result, where the two directions hold numbers. -/
theorem second_eq (c : Dev Cert.MixingIdeal.nD)
    (hf : ∀ r k, ∃ a : ℝ, (m ((c.tc : Thread Cert.MixingIdeal.nD Cert.MixingIdeal.τ).loc Cert.MixingIdeal.main_arg2) : FVec Ideal S32768x512 .bf16) (ix2 r k) = (a : EReal))
    (hb : ∀ r k, ∃ a : ℝ, (m ((c.tc : Thread Cert.MixingIdeal.nD Cert.MixingIdeal.τ).loc Cert.MixingIdeal.main_arg3) : FVec Ideal S32768x512 .bf16) (ix2 r k) = (a : EReal)) :
    (Cert.MixingIdeal.Gen.dats m 0 c).arrAt 16 Cert.MixingIdeal.cfg0.N = val_main_v62 (F := Ideal) (m ((c.tc : Thread Cert.MixingIdeal.nD Cert.MixingIdeal.τ).loc Cert.MixingIdeal.main_arg0)) (m ((c.tc : Thread Cert.MixingIdeal.nD Cert.MixingIdeal.τ).loc Cert.MixingIdeal.main_arg1))
      (m ((c.tc : Thread Cert.MixingIdeal.nD Cert.MixingIdeal.τ).loc Cert.MixingIdeal.main_arg2)) (m ((c.tc : Thread Cert.MixingIdeal.nD Cert.MixingIdeal.τ).loc Cert.MixingIdeal.main_arg3))
      (m ((c.tc : Thread Cert.MixingIdeal.nD Cert.MixingIdeal.τ).loc Cert.MixingIdeal.main_arg4)) (m ((c.tc : Thread Cert.MixingIdeal.nD Cert.MixingIdeal.τ).loc Cert.MixingIdeal.main_arg5))
      (m ((c.tc : Thread Cert.MixingIdeal.nD Cert.MixingIdeal.τ).loc Cert.MixingIdeal.main_arg6)) (m ((c.tc : Thread Cert.MixingIdeal.nD Cert.MixingIdeal.τ).loc Cert.MixingIdeal.main_arg7))
      (m ((c.tc : Thread Cert.MixingIdeal.nD Cert.MixingIdeal.τ).loc Cert.MixingIdeal.main_arg8)) (m ((c.tc : Thread Cert.MixingIdeal.nD Cert.MixingIdeal.τ).loc Cert.MixingIdeal.main_arg9))
      (m ((c.tc : Thread Cert.MixingIdeal.nD Cert.MixingIdeal.τ).loc Cert.MixingIdeal.main_arg10)) := by
  refine (array16_eq m c hf hb).trans (funext fun y => ?_)
  have ey : (y : S32768x1024.Idx) = ix2 (y 0) (y 1) := by funext a; fin_cases a <;> rfl
  exact ((congrArg _ ey).trans (ref_second _ _ _ _ _ _ _ _ _ _ _ (y 0) (y 1))).symm

end Arrays

instance : Subsingleton Cert.Pre_finite_recurrence.S_.Idx := ⟨fun a b => funext fun k => k.elim0⟩

section Finite

variable (x11 : FVec Ideal Cert.Pre_finite_recurrence.S1024x32 .f32) (x12 : FVec Ideal Cert.Pre_finite_recurrence.S32 .f32) [Cert.Pre_finite_recurrence.Facts]

/-- Under the precondition every entry of the forward direction is a number. -/
theorem finite_fwd (h : Cert.Pre_finite_recurrence.fn (F := Ideal) x0 x1 x2 x3 x4 x5 x6 x7 x8 x9 x10 x11 x12 = fun _ => 1#1) (r : Fin 32768) (k : Fin 512) :
    ∃ a : ℝ, x2 (ix2 r k) = (a : EReal) := by
  have e := congrFun h (fun k => k.elim0)
  dsimp only [Cert.Pre_finite_recurrence.fn] at e
  exact Cert.NeighbourAttention.real_of_below _ (Host.reduce_andi_all _ _ _ _ _ (IntOp.andi_eq_one.mp e).1 (ix2 r k))

/-- Under the precondition every entry of the backward direction is a number. -/
theorem finite_bwd (h : Cert.Pre_finite_recurrence.fn (F := Ideal) x0 x1 x2 x3 x4 x5 x6 x7 x8 x9 x10 x11 x12 = fun _ => 1#1) (r : Fin 32768) (k : Fin 512) :
    ∃ a : ℝ, x3 (ix2 r k) = (a : EReal) := by
  have e := congrFun h (fun k => k.elim0)
  dsimp only [Cert.Pre_finite_recurrence.fn] at e
  exact Cert.NeighbourAttention.real_of_below _ (Host.reduce_andi_all _ _ _ _ _ (IntOp.andi_eq_one.mp e).2 (ix2 r k))

end Finite

end Cert.MixingLayer

end
-- ==== Proof.lean ====
module

public import proofs.«01_k».proof.Defs
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.AttentionIdeal.Value
public import proofs.«01_k».proof.Proof.Gen.AttentionRefIdeal.Run
public import proofs.«01_k».proof.Proof.Gen.AttentionRefIdeal.Read
public import proofs.«01_k».proof.Proof.Gen.Pre_finite_scores
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectionRefIdeal
public import proofs.«01_k».proof.Proof.Gen.ProjectionRefIdeal.Run
public import proofs.«01_k».proof.Proof.Gen.ProjectionRefIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_expert_tables
public import proofs.«01_k».proof.Proof.Gen.Mixing
public import proofs.«01_k».proof.Proof.Gen.Mixing.Skeleton
public import proofs.«01_k».proof.Proof.Gen.Mixing.Launch
public import proofs.«01_k».proof.Proof.Gen.Mixing.Points
public import proofs.«01_k».proof.Proof.Gen.Mixing.Frame
public import proofs.«01_k».proof.Proof.Gen.MixingIdeal
public import proofs.«01_k».proof.Proof.Gen.MixingIdeal.Skeleton
public import proofs.«01_k».proof.Proof.Gen.MixingIdeal.Launch
public import proofs.«01_k».proof.Proof.Gen.MixingIdeal.Points
public import proofs.«01_k».proof.Proof.Gen.MixingIdeal.Frame
public import proofs.«01_k».proof.Proof.Gen.MixingIdeal.Value
public import proofs.«01_k».proof.Proof.Gen.MixingRefIdeal
public import proofs.«01_k».proof.Proof.Gen.MixingRefIdeal.Run
public import proofs.«01_k».proof.Proof.Gen.MixingRefIdeal.Read
public import proofs.«01_k».proof.Proof.Gen.Pre_finite_recurrence
public import proofs.«01_k».proof.Proof.Gen.Preparation
public import proofs.«01_k».proof.Proof.Gen.Preparation.Skeleton
public import proofs.«01_k».proof.Proof.Gen.Preparation.Launch
public import proofs.«01_k».proof.Proof.Gen.Preparation.Points
public import proofs.«01_k».proof.Proof.Gen.Preparation.Frame
public import proofs.«01_k».proof.Proof.Gen.PreparationIdeal
public import proofs.«01_k».proof.Proof.Gen.PreparationIdeal.Skeleton
public import proofs.«01_k».proof.Proof.Gen.PreparationIdeal.Launch
public import proofs.«01_k».proof.Proof.Gen.PreparationIdeal.Points
public import proofs.«01_k».proof.Proof.Gen.PreparationIdeal.Frame
public import proofs.«01_k».proof.Proof.Gen.PreparationIdeal.Value
public import proofs.«01_k».proof.Proof.Gen.PreparationRefIdeal
public import proofs.«01_k».proof.Proof.Gen.PreparationRefIdeal.Run
public import proofs.«01_k».proof.Proof.Gen.PreparationRefIdeal.Read
public import proofs.«01_k».proof.Proof.PrepArray
public import proofs.«01_k».proof.Proof.Equation
public import proofs.«01_k».proof.Proof.Finite
public import proofs.«01_k».proof.Proof.ProjectRef
public import proofs.«01_k».proof.Proof.ExpertsTables
public import proofs.«01_k».proof.Proof.ExpertsRef
public import proofs.«01_k».proof.Proof.MixingRef
public import Idealize.ShloMosaic.Adequacy
public import Idealize.ShloMosaic.Init

@[expose] public section

noncomputable section

namespace Cert.Proof

open Idealize.ShloMosaic Idealize.SL.Sem Cert.Attention

/-- The kernel's and the reference's ideal programs give the same attention, where queries, keys and biases are finite. -/
theorem attention_value :
    Cert.algebraic_AttentionIdeal_AttentionRefIdeal_pre_finite_scores (hAttentionIdeal := Cert.AttentionIdeal.Gen.facts)
      (hAttentionRefIdeal := Cert.AttentionRefIdeal.Gen.facts) (hPre_finite_scores := Cert.Pre_finite_scores.Gen.facts) := by
  intro m g m' g' hpre hargs
  have hv : ∀ c, (Cert.AttentionIdeal.Gen.dats m 0 c).arrAt 4 Cert.AttentionIdeal.cfg0.N
      = Cert.AttentionRefIdeal.Read.val_main_v106 (m' ((c.tc : Thread Cert.AttentionRefIdeal.nD Cert.AttentionRefIdeal.τ).loc Cert.AttentionRefIdeal.main_arg0))
          (m' ((c.tc : Thread Cert.AttentionRefIdeal.nD Cert.AttentionRefIdeal.τ).loc Cert.AttentionRefIdeal.main_arg1)) := fun c => by
    rw [(hargs c).1, (hargs c).2, Cert.NeighbourAttention.array_eq, Cert.AttentionIdeal.Gen.V_main_arg0, Cert.NeighbourAttention.V_table]
    exact Cert.NeighbourAttention.outArray_eq _ _ (Cert.NeighbourAttention.finite_qk _ _ (hpre c)) (Cert.NeighbourAttention.finite_bias _ _ (hpre c))
  refine ⟨_, Cert.AttentionIdeal.Value.run_blocks m g, ?_⟩
  refine (θ_run Cert.AttentionRefIdeal.defs _ _).mono (fun r h c => ⟨?_, (h c).2⟩) (Cert.AttentionRefIdeal.Value.run (F := Ideal) m' g')
  exact (h c).1.trans ((Cert.AttentionRefIdeal.Read.val_main_v106_eq m' c).trans (hv c).symm)

/-- The reference leaves its arguments unchanged; it has no counter. -/
theorem attention_reference_frame : Cert.quiescent_AttentionRefIdeal (hAttentionRefIdeal := Cert.AttentionRefIdeal.Gen.facts) := fun m ρ _ =>
  (θ_run Cert.AttentionRefIdeal.defs _ _).mono (fun r h => ⟨fun c => (h c).2, sem_eq_zero_of_no_sems (by decide) r.2⟩)
    (Cert.AttentionRefIdeal.Value.run (F := Ideal) m ρ)

/-- The kernel's and the reference's ideal programs give the same projections, whatever the arguments. -/
theorem projection_value :
    Cert.algebraic_ProjectionIdeal_ProjectionRefIdeal (hProjectionIdeal := Cert.ProjectionIdeal.Gen.facts)
      (hProjectionRefIdeal := Cert.ProjectionRefIdeal.Gen.facts) := by
  intro m g m' g' _ hargs
  refine ⟨_, _, Cert.ProjectionIdeal.Value.run_blocks m g, ?_⟩
  refine (θ_run Cert.ProjectionRefIdeal.defs _ _).mono (fun r h c => ⟨?_, ?_, (h c).2.2⟩) (Cert.ProjectionRefIdeal.Value.run (F := Ideal) m' g')
  · refine (h c).1.trans ((Cert.ProjectionRefIdeal.Read.val_main_v18_eq _ _ _).trans ?_)
    rw [(hargs c).1, (hargs c).2.1, (hargs c).2.2]
    exact (Cert.InputProjection.first_eq m c).symm
  · refine (h c).2.1.trans ((Cert.ProjectionRefIdeal.Read.val_main_v20_eq _ _ _).trans ?_)
    rw [(hargs c).1, (hargs c).2.1, (hargs c).2.2]
    exact (Cert.InputProjection.second_eq m c).symm

/-- The projection's reference leaves its arguments unchanged; it has no counter. -/
theorem projection_reference_frame : Cert.quiescent_ProjectionRefIdeal (hProjectionRefIdeal := Cert.ProjectionRefIdeal.Gen.facts) := fun m ρ _ =>
  (θ_run Cert.ProjectionRefIdeal.defs _ _).mono (fun r h => ⟨fun c => (h c).2.2, sem_eq_zero_of_no_sems (by decide) r.2⟩)
    (Cert.ProjectionRefIdeal.Value.run (F := Ideal) m ρ)

/-- The experts kernel leaves its arguments unchanged where the tables are in range. -/
theorem experts_frame : Cert.quiescent_Experts (hExperts := Cert.Experts.Gen.facts) (hPre_expert_tables := Cert.Pre_expert_tables.Gen.facts) := fun m g h =>
  have hok : Cert.ExpertTables.Ok (Cert.Experts.Hand.tables m 0) (Cert.Experts.Hand.tables m 1) := Cert.ExpertTables.ok_of_pre _ _ _ _ _ _ _ (h 0)
  Cert.Experts.Hand.frame (Cert.Experts.Hand.adm m hok) m g (Cert.Experts.Hand.tables_of m)

/-- So does its ideal program. -/
theorem experts_ideal_frame : Cert.quiescent_ExpertsIdeal (hExpertsIdeal := Cert.ExpertsIdeal.Gen.facts)
    (hPre_expert_tables := Cert.Pre_expert_tables.Gen.facts) := fun m g h =>
  have hok : Cert.ExpertTables.Ok (Cert.ExpertsIdeal.Hand.tables m 0) (Cert.ExpertsIdeal.Hand.tables m 1) := Cert.ExpertTables.ok_of_pre _ _ _ _ _ _ _ (h 0)
  Cert.ExpertsIdeal.Hand.frame (Cert.ExpertsIdeal.Hand.adm m hok) m g (Cert.ExpertsIdeal.Hand.tables_of m)

/-- The experts' reference leaves its arguments unchanged; it has no counter. -/
theorem experts_reference_frame : Cert.quiescent_ExpertsRefIdeal (hExpertsRefIdeal := Cert.ExpertsRefIdeal.Gen.facts) := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

open Cert.ExpertsIdeal.Hand in
/-- The kernel's and the reference's ideal programs give the same expert results, where the tables are in range. -/
theorem experts_value :
    Cert.algebraic_ExpertsIdeal_ExpertsRefIdeal (hExpertsIdeal := Cert.ExpertsIdeal.Gen.facts) (hExpertsRefIdeal := Cert.ExpertsRefIdeal.Gen.facts)
      (hPre_expert_tables := Cert.Pre_expert_tables.Gen.facts) := by
  intro m g m' g' hpre hargs
  have hok : Cert.ExpertTables.Ok (tables m 0) (tables m 1) := Cert.ExpertTables.ok_of_pre _ _ _ _ _ _ _ (hpre 0)
  refine ⟨fun c => (dats (adm m hok) m 0 c).arrAt (5 : Fin 6) (cfgA (adm m hok)).N,
    (θ_run Cert.ExpertsIdeal.defs _ _).mono (fun r h c => ⟨(h.1 c).1 (5 : Fin 6),
      ((h.1 c).1 (0 : Fin 6)).trans ((dats (adm m hok) m 0 c).arrAt_in (0 : Fin 6) rfl _),
      (h.1 c).2 Cert.ExpertsIdeal.main_arg1 experts_rest, (h.1 c).2 Cert.ExpertsIdeal.main_arg2 count_rest,
      ((h.1 c).1 (1 : Fin 6)).trans ((dats (adm m hok) m 0 c).arrAt_in (1 : Fin 6) rfl _),
      ((h.1 c).1 (2 : Fin 6)).trans ((dats (adm m hok) m 0 c).arrAt_in (2 : Fin 6) rfl _),
      ((h.1 c).1 (3 : Fin 6)).trans ((dats (adm m hok) m 0 c).arrAt_in (3 : Fin 6) rfl _),
      ((h.1 c).1 (4 : Fin 6)).trans ((dats (adm m hok) m 0 c).arrAt_in (4 : Fin 6) rfl _)⟩) (run_main (adm m hok) m g (tables_of m)), ?_⟩
  refine (θ_run Cert.ExpertsRefIdeal.defs _ _).mono (fun r h c => ⟨?_, (h c).2⟩) (Cert.ExpertsRefIdeal.Value.run (F := Ideal) m' g')
  refine (h c).1.trans ((Cert.ExpertsRefIdeal.Read.val_main_v62_eq m' c).trans ?_)
  obtain ⟨e0, e1, e2, e3, e4, e5, e6⟩ := hargs c
  rw [e0, e1, e2, e3, e4, e5, e6]
  exact (Cert.ExpertLayer.array_is_result m hok c).symm

/-- The mixing's reference leaves its arguments unchanged; it has no counter. -/
theorem mixing_reference_frame : Cert.quiescent_MixingRefIdeal (hMixingRefIdeal := Cert.MixingRefIdeal.Gen.facts) := fun m ρ _ =>
  (θ_run Cert.MixingRefIdeal.defs _ _).mono (fun r h => ⟨fun c => (h c).2.2, sem_eq_zero_of_no_sems (by decide) r.2⟩)
    (Cert.MixingRefIdeal.Value.run (F := Ideal) m ρ)

/-- The kernel's and the reference's ideal programs give the same mixed rows, where the two directions of the recurrence are finite. -/
theorem mixing_value :
    Cert.algebraic_MixingIdeal_MixingRefIdeal_pre_finite_recurrence (hMixingIdeal := Cert.MixingIdeal.Gen.facts)
      (hMixingRefIdeal := Cert.MixingRefIdeal.Gen.facts) (hPre_finite_recurrence := Cert.Pre_finite_recurrence.Gen.facts) := by
  intro m g m' g' hpre hargs
  refine ⟨_, _, (θ_run Cert.MixingIdeal.defs _ _).mono (fun r h c => ⟨(h c).1, (h c).2.1, (h c).2.2.2.2.2.2⟩) (Cert.MixingIdeal.Value.run_blocks m g), ?_⟩
  refine (θ_run Cert.MixingRefIdeal.defs _ _).mono (fun r h c => ⟨?_, ?_, (h c).2.2⟩) (Cert.MixingRefIdeal.Value.run (F := Ideal) m' g')
  · refine (h c).1.trans ((Cert.MixingRefIdeal.Read.val_main_v49_eq m' c).trans ?_)
    obtain ⟨e0, e1, e2, e3, e4, e5, e6, e7, e8, e9, e10, e11, e12⟩ := hargs c
    rw [e0, e1, e2, e3, e4, e5, e6, e7, e8, e9]
    exact (Cert.MixingLayer.first_eq m c (Cert.MixingLayer.finite_fwd _ _ _ _ _ _ _ _ _ _ _ _ _ (hpre c)) (Cert.MixingLayer.finite_bwd _ _ _ _ _ _ _ _ _ _ _ _ _ (hpre c))).symm
  · refine (h c).2.1.trans ((Cert.MixingRefIdeal.Read.val_main_v62_eq m' c).trans ?_)
    obtain ⟨e0, e1, e2, e3, e4, e5, e6, e7, e8, e9, e10, e11, e12⟩ := hargs c
    rw [e0, e1, e2, e3, e4, e5, e6, e7, e8, e9, e10]
    exact (Cert.MixingLayer.second_eq m c (Cert.MixingLayer.finite_fwd _ _ _ _ _ _ _ _ _ _ _ _ _ (hpre c)) (Cert.MixingLayer.finite_bwd _ _ _ _ _ _ _ _ _ _ _ _ _ (hpre c))).symm

/-- The preparation's reference leaves its arguments unchanged; it has no counter. -/
theorem preparation_reference_frame : Cert.quiescent_PreparationRefIdeal (hPreparationRefIdeal := Cert.PreparationRefIdeal.Gen.facts) := fun m ρ _ =>
  (θ_run Cert.PreparationRefIdeal.defs _ _).mono (fun r h => ⟨fun c => (h c).2.2, sem_eq_zero_of_no_sems (by decide) r.2⟩)
    (Cert.PreparationRefIdeal.Value.run (F := Ideal) m ρ)

/-- The kernel's and the reference's ideal programs give the same values and gates of the recurrence. -/
theorem preparation_value :
    Cert.algebraic_PreparationIdeal_PreparationRefIdeal (hPreparationIdeal := Cert.PreparationIdeal.Gen.facts)
      (hPreparationRefIdeal := Cert.PreparationRefIdeal.Gen.facts) := by
  intro m g m' g' _ hargs
  refine ⟨_, _, (θ_run Cert.PreparationIdeal.defs _ _).mono (fun r h c => ⟨(h c).2.2.2.2.2.1, (h c).2.2.2.2.2.2.2.1, (h c).2.2.2.2.2.2.2.2⟩)
    (Cert.PreparationIdeal.Value.run_blocks m g), ?_⟩
  refine (θ_run Cert.PreparationRefIdeal.defs _ _).mono (fun r h c => ⟨?_, ?_, (h c).2.2⟩) (Cert.PreparationRefIdeal.Value.run (F := Ideal) m' g')
  · refine (h c).1.trans ((Cert.PreparationRefIdeal.Read.val_main_v17_eq _ _ _).trans ?_)
    obtain ⟨e0, e1, e2, e3, e4, e5, e6, e7, e8, e9, e10⟩ := hargs c
    rw [e0, e1, e2]
    exact (Cert.TokenShift.first_eq m c).symm
  · refine (h c).2.1.trans ((Cert.PreparationRefIdeal.Read.val_main_v25_eq _ _ _ _).trans ?_)
    obtain ⟨e0, e1, e2, e3, e4, e5, e6, e7, e8, e9, e10⟩ := hargs c
    rw [e0, e1, e2, e7]
    exact (Cert.TokenShift.second_eq m c).symm

/-- Every claim of the certificate. -/
theorem claim : Cert.Claim := ⟨Cert.Attention.Gen.facts, Cert.AttentionIdeal.Gen.facts, Cert.AttentionRefIdeal.Gen.facts,
  Cert.Projection.Gen.facts, Cert.ProjectionIdeal.Gen.facts, Cert.ProjectionRefIdeal.Gen.facts,
  Cert.Experts.Gen.facts, Cert.ExpertsIdeal.Gen.facts, Cert.ExpertsRefIdeal.Gen.facts,
  Cert.Mixing.Gen.facts, Cert.MixingIdeal.Gen.facts, Cert.MixingRefIdeal.Gen.facts,
  Cert.Preparation.Gen.facts, Cert.PreparationIdeal.Gen.facts, Cert.PreparationRefIdeal.Gen.facts,
  Cert.Pre_finite_scores.Gen.facts, Cert.Pre_expert_tables.Gen.facts, Cert.Pre_finite_recurrence.Gen.facts,
  fun m ρ _ => Cert.Attention.Gen.frame m ρ, fun m ρ _ => Cert.AttentionIdeal.Gen.frame m ρ, fun m ρ _ => Cert.AttentionIdeal.Gen.frame m ρ,
  attention_reference_frame, fun m ρ _ => attention_reference_frame m ρ trivial,
  fun m ρ _ => Cert.Projection.Gen.frame m ρ, fun m ρ _ => Cert.ProjectionIdeal.Gen.frame m ρ, projection_reference_frame,
  experts_frame, experts_ideal_frame, experts_reference_frame, fun m ρ _ => experts_reference_frame m ρ trivial,
  fun m ρ _ => Cert.Mixing.Gen.frame m ρ, fun m ρ _ => Cert.MixingIdeal.Gen.frame m ρ, fun m ρ _ => Cert.MixingIdeal.Gen.frame m ρ,
  mixing_reference_frame, fun m ρ _ => mixing_reference_frame m ρ trivial,
  fun m ρ _ => Cert.Preparation.Gen.frame m ρ, fun m ρ _ => Cert.PreparationIdeal.Gen.frame m ρ, preparation_reference_frame,
  trivial, attention_value, trivial, projection_value, trivial, experts_value, trivial, mixing_value, trivial, preparation_value⟩

end Cert.Proof

end
